-- ==== Defs.lean ====
def Pre_Kernel [hPre_slots_distinct : Cert.Pre_slots_distinct.Facts] (m : (ℓ : Loc Cert.Kernel.nD Cert.Kernel.τ Cert.Kernel.sig) → Buf (Elt Bits) ℓ) : Prop :=
  ∀ c : Dev Cert.Kernel.nD,
    (Cert.Pre_slots_distinct.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_slots_distinct : Cert.Pre_slots_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_slots_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_distinct [hPre_slots_distinct : Cert.Pre_slots_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_slots_distinct : Cert.Pre_slots_distinct.Facts] (m : (ℓ : Loc Cert.Reference.nD Cert.Reference.τ Cert.Reference.sig) → Buf (Elt Bits) ℓ) : Prop :=
  ∀ c : Dev Cert.Reference.nD,
    (Cert.Pre_slots_distinct.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_blocks_used : Cert.Pre_blocks_used.Facts] (m : (ℓ : Loc Cert.Kernel2.nD Cert.Kernel2.τ Cert.Kernel2.sig) → Buf (Elt Bits) ℓ) : Prop :=
  ∀ c : Dev Cert.Kernel2.nD,
    (Cert.Pre_blocks_used.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_blocks_used : Cert.Pre_blocks_used.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_blocks_used [hPre_blocks_used : Cert.Pre_blocks_used.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks_used.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_slots_distinct : Cert.Pre_slots_distinct.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_slots_distinct [hReferenceIdeal : Cert.ReferenceIdeal.Facts] [hPre_slots_distinct : Cert.Pre_slots_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_slots_distinct : Cert.Pre_slots_distinct.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_blocks_used : Cert.Pre_blocks_used.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_blocks_used : Cert.Pre_blocks_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_blocks_used [hReference2Ideal : Cert.Reference2Ideal.Facts] [hPre_blocks_used : Cert.Pre_blocks_used.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_blocks_used m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def bitexact_Kernel_Reference [hKernel : Cert.Kernel.Facts] [hReference : Cert.Reference.Facts] [hPre_slots_distinct : Cert.Pre_slots_distinct.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v21) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_slots_distinct : Cert.Pre_slots_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_blocks_used : Cert.Pre_blocks_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v90) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_slots_distinct : Cert.Pre_slots_distinct.Facts) (hPre_blocks_used : Cert.Pre_blocks_used.Facts),
    quiescent_Kernel (hKernel := hKernel) (hPre_slots_distinct := hPre_slots_distinct)
    ∧ quiescent_KernelIdeal (hKernelIdeal := hKernelIdeal) (hPre_slots_distinct := hPre_slots_distinct)
    ∧ quiescent_ReferenceIdeal (hReferenceIdeal := hReferenceIdeal)
    ∧ quiescent_ReferenceIdeal_pre_slots_distinct (hReferenceIdeal := hReferenceIdeal) (hPre_slots_distinct := hPre_slots_distinct)
    ∧ quiescent_Reference (hReference := hReference) (hPre_slots_distinct := hPre_slots_distinct)
    ∧ quiescent_Kernel2 (hKernel2 := hKernel2) (hPre_blocks_used := hPre_blocks_used)
    ∧ quiescent_Kernel2Ideal (hKernel2Ideal := hKernel2Ideal) (hPre_blocks_used := hPre_blocks_used)
    ∧ quiescent_Reference2Ideal (hReference2Ideal := hReference2Ideal)
    ∧ quiescent_Reference2Ideal_pre_blocks_used (hReference2Ideal := hReference2Ideal) (hPre_blocks_used := hPre_blocks_used)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ bitexact_Kernel_Reference (hKernel := hKernel) (hReference := hReference) (hPre_slots_distinct := hPre_slots_distinct)
    ∧ algebraic_KernelIdeal_ReferenceIdeal (hKernelIdeal := hKernelIdeal) (hReferenceIdeal := hReferenceIdeal) (hPre_slots_distinct := hPre_slots_distinct)
    ∧ preserves_Kernel2_Kernel2Ideal
    ∧ algebraic_Kernel2Ideal_Reference2Ideal (hKernel2Ideal := hKernel2Ideal) (hReference2Ideal := hReference2Ideal) (hPre_blocks_used := hPre_blocks_used)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_blocks_used.lean ====
abbrev S671744x128 : Shape := ⟨2, ![671744, 128]⟩
abbrev S32 : Shape := ⟨1, ![32]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S1 : Shape := ⟨1, ![1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  shapeCasts_S1_S_ : S1.ShapeCasts S_
  shapeCasts_S_S1 : S_.ShapeCasts S1
  bcast_S_S1 : S_.BroadcastsInDim S1 (![] : Fin 0 → Fin S1.rank)

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_where_2 {F : FTy → Type} [FloatOps F] (arg0 : IVec S_ 1) (arg1 : IVec S_ 32) (arg2 : IVec S_ 32) : IVec S_ 32 :=
  let v0 : IVec S_ 32 := select arg0 arg1 arg2
  v0

def fn_floor_divide_1 {F : FTy → Type} [FloatOps F] (arg0 : IVec S_ 32) (arg1 : IVec S_ 32) : IVec S_ 32 :=
  let v0 : IVec S_ 32 := id arg1
  let v1 : IVec S_ 32 := Host.divsi arg0 v0
  let v2 : IVec S_ 32 := signi arg0
  let v3 : IVec S_ 32 := signi v0
  let v4 : IVec S_ 1 := cmpi .ne v2 v3
  let v5 : IVec S_ 32 := Host.remsi arg0 v0
  let c : IVec S_ 32 := constantI S_ 32 0#32
  let v6 : IVec S_ 1 := cmpi .ne v5 c
  let v7 : IVec S_ 1 := andi v4 v6
  let c_0 : IVec S_ 32 := constantI S_ 32 1#32
  let v8 : IVec S_ 32 := subi v1 c_0
  let v9 : IVec S_ 32 := fn_where_2 (F := F) v7 v8 v1
  v9

def fn {F : FTy → Type} [FloatOps F] (main_arg0 : FVec F S671744x128 .f32) (main_arg1 : IVec S32 32) (main_arg2 : FVec F S4x32x1024x2048 .f32) (main_arg3 : FVec F S4x32x2048 .f32) (main_arg4 : FVec F S4x32x1024x1024 .f32) (main_arg5 : FVec F S4x32x1024 .f32) : IVec S1 1 :=
  let main_c : IVec S_ 32 := constantI S_ 32 512#32
  let main_v0 : IVec S32 32 := broadcastInDim S32 ![] bcast_S_S32 main_c
  let main_v1 : IVec S32 32 := addi main_arg1 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := fn_floor_divide (F := F) main_v3 main_c_1
  let main_c_2 : IVec S_ 32 := constantI S_ 32 512#32
  let main_v5 : IVec S32 32 := broadcastInDim S32 ![] bcast_S_S32 main_c_2
  let main_v6 : IVec S32 32 := muli main_v4 main_v5
  let main_v7 : IVec S32 32 := fn_cumsum (F := F) main_v6
  let main_v8 : IVec S1 32 := (extractStridedSlice S1 ![31] · slices_S32_S1_31) main_v7
  let main_v9 : IVec S_ 32 := shapeCast S_ main_v8 shapeCasts_S1_S_
  let main_c_3 : IVec S_ 32 := constantI S_ 32 512#32
  let main_v10 : IVec S_ 32 := fn_floor_divide_1 (F := F) main_v9 main_c_3
  let main_v11 : IVec S1 32 := shapeCast S1 main_v10 shapeCasts_S_S1
  let main_c_4 : IVec S_ 32 := constantI S_ 32 1#32
  let main_v12 : IVec S1 32 := broadcastInDim S1 ![] bcast_S_S1 main_c_4
  let main_v13 : IVec S1 1 := cmpi .sge main_v11 main_v12
  main_v13
-- ==== Pre_slots_distinct.lean ====
abbrev S131072x128 : Shape := ⟨2, ![131072, 128]⟩
abbrev S65536 : Shape := ⟨1, ![65536]⟩
abbrev S_ : Shape := ⟨0, ![]⟩
abbrev S83968 : Shape := ⟨1, ![83968]⟩
abbrev S65536x1 : Shape := ⟨2, ![65536, 1]⟩

class Facts : Prop where
  bcast_S_S65536 : S_.BroadcastsInDim S65536 (![] : Fin 0 → Fin S65536.rank)
  bcast_S_S83968 : S_.BroadcastsInDim S83968 (![] : Fin 0 → Fin S83968.rank)
  bcast_S65536_S65536x1_0 : S65536.BroadcastsInDim S65536x1 (![0] : Fin 1 → Fin S65536x1.rank)
  scatter_S83968_S65536x1_S65536_n_0_0_1_wf : ScatterDims.WF S83968 S65536x1 S65536 [] [0] [0] 1
  gather_S83968_S65536x1_S65536_n_0_n_n_0_1_1_wf : GatherDims.WF S83968 S65536x1 S65536 [] [0] [] [0] [] 1 ![1]

variable [Facts]

def scatter_S83968_S65536x1_S65536_n_0_0_1 : ScatterDims S83968 S65536x1 S65536 where
  updateWindowDims := []
  insertedWindowDims := [0]
  scatterDimsToOperandDims := [0]
  indexVectorDim := 1
  wf := scatter_S83968_S65536x1_S65536_n_0_0_1_wf
def gather_S83968_S65536x1_S65536_n_0_n_n_0_1_1 : GatherDims S83968 S65536x1 S65536 where
  offsetDims := []
  collapsedSliceDims := [0]
  operandBatchingDims := []
  startIndicesBatchingDims := []
  startIndexMap := [0]
  indexVectorDim := 1
  sliceSizes := ![1]
  wf := gather_S83968_S65536x1_S65536_n_0_n_n_0_1_1_wf
def fn_part1 {F : FTy → Type} [FloatOps F] (main_arg1 : IVec S65536 32) (main_v4 : IVec S65536 1) (main_v5 : IVec S65536 32) (main_v13 : IVec S83968 32) (main_v15 : IVec S65536 1) (main_v16 : IVec S65536 32) : IVec S65536 1 :=
  let main_v17 : IVec S65536 32 := addi main_arg1 main_v16
  let main_v18 : IVec S65536 32 := select main_v15 main_v17 main_arg1
  let main_v19 : IVec S65536x1 32 := broadcastInDim S65536x1 ![0] bcast_S65536_S65536x1_0 main_v18
  let main_v20 : IVec S65536 32 := (fun x i => Host.gather gather_S83968_S65536x1_S65536_n_0_n_n_0_1_1 x i) main_v13 main_v19
  let main_v21 : IVec S65536 1 := cmpi .eq main_v20 main_v5
  let main_v22 : IVec S65536 1 := andi main_v4 main_v21
  main_v22

def fn {F : FTy → Type} [FloatOps F] (main_arg0 : FVec F S131072x128 .f32) (main_arg1 : IVec S65536 32) : IVec S65536 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 83968#32
  let main_v2 : IVec S65536 32 := broadcastInDim S65536 ![] bcast_S_S65536 main_c_0
  let main_v3 : IVec S65536 1 := cmpi .slt main_arg1 main_v2
  let main_v4 : IVec S65536 1 := andi main_v1 main_v3
  let main_v5 : IVec S65536 32 := iotaInDim S65536 32 0
  let main_c_1 : IVec S_ 32 := constantI S_ 32 0#32
  let main_v6 : IVec S83968 32 := broadcastInDim S83968 ![] bcast_S_S83968 main_c_1
  let main_c_2 : IVec S_ 32 := constantI S_ 32 0#32
  let main_v7 : IVec S65536 32 := broadcastInDim S65536 ![] bcast_S_S65536 main_c_2
  let main_v8 : IVec S65536 1 := cmpi .slt main_arg1 main_v7
  let main_c_3 : IVec S_ 32 := constantI S_ 32 83968#32
  let main_v9 : IVec S65536 32 := broadcastInDim S65536 ![] bcast_S_S65536 main_c_3
  let main_v10 : IVec S65536 32 := addi main_arg1 main_v9
  let main_v11 : IVec S65536 32 := select main_v8 main_v10 main_arg1
  let main_v12 : IVec S65536x1 32 := broadcastInDim S65536x1 ![0] bcast_S65536_S65536x1_0 main_v11
  let main_v13 : IVec S83968 32 := (fun x i u => Host.scatter scatter_S83968_S65536x1_S65536_n_0_0_1 (fun _ b => b) x i u) main_v6 main_v12 main_v5
  let main_c_4 : IVec S_ 32 := constantI S_ 32 0#32
  let main_v14 : IVec S65536 32 := broadcastInDim S65536 ![] bcast_S_S65536 main_c_4
  let main_v15 : IVec S65536 1 := cmpi .slt main_arg1 main_v14
  let main_c_5 : IVec S_ 32 := constantI S_ 32 83968#32
  let main_v16 : IVec S65536 32 := broadcastInDim S65536 ![] bcast_S_S65536 main_c_5
  fn_part1 (F := F) main_arg1 main_v4 main_v5 main_v13 main_v15 main_v16
-- ==== Kernel.lean ====
abbrev S131072x128 : Shape := ⟨2, ![131072, 128]⟩
abbrev S65536 : Shape := ⟨1, ![65536]⟩
abbrev S_ : Shape := ⟨0, ![]⟩
abbrev S671744x128 : Shape := ⟨2, ![671744, 128]⟩
abbrev S2048 : Shape := ⟨1, ![2048]⟩
abbrev S4096x128 : Shape := ⟨2, ![4096, 128]⟩
abbrev S1 : Shape := ⟨1, ![1]⟩
abbrev S8x128 : Shape := ⟨2, ![8, 128]⟩

abbrev nBuf : Space → Nat
  | .hbm => 7
  | .vmem => 2
  | .smem => 2
  | _ => 0

abbrev bufTy : (tb : Table) → Fin (tcTables nBuf tb) → BufTy
  | .hbm, ⟨0, _⟩ => ⟨S131072x128, .f32⟩
  | .hbm, ⟨1, _⟩ => ⟨S65536, .i32⟩
  | .hbm, ⟨2, _⟩ => ⟨S_, .i32⟩
  | .hbm, ⟨3, _⟩ => ⟨S65536, .i32⟩
  | .hbm, ⟨4, _⟩ => ⟨S65536, .i32⟩
  | .hbm, ⟨5, _⟩ => ⟨S_, .f32⟩
  | .hbm, ⟨6, _⟩ => ⟨S671744x128, .f32⟩
  | .local _ .vmem, ⟨0, _⟩ => ⟨S4096x128, .f32⟩
  | .local _ .vmem, ⟨1, _⟩ => ⟨S4096x128, .f32⟩
  | .local _ .smem, ⟨0, _⟩ => ⟨S2048, .i32⟩
  | .local _ .smem, ⟨1, _⟩ => ⟨S2048, .i32⟩
  | _, _ => ⟨S131072x128, .f32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c512_i32 : BitVec 32 := 512#32
  let v0 : BitVec 32 := Scalar.addi c0_i32 c512_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32 : BitVec 32 := 4#32
  let v3 : BitVec 32 := Scalar.muli arg6 c4_i32
  let c0_i32_4 : BitVec 32 := 0#32
  let v4 : BitVec 32 := Scalar.addi v3 c0_i32_4
  let v5 : Index := Scalar.indexCast v4
  ![v5.toNat]
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  v2
def k0_mult2 (v6 : BitVec 32) : BitVec 32 :=
  v6

def k0_off2 (v6 : BitVec 32) : Fin 2 → Nat :=
  let v8 : BitVec 32 := v6
  let c0_i32_5 : BitVec 32 := 0#32
  ![v8.toNat, 0]

def k0_chk1 (v6 : BitVec 32) : Prop :=
  (8 ∣ (k0_mult2 v6).toNat) ∧
  (∀ a, (k0_off2 v6) a + S8x128.size a ≤ S671744x128.size a)
theorem k0_mult2_dvd : ∀ (v6 : BitVec 32) (k0_hw1 : k0_chk1 v6), 8 ∣ (k0_mult2 v6).toNat := fun v6 k0_hw1 => k0_hw1.1
theorem k0_off2_inb : ∀ (v6 : BitVec 32) (k0_hw1 : k0_chk1 v6), ∀ a, (k0_off2 v6) a + S8x128.size a ≤ S671744x128.size a := fun v6 k0_hw1 => k0_hw1.2

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32 : BitVec 32 := 8#32
  let v2 : BitVec 32 := Scalar.muli arg6 c8_i32
  let v7 : BitVec 32 := v2
  let c0_i32_6 : BitVec 32 := 0#32
  ![v7.toNat, 0]
def k0_off4 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32_8 : BitVec 32 := 4#32
  let v12 : BitVec 32 := Scalar.muli arg6 c4_i32_8
  let c1_i32_9 : BitVec 32 := 1#32
  let v13 : BitVec 32 := Scalar.addi v12 c1_i32_9
  let v14 : Index := Scalar.indexCast v13
  ![v14.toNat]
def k0_mult3 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_7 : BitVec 32 := 8#32
  let v11 : BitVec 32 := Scalar.muli arg6 c8_i32_7
  v11
def k0_mult4 (v15 : BitVec 32) : BitVec 32 :=
  v15

def k0_off5 (v15 : BitVec 32) : Fin 2 → Nat :=
  let v17 : BitVec 32 := v15
  let c0_i32_10 : BitVec 32 := 0#32
  ![v17.toNat, 0]

def k0_chk2 (v15 : BitVec 32) : Prop :=
  (8 ∣ (k0_mult4 v15).toNat) ∧
  (∀ a, (k0_off5 v15) a + S8x128.size a ≤ S671744x128.size a)
theorem k0_mult4_dvd : ∀ (v15 : BitVec 32) (k0_hw2 : k0_chk2 v15), 8 ∣ (k0_mult4 v15).toNat := fun v15 k0_hw2 => k0_hw2.1
theorem k0_off5_inb : ∀ (v15 : BitVec 32) (k0_hw2 : k0_chk2 v15), ∀ a, (k0_off5 v15) a + S8x128.size a ≤ S671744x128.size a := fun v15 k0_hw2 => k0_hw2.2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_7 : BitVec 32 := 8#32
  let v11 : BitVec 32 := Scalar.muli arg6 c8_i32_7
  let v16 : BitVec 32 := v11
  let c0_i32_11 : BitVec 32 := 0#32
  ![v16.toNat, 0]
def k0_off7 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32_13 : BitVec 32 := 4#32
  let v21 : BitVec 32 := Scalar.muli arg6 c4_i32_13
  let c2_i32 : BitVec 32 := 2#32
  let v22 : BitVec 32 := Scalar.addi v21 c2_i32
  let v23 : Index := Scalar.indexCast v22
  ![v23.toNat]
def k0_mult5 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_12 : BitVec 32 := 8#32
  let v20 : BitVec 32 := Scalar.muli arg6 c8_i32_12
  v20
def k0_mult6 (v24 : BitVec 32) : BitVec 32 :=
  v24

def k0_off8 (v24 : BitVec 32) : Fin 2 → Nat :=
  let v26 : BitVec 32 := v24
  let c0_i32_14 : BitVec 32 := 0#32
  ![v26.toNat, 0]

def k0_chk3 (v24 : BitVec 32) : Prop :=
  (8 ∣ (k0_mult6 v24).toNat) ∧
  (∀ a, (k0_off8 v24) a + S8x128.size a ≤ S671744x128.size a)
theorem k0_mult6_dvd : ∀ (v24 : BitVec 32) (k0_hw3 : k0_chk3 v24), 8 ∣ (k0_mult6 v24).toNat := fun v24 k0_hw3 => k0_hw3.1
theorem k0_off8_inb : ∀ (v24 : BitVec 32) (k0_hw3 : k0_chk3 v24), ∀ a, (k0_off8 v24) a + S8x128.size a ≤ S671744x128.size a := fun v24 k0_hw3 => k0_hw3.2

def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_12 : BitVec 32 := 8#32
  let v20 : BitVec 32 := Scalar.muli arg6 c8_i32_12
  let v25 : BitVec 32 := v20
  let c0_i32_15 : BitVec 32 := 0#32
  ![v25.toNat, 0]
def k0_off10 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32_17 : BitVec 32 := 4#32
  let v30 : BitVec 32 := Scalar.muli arg6 c4_i32_17
  let c3_i32 : BitVec 32 := 3#32
  let v31 : BitVec 32 := Scalar.addi v30 c3_i32
  let v32 : Index := Scalar.indexCast v31
  ![v32.toNat]
def k0_mult7 (k0_t1 : Fin k0_t1_loop.trips) : BitVec 32 :=
  let c0_i32 : BitVec 32 := 0#32
  let c1_i32 : BitVec 32 := 1#32
  let arg6 : BitVec 32 := Scf.iv c0_i32 c1_i32 k0_t1
  let c8_i32_16 : BitVec 32 := 8#32
  let v29 : BitVec 32 := Scalar.muli arg6 c8_i32_16
  v29
def k0_mult8 (v33 : BitVec 32) : BitVec 32 :=
  v33

def k0_off11 (v33 : BitVec 32) : Fin 2 → Nat :=
  let v35 : BitVec 32 := v33
  let c0_i32_18 : BitVec 32 := 0#32
  ![v35.toNat, 0]

def k0_chk4 (v33 : BitVec 32) : Prop :=
  (8 ∣ (k0_mult8 v33).toNat) ∧
  (∀ a, (k0_off11 v33) a + S8x128.size a ≤ S671744x128.size a)
theorem k0_mult8_dvd : ∀ (v33 : BitVec 32) (k0_hw4 : k0_chk4 v33), 8 ∣ (k0_mult8 v33).toNat := fun v33 k0_hw4 => k0_hw4.1
theorem k0_off11_inb : ∀ (v33 : BitVec 32) (k0_hw4 : k0_chk4 v33), ∀ a, (k0_off11 v33) a + S8x128.size a ≤ S671744x128.size a := fun v33 k0_hw4 => k0_hw4.2

def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c8_i32_16 : BitVec 32 := 8#32
  let v29 : BitVec 32 := Scalar.muli arg6 c8_i32_16
  let v34 : BitVec 32 := v29
  let c0_i32_19 : BitVec 32 := 0#32
  ![v34.toNat, 0]
@[reducible] def k0_t2_loop : Scf.Loop 32 :=
  let c0_i32_1 : BitVec 32 := 0#32
  let c512_i32_2 : BitVec 32 := 512#32
  let v1 : BitVec 32 := Scalar.addi c0_i32_1 c512_i32_2
  let c1_i32_3 : BitVec 32 := 1#32
  ⟨c0_i32_1, v1, c1_i32_3⟩
def k0_mult9 : BitVec 32 :=
  let c0_i32_4 : BitVec 32 := 0#32
  c0_i32_4
def k0_mult10 : BitVec 32 :=
  let c0_i32_5 : BitVec 32 := 0#32
  c0_i32_5
def k0_mult11 : BitVec 32 :=
  let c0_i32_8 : BitVec 32 := 0#32
  c0_i32_8
def k0_mult12 : BitVec 32 :=
  let c0_i32_9 : BitVec 32 := 0#32
  c0_i32_9
def k0_mult13 : BitVec 32 :=
  let c0_i32_12 : BitVec 32 := 0#32
  c0_i32_12
def k0_mult14 : BitVec 32 :=
  let c0_i32_13 : BitVec 32 := 0#32
  c0_i32_13
def k0_mult15 : BitVec 32 :=
  let c0_i32_16 : BitVec 32 := 0#32
  c0_i32_16
def k0_mult16 : BitVec 32 :=
  let c0_i32_17 : BitVec 32 := 0#32
  c0_i32_17
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S131072x128 : Shape := ⟨2, ![131072, 128]⟩
abbrev S65536 : Shape := ⟨1, ![65536]⟩
abbrev S16384x1024 : Shape := ⟨2, ![16384, 1024]⟩
abbrev S16384 : Shape := ⟨1, ![16384]⟩
abbrev S16384x4 : Shape := ⟨2, ![16384, 4]⟩
abbrev S_ : Shape := ⟨0, ![]⟩
abbrev S83968 : Shape := ⟨1, ![83968]⟩
abbrev S65536x1 : Shape := ⟨2, ![65536, 1]⟩
abbrev S1x1024 : Shape := ⟨2, ![1, 1024]⟩
abbrev S16385x1024 : Shape := ⟨2, ![16385, 1024]⟩
abbrev S83968x1 : Shape := ⟨2, ![83968, 1]⟩
abbrev S83968x1024 : Shape := ⟨2, ![83968, 1024]⟩
abbrev S671744x128 : Shape := ⟨2, ![671744, 128]⟩

abbrev nBuf : Space → Nat
  | .hbm => 30
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S65536, .i32⟩
  | .hbm, ⟨2, _⟩ => ⟨S16384x1024, .f32⟩
  | .hbm, ⟨3, _⟩ => ⟨S16384, .i32⟩
  | .hbm, ⟨4, _⟩ => ⟨S16384x4, .i32⟩
  | .hbm, ⟨5, _⟩ => ⟨S65536, .i32⟩
  | .hbm, ⟨6, _⟩ => ⟨S_, .i32⟩
  | .hbm, ⟨7, _⟩ => ⟨S83968, .i32⟩
  | .hbm, ⟨8, _⟩ => ⟨S_, .i32⟩
  | .hbm, ⟨9, _⟩ => ⟨S65536, .i32⟩
  | .hbm, ⟨10, _⟩ => ⟨S65536, .i1⟩
  | .hbm, ⟨11, _⟩ => ⟨S_, .i32⟩
  | .hbm, ⟨12, _⟩ => ⟨S65536, .i32⟩
  | .hbm, ⟨13, _⟩ => ⟨S65536, .i32⟩
  | .hbm, ⟨14, _⟩ => ⟨S65536, .i32⟩
  | .hbm, ⟨15, _⟩ => ⟨S65536x1, .i32⟩
  | .hbm, ⟨16, _⟩ => ⟨S83968, .i32⟩
  | .hbm, ⟨17, _⟩ => ⟨S_, .f32⟩
  | .hbm, ⟨18, _⟩ => ⟨S1x1024, .f32⟩
  | .hbm, ⟨19, _⟩ => ⟨S16385x1024, .f32⟩
  | .hbm, ⟨20, _⟩ => ⟨S_, .i32⟩
  | .hbm, ⟨21, _⟩ => ⟨S83968, .i32⟩
  | .hbm, ⟨22, _⟩ => ⟨S83968, .i1⟩
  | .hbm, ⟨23, _⟩ => ⟨S_, .i32⟩
  | .hbm, ⟨24, _⟩ => ⟨S83968, .i32⟩
  | .hbm, ⟨25, _⟩ => ⟨S83968, .i32⟩
  | .hbm, ⟨26, _⟩ => ⟨S83968, .i32⟩
  | .hbm, ⟨27, _⟩ => ⟨S83968x1, .i32⟩
  | .hbm, ⟨28, _⟩ => ⟨S83968x1024, .f32⟩
  | .hbm, ⟨29, _⟩ => ⟨S671744x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel2.lean ====
abbrev S671744x128 : Shape := ⟨2, ![671744, 128]⟩
abbrev S32 : Shape := ⟨1, ![32]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S1 : Shape := ⟨1, ![1]⟩
abbrev S164 : Shape := ⟨1, ![164]⟩
abbrev S1x32 : Shape := ⟨2, ![1, 32]⟩
abbrev S164x1 : Shape := ⟨2, ![164, 1]⟩
abbrev S164x32 : Shape := ⟨2, ![164, 32]⟩
abbrev S4x32x1x2048 : Shape := ⟨4, ![4, 32, 1, 2048]⟩
abbrev S4x32x1x1024 : Shape := ⟨4, ![4, 32, 1, 1024]⟩
abbrev S4096x128 : Shape := ⟨2, ![4096, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S512x128 : Shape := ⟨2, ![512, 128]⟩
abbrev S512x1024 : Shape := ⟨2, ![512, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 72
  | .vmem => 14
  | .smem => 2
  | _ => 0

abbrev bufTy : (tb : Table) → Fin (tcTables nBuf tb) → BufTy
  | .hbm, ⟨0, _⟩ => ⟨S671744x128, .f32⟩
  | .hbm, ⟨1, _⟩ => ⟨S32, .i32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S1, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i1⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S164, .i32⟩
  | .hbm, ⟨52, _⟩ => ⟨S_, .i32⟩
  | .hbm, ⟨53, _⟩ => ⟨S_, .i32⟩
  | .hbm, ⟨54, _⟩ => ⟨S164, .i32⟩
  | .hbm, ⟨55, _⟩ => ⟨S164, .i32⟩
  | .hbm, ⟨56, _⟩ => ⟨S_, .i32⟩
  | .hbm, ⟨57, _⟩ => ⟨S164, .i32⟩
  | .hbm, ⟨58, _⟩ => ⟨S164, .i32⟩
  | .hbm, ⟨59, _⟩ => ⟨S1x32, .i32⟩
  | .hbm, ⟨60, _⟩ => ⟨S164x1, .i32⟩
  | .hbm, ⟨61, _⟩ => ⟨S164x32, .i32⟩
  | .hbm, ⟨62, _⟩ => ⟨S164x32, .i32⟩
  | .hbm, ⟨63, _⟩ => ⟨S164x32, .i1⟩
  | .hbm, ⟨64, _⟩ => ⟨S164x32, .i32⟩
  | .hbm, ⟨65, _⟩ => ⟨S_, .i32⟩
  | .hbm, ⟨66, _⟩ => ⟨S164, .i32⟩
  | .hbm, ⟨67, _⟩ => ⟨S_, .i32⟩
  | .hbm, ⟨68, _⟩ => ⟨S164, .i32⟩
  | .hbm, ⟨69, _⟩ => ⟨S4x32x1x2048, .f32⟩
  | .hbm, ⟨70, _⟩ => ⟨S4x32x1x1024, .f32⟩
  | .hbm, ⟨71, _⟩ => ⟨S671744x128, .f32⟩
  | .local _ .vmem, ⟨0, _⟩ => ⟨S4096x128, .f32⟩
  | .local _ .vmem, ⟨1, _⟩ => ⟨S4096x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S4096x128, .f32⟩
  | .local _ .vmem, ⟨11, _⟩ => ⟨S4096x128, .f32⟩
  | .local _ .vmem, ⟨12, _⟩ => ⟨S1024x2048, .bf16⟩
  | .local _ .vmem, ⟨13, _⟩ => ⟨S1024x1024, .bf16⟩
  | .local _ .smem, ⟨0, _⟩ => ⟨S164, .i32⟩
  | .local _ .smem, ⟨1, _⟩ => ⟨S1, .i32⟩
  | _, _ => ⟨S671744x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c : Ref sig .tc := ⟨.hbm, 45, rfl⟩
abbrev main_call2_v6 : Ref sig .tc := ⟨.hbm, 46, rfl⟩
abbrev main_call2_v7 : Ref sig .tc := ⟨.hbm, 47, rfl⟩
abbrev main_call2_c_0 : Ref sig .tc := ⟨.hbm, 48, rfl⟩
abbrev main_call2_v8 : Ref sig .tc := ⟨.hbm, 49, rfl⟩
abbrev main_v10 : Ref sig .tc := ⟨.hbm, 50, rfl⟩
abbrev main_v11 : Ref sig .tc := ⟨.hbm, 51, rfl⟩
abbrev main_c_4 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c_5 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_c_6 : Ref sig .tc := ⟨.hbm, 65, rfl⟩
abbrev main_v23 : Ref sig .tc := ⟨.hbm, 66, rfl⟩
abbrev main_c_7 : Ref sig .tc := ⟨.hbm, 67, rfl⟩
abbrev main_v24 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v25 : Ref sig .tc := ⟨.smem, 0, rfl⟩
abbrev main_v26 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![164], ![false]⟩

abbrev pre0 : Pipeline.Prefetch sig := ⟨2, ![main_v25.idx, main_v26.idx], fun | 0 => main_v25.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S164.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S164) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S671744x128 : Shape := ⟨2, ![671744, 128]⟩
abbrev S32 : Shape := ⟨1, ![32]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S164 : Shape := ⟨1, ![164]⟩
abbrev S1x32 : Shape := ⟨2, ![1, 32]⟩
abbrev S164x1 : Shape := ⟨2, ![164, 1]⟩
abbrev S164x32 : Shape := ⟨2, ![164, 32]⟩
abbrev S164x512x1024 : Shape := ⟨3, ![164, 512, 1024]⟩
abbrev S1x32x1024x2048 : Shape := ⟨4, ![1, 32, 1024, 2048]⟩
abbrev S32x1024x2048 : Shape := ⟨3, ![32, 1024, 2048]⟩
abbrev S164x1024x2048 : Shape := ⟨3, ![164, 1024, 2048]⟩
abbrev S164x512x2048 : Shape := ⟨3, ![164, 512, 2048]⟩
abbrev S1x32x2048 : Shape := ⟨3, ![1, 32, 2048]⟩
abbrev S32x2048 : Shape := ⟨2, ![32, 2048]⟩
abbrev S164x2048 : Shape := ⟨2, ![164, 2048]⟩
abbrev S164x1x2048 : Shape := ⟨3, ![164, 1, 2048]⟩
abbrev S1x32x1024x1024 : Shape := ⟨4, ![1, 32, 1024, 1024]⟩
abbrev S32x1024x1024 : Shape := ⟨3, ![32, 1024, 1024]⟩
abbrev S164x1024x1024 : Shape := ⟨3, ![164, 1024, 1024]⟩
abbrev S1x32x1024 : Shape := ⟨3, ![1, 32, 1024]⟩
abbrev S32x1024 : Shape := ⟨2, ![32, 1024]⟩
abbrev S164x1024 : Shape := ⟨2, ![164, 1024]⟩
abbrev S164x1x1024 : Shape := ⟨3, ![164, 1, 1024]⟩
abbrev S1 : Shape := ⟨1, ![1]⟩
abbrev S164x1x1 : Shape := ⟨3, ![164, 1, 1]⟩

abbrev nBuf : Space → Nat
  | .hbm => 158
  | .vmem => 0
  | .smem => 0
  | _ => 0

abbrev hbmTy0_0 (i : Nat) : BufTy := match i % 128 with
  | 0 => ⟨S671744x128, .f32⟩
  | 1 => ⟨S32, .i32⟩
  | 2 => ⟨S4x32x1024x2048, .f32⟩
  | 3 => ⟨S4x32x2048, .f32⟩
  | 4 => ⟨S4x32x1024x1024, .f32⟩
  | 5 => ⟨S4x32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S164, .i32⟩
  | 37 => ⟨S_, .i32⟩
  | 38 => ⟨S164, .i32⟩
  | 39 => ⟨S164, .i32⟩
  | 40 => ⟨S1x32, .i32⟩
  | 41 => ⟨S164x1, .i32⟩
  | 42 => ⟨S164x32, .i32⟩
  | 43 => ⟨S164x32, .i32⟩
  | 44 => ⟨S164x32, .i1⟩
  | 45 => ⟨S164x32, .i32⟩
  | 46 => ⟨S_, .i32⟩
  | 47 => ⟨S164, .i32⟩
  | 48 => ⟨S_, .i32⟩
  | 49 => ⟨S164, .i32⟩
  | 50 => ⟨S164, .i32⟩
  | 51 => ⟨S164x512x1024, .f32⟩
  | 52 => ⟨S1x32x1024x2048, .f32⟩
  | 53 => ⟨S32x1024x2048, .f32⟩
  | 54 => ⟨S_, .i32⟩
  | 55 => ⟨S164, .i32⟩
  | 56 => ⟨S164, .i1⟩
  | 57 => ⟨S_, .i32⟩
  | 58 => ⟨S164, .i32⟩
  | 59 => ⟨S164, .i32⟩
  | 60 => ⟨S164, .i32⟩
  | 61 => ⟨S164x1, .i32⟩
  | 62 => ⟨S164x1024x2048, .f32⟩
  | 63 => ⟨S164x512x2048, .f32⟩
  | 64 => ⟨S1x32x2048, .f32⟩
  | 65 => ⟨S32x2048, .f32⟩
  | 66 => ⟨S_, .i32⟩
  | 67 => ⟨S164, .i32⟩
  | 68 => ⟨S164, .i1⟩
  | 69 => ⟨S_, .i32⟩
  | 70 => ⟨S164, .i32⟩
  | 71 => ⟨S164, .i32⟩
  | 72 => ⟨S164, .i32⟩
  | 73 => ⟨S164x1, .i32⟩
  | 74 => ⟨S164x2048, .f32⟩
  | 75 => ⟨S164x1x2048, .f32⟩
  | 76 => ⟨S164x512x2048, .f32⟩
  | 77 => ⟨S164x512x2048, .f32⟩
  | 78 => ⟨S164x512x1024, .f32⟩
  | 79 => ⟨S_, .f32⟩
  | 80 => ⟨S164x512x1024, .f32⟩
  | 81 => ⟨S164x512x1024, .f32⟩
  | 82 => ⟨S164x512x1024, .f32⟩
  | 83 => ⟨S_, .f32⟩
  | 84 => ⟨S_, .f32⟩
  | 85 => ⟨S_, .f32⟩
  | 86 => ⟨S164x512x1024, .f32⟩
  | 87 => ⟨S164x512x1024, .f32⟩
  | 88 => ⟨S_, .f32⟩
  | 89 => ⟨S164x512x1024, .f32⟩
  | 90 => ⟨S164x512x1024, .f32⟩
  | 91 => ⟨S_, .f32⟩
  | 92 => ⟨S164x512x1024, .f32⟩
  | 93 => ⟨S164x512x1024, .f32⟩
  | 94 => ⟨S164x512x1024, .f32⟩
  | 95 => ⟨S164x512x1024, .f32⟩
  | 96 => ⟨S_, .f32⟩
  | 97 => ⟨S164x512x1024, .f32⟩
  | 98 => ⟨S164x512x1024, .f32⟩
  | 99 => ⟨S_, .f32⟩
  | 100 => ⟨S164x512x1024, .f32⟩
  | 101 => ⟨S164x512x1024, .f32⟩
  | 102 => ⟨S164x512x1024, .f32⟩
  | 103 => ⟨S_, .f32⟩
  | 104 => ⟨S164x512x1024, .f32⟩
  | 105 => ⟨S164x512x1024, .f32⟩
  | 106 => ⟨S164x512x1024, .f32⟩
  | 107 => ⟨S1x32x1024x1024, .f32⟩
  | 108 => ⟨S32x1024x1024, .f32⟩
  | 109 => ⟨S_, .i32⟩
  | 110 => ⟨S164, .i32⟩
  | 111 => ⟨S164, .i1⟩
  | 112 => ⟨S_, .i32⟩
  | 113 => ⟨S164, .i32⟩
  | 114 => ⟨S164, .i32⟩
  | 115 => ⟨S164, .i32⟩
  | 116 => ⟨S164x1, .i32⟩
  | 117 => ⟨S164x1024x1024, .f32⟩
  | 118 => ⟨S164x512x1024, .f32⟩
  | 119 => ⟨S1x32x1024, .f32⟩
  | 120 => ⟨S32x1024, .f32⟩
  | 121 => ⟨S_, .i32⟩
  | 122 => ⟨S164, .i32⟩
  | 123 => ⟨S164, .i1⟩
  | 124 => ⟨S_, .i32⟩
  | 125 => ⟨S164, .i32⟩
  | 126 => ⟨S164, .i32⟩
  | 127 => ⟨S164, .i32⟩
  | _ => ⟨S671744x128, .f32⟩

abbrev hbmTy0_1 (i : Nat) : BufTy := match i % 128 with
  | 0 => ⟨S164x1, .i32⟩
  | 1 => ⟨S164x1024, .f32⟩
  | 2 => ⟨S164x1x1024, .f32⟩
  | 3 => ⟨S164x512x1024, .f32⟩
  | 4 => ⟨S164x512x1024, .f32⟩
  | 5 => ⟨S164, .i32⟩
  | 6 => ⟨S1, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i1⟩
  | 17 => ⟨S_, .i1⟩
  | 18 => ⟨S_, .i32⟩
  | 19 => ⟨S_, .i32⟩
  | 20 => ⟨S_, .i32⟩
  | 21 => ⟨S164, .i32⟩
  | 22 => ⟨S164, .i1⟩
  | 23 => ⟨S164x1x1, .i1⟩
  | 24 => ⟨S_, .f32⟩
  | 25 => ⟨S_, .f32⟩
  | 26 => ⟨S164x512x1024, .i1⟩
  | 27 => ⟨S164x512x1024, .f32⟩
  | 28 => ⟨S164x512x1024, .f32⟩
  | 29 => ⟨S671744x128, .f32⟩
  | _ => ⟨S671744x128, .f32⟩

abbrev hbmTy (i : Nat) : BufTy := match i / 128 with
  | 0 => hbmTy0_0 i
  | 1 => hbmTy0_1 i
  | _ => ⟨S671744x128, .f32⟩

abbrev bufTy : (tb : Table) → Fin (tcTables nBuf tb) → BufTy
  | .hbm, ⟨i, _⟩ => hbmTy i
  | _, _ => ⟨S671744x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_8 : Ref sig .tc := ⟨.hbm, 66, rfl⟩
abbrev main_v33 : Ref sig .tc := ⟨.hbm, 67, rfl⟩
abbrev main_v34 : Ref sig .tc := ⟨.hbm, 68, rfl⟩
abbrev main_c_9 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_10 : Ref sig .tc := ⟨.hbm, 83, rfl⟩
abbrev main_cst_11 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v47 : Ref sig .tc := ⟨.hbm, 90, rfl⟩
abbrev main_cst_12 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_13 : Ref sig .tc := ⟨.hbm, 96, rfl⟩
abbrev main_v52 : Ref sig .tc := ⟨.hbm, 97, rfl⟩
abbrev main_v53 : Ref sig .tc := ⟨.hbm, 98, rfl⟩
abbrev main_cst_14 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_15 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_16 : Ref sig .tc := ⟨.hbm, 109, rfl⟩
abbrev main_v62 : Ref sig .tc := ⟨.hbm, 110, rfl⟩
abbrev main_v63 : Ref sig .tc := ⟨.hbm, 111, rfl⟩
abbrev main_c_17 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_18 : Ref sig .tc := ⟨.hbm, 121, rfl⟩
abbrev main_v72 : Ref sig .tc := ⟨.hbm, 122, rfl⟩
abbrev main_v73 : Ref sig .tc := ⟨.hbm, 123, rfl⟩
abbrev main_c_19 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_c_20 : Ref sig .tc := ⟨.hbm, 136, rfl⟩
abbrev main_call3_v0 : Ref sig .tc := ⟨.hbm, 137, rfl⟩
abbrev main_call3_v1 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c : Ref sig .tc := ⟨.hbm, 143, rfl⟩
abbrev main_call3_v6 : Ref sig .tc := ⟨.hbm, 144, rfl⟩
abbrev main_call3_v7 : Ref sig .tc := ⟨.hbm, 145, rfl⟩
abbrev main_call3_c_0 : Ref sig .tc := ⟨.hbm, 146, rfl⟩
abbrev main_call3_v8 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_cst_21 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v89 : Ref sig .tc := ⟨.hbm, 156, rfl⟩
abbrev main_v90 : Ref sig .tc := ⟨.hbm, 157, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S2x1x1024 : Shape := ⟨3, ![2, 1, 1024]⟩
abbrev S1024x2048 : Shape := ⟨2, ![1024, 2048]⟩
abbrev S16384x1024 : Shape := ⟨2, ![16384, 1024]⟩
abbrev S1x1024 : Shape := ⟨2, ![1, 1024]⟩
abbrev S16384x1536 : Shape := ⟨2, ![16384, 1536]⟩
abbrev S16384x512 : Shape := ⟨2, ![16384, 512]⟩
abbrev S512x1024 : Shape := ⟨2, ![512, 1024]⟩
abbrev S1x1x1024 : Shape := ⟨3, ![1, 1, 1024]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 10
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2048, .f32⟩
  | .hbm, ⟨5, _⟩ => ⟨S16384x1024, .f32⟩
  | .hbm, ⟨6, _⟩ => ⟨S1x1024, .f32⟩
  | .hbm, ⟨7, _⟩ => ⟨S1024x2048, .bf16⟩
  | .hbm, ⟨8, _⟩ => ⟨S16384x1536, .f32⟩
  | .hbm, ⟨9, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1536, .f32⟩
  | .local _ .vmem, ⟨9, _⟩ => ⟨S512x1536, .f32⟩
  | .local _ .vmem, ⟨10, _⟩ => ⟨S512x512, .f32⟩
  | .local _ .vmem, ⟨11, _⟩ => ⟨S512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x8192x1024 : Shape := ⟨3, ![2, 8192, 1024]⟩
abbrev S1024 : Shape := ⟨1, ![1024]⟩
abbrev S2x1x1024 : Shape := ⟨3, ![2, 1, 1024]⟩
abbrev S1024x2048 : Shape := ⟨2, ![1024, 2048]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8192x1536 : Shape := ⟨3, ![2, 8192, 1536]⟩
abbrev S16384x1536 : Shape := ⟨2, ![16384, 1536]⟩
abbrev S2x8192x512 : Shape := ⟨3, ![2, 8192, 512]⟩
abbrev S16384x512 : Shape := ⟨2, ![16384, 512]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S2x1x1024, .f32⟩
  | .hbm, ⟨3, _⟩ => ⟨S2x1x1024, .f32⟩
  | .hbm, ⟨4, _⟩ => ⟨S1024x2048, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x2048, .f32⟩
  | .hbm, ⟨29, _⟩ => ⟨S2x8192x1536, .f32⟩
  | .hbm, ⟨30, _⟩ => ⟨S16384x1536, .f32⟩
  | .hbm, ⟨31, _⟩ => ⟨S2x8192x512, .f32⟩
  | .hbm, ⟨32, _⟩ => ⟨S16384x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S16384x512 : Shape := ⟨2, ![16384, 512]⟩
abbrev S2x8192x1024 : Shape := ⟨3, ![2, 8192, 1024]⟩
abbrev S2x1x1024 : Shape := ⟨3, ![2, 1, 1024]⟩
abbrev S1024x1024 : Shape := ⟨2, ![1024, 1024]⟩
abbrev S512x1024 : Shape := ⟨2, ![512, 1024]⟩
abbrev S16384x1024 : Shape := ⟨2, ![16384, 1024]⟩
abbrev S512x512 : Shape := ⟨2, ![512, 512]⟩
abbrev S1x1x1024 : Shape := ⟨3, ![1, 1, 1024]⟩
abbrev S1x1024 : Shape := ⟨2, ![1, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S2x8192x1024, .f32⟩
  | .hbm, ⟨3, _⟩ => ⟨S2x1x1024, .f32⟩
  | .hbm, ⟨4, _⟩ => ⟨S1024x1024, .f32⟩
  | .hbm, ⟨5, _⟩ => ⟨S512x1024, .f32⟩
  | .hbm, ⟨6, _⟩ => ⟨S512x1024, .f32⟩
  | .hbm, ⟨7, _⟩ => ⟨S16384x1024, .f32⟩
  | .hbm, ⟨8, _⟩ => ⟨S512x1024, .bf16⟩
  | .hbm, ⟨9, _⟩ => ⟨S512x1024, .bf16⟩
  | .hbm, ⟨10, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x512 : Shape := ⟨2, ![16384, 512]⟩
abbrev S2x8192x1024 : Shape := ⟨3, ![2, 8192, 1024]⟩
abbrev S2x1x1024 : Shape := ⟨3, ![2, 1, 1024]⟩
abbrev S1024x1024 : Shape := ⟨2, ![1024, 1024]⟩
abbrev S2x8192x512 : Shape := ⟨3, ![2, 8192, 512]⟩
abbrev S16384x1024 : Shape := ⟨2, ![16384, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S2x8192x1024, .f32⟩
  | .hbm, ⟨3, _⟩ => ⟨S2x1x1024, .f32⟩
  | .hbm, ⟨4, _⟩ => ⟨S1024x1024, .f32⟩
  | .hbm, ⟨5, _⟩ => ⟨S2x8192x512, .f32⟩
  | .hbm, ⟨6, _⟩ => ⟨S2x8192x512, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S4x16384x128 : Shape := ⟨3, ![4, 16384, 128]⟩
abbrev S8x16384x64 : Shape := ⟨3, ![8, 16384, 64]⟩
abbrev S2x8192x1024 : Shape := ⟨3, ![2, 8192, 1024]⟩
abbrev S2x1x1024 : Shape := ⟨3, ![2, 1, 1024]⟩
abbrev S1024x1024 : Shape := ⟨2, ![1024, 1024]⟩
abbrev S512x1024 : Shape := ⟨2, ![512, 1024]⟩
abbrev S4x128x1024 : Shape := ⟨3, ![4, 128, 1024]⟩
abbrev S8x64x1024 : Shape := ⟨3, ![8, 64, 1024]⟩
abbrev S16384x1024 : Shape := ⟨2, ![16384, 1024]⟩
abbrev S4x512x128 : Shape := ⟨3, ![4, 512, 128]⟩
abbrev S8x512x64 : Shape := ⟨3, ![8, 512, 64]⟩
abbrev S1x1x1024 : Shape := ⟨3, ![1, 1, 1024]⟩
abbrev S1x512x128 : Shape := ⟨3, ![1, 512, 128]⟩
abbrev S512x128 : Shape := ⟨2, ![512, 128]⟩
abbrev S1x128x1024 : Shape := ⟨3, ![1, 128, 1024]⟩
abbrev S128x1024 : Shape := ⟨2, ![128, 1024]⟩
abbrev S1x512x64 : Shape := ⟨3, ![1, 512, 64]⟩
abbrev S512x64 : Shape := ⟨2, ![512, 64]⟩
abbrev S1x64x1024 : Shape := ⟨3, ![1, 64, 1024]⟩
abbrev S64x1024 : Shape := ⟨2, ![64, 1024]⟩
abbrev S1x1024 : Shape := ⟨2, ![1, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4x16384x128, .f32⟩
  | .hbm, ⟨1, _⟩ => ⟨S8x16384x64, .f32⟩
  | .hbm, ⟨2, _⟩ => ⟨S2x8192x1024, .f32⟩
  | .hbm, ⟨3, _⟩ => ⟨S2x1x1024, .f32⟩
  | .hbm, ⟨4, _⟩ => ⟨S1024x1024, .f32⟩
  | .hbm, ⟨5, _⟩ => ⟨S512x1024, .f32⟩
  | .hbm, ⟨6, _⟩ => ⟨S4x128x1024, .f32⟩
  | .hbm, ⟨7, _⟩ => ⟨S512x1024, .f32⟩
  | .hbm, ⟨8, _⟩ => ⟨S8x64x1024, .f32⟩
  | .hbm, ⟨9, _⟩ => ⟨S16384x1024, .f32⟩
  | .hbm, ⟨10, _⟩ => ⟨S4x128x1024, .bf16⟩
  | .hbm, ⟨11, _⟩ => ⟨S8x64x1024, .bf16⟩
  | .hbm, ⟨12, _⟩ => ⟨S16384x1024, .f32⟩
  | .local _ .vmem, ⟨0, _⟩ => ⟨S4x512x128, .f32⟩
  | .local _ .vmem, ⟨1, _⟩ => ⟨S4x512x128, .f32⟩
  | .local _ .vmem, ⟨2, _⟩ => ⟨S8x512x64, .f32⟩
  | .local _ .vmem, ⟨3, _⟩ => ⟨S8x512x64, .f32⟩
  | .local _ .vmem, ⟨4, _⟩ => ⟨S512x1024, .f32⟩
  | .local _ .vmem, ⟨5, _⟩ => ⟨S512x1024, .f32⟩
  | .local _ .vmem, ⟨6, _⟩ => ⟨S4x128x1024, .bf16⟩
  | .local _ .vmem, ⟨7, _⟩ => ⟨S8x64x1024, .bf16⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | _, _ => ⟨S4x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x64x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S4x16384x128 : Shape := ⟨3, ![4, 16384, 128]⟩
abbrev S8x16384x64 : Shape := ⟨3, ![8, 16384, 64]⟩
abbrev S2x8192x1024 : Shape := ⟨3, ![2, 8192, 1024]⟩
abbrev S2x1x1024 : Shape := ⟨3, ![2, 1, 1024]⟩
abbrev S1024x1024 : Shape := ⟨2, ![1024, 1024]⟩
abbrev S16384x4x128 : Shape := ⟨3, ![16384, 4, 128]⟩
abbrev S2x8192x512 : Shape := ⟨3, ![2, 8192, 512]⟩
abbrev S16384x8x64 : Shape := ⟨3, ![16384, 8, 64]⟩
abbrev S16384x1024 : Shape := ⟨2, ![16384, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4x16384x128, .f32⟩
  | .hbm, ⟨1, _⟩ => ⟨S8x16384x64, .f32⟩
  | .hbm, ⟨2, _⟩ => ⟨S2x8192x1024, .f32⟩
  | .hbm, ⟨3, _⟩ => ⟨S2x1x1024, .f32⟩
  | .hbm, ⟨4, _⟩ => ⟨S1024x1024, .f32⟩
  | .hbm, ⟨5, _⟩ => ⟨S16384x4x128, .f32⟩
  | .hbm, ⟨6, _⟩ => ⟨S2x8192x512, .f32⟩
  | .hbm, ⟨7, _⟩ => ⟨S16384x8x64, .f32⟩
  | .hbm, ⟨8, _⟩ => ⟨S2x8192x512, .f32⟩
  | .hbm, ⟨9, _⟩ => ⟨S2x8192x1024, .f32⟩
  | .hbm, ⟨10, _⟩ => ⟨S2x8192x1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S16384x1024, .f32⟩
  | _, _ => ⟨S4x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Dispatch.Trip.lean ====
/- The dispatch kernel's body, one trip at a time: what a trip of the issuing loop reads and starts, and what a trip of
   the draining loop waits for. All 2048 row copies of a grid step complete on one DMA semaphore: they are ONE batch on
   that cell. Copy `4 k + j` reads the token's 8 rows `8 k …` of the staged block, under a read token of its own, and
   writes the 8 rows of the slot table from the row that word `4 k + j` names. -/
module

public import proofs.«01_k».proof.Proof.Gen.KernelIdeal.Skeleton
public import Idealize.ShloMosaic.Lib.Pipeline.Routed
public import Idealize.ShloMosaic.Lib.Batch
public import Idealize.ShloMosaic.Lib.Ring
public import Idealize.ShloMosaic.Lib.Tactic

@[expose] public section

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- The contents of memref `M`'s buffer on core `c`. -/
abbrev Cont (c : Dev nD) {sp : Space} {S : Shape} {e : EltTy} (M : Memref sig .tc sp S e) : Type :=
  Buf (Elt F) (M.view.loc (c : Thread nD τ))

/-- `M`'s buffer held whole at `f`. -/
abbrev held (c : Dev nD) {sp : Space} {S : Shape} {e : EltTy} (M : Memref sig .tc sp S e) (f : Cont (F := F) c M) : sProp 𝕄 :=
  M.view.loc (c : Thread nD τ) ↦{fullShare} f

theorem trips1 : k0_t1_loop.trips = 512 := by decide
theorem trips2 : k0_t2_loop.trips = 512 := by decide

/-- The slot table's buffer, as the body names it. -/
abbrev tabM : Memref sig .tc .hbm S671744x128 .f32 := Memref.whole main_v2

abbrev at0 : S1.Idx := Shape.Idx.first (s := S1) (numel1_S1.symm ▸ Nat.one_pos)

/-- Word `j` of trip `k`, as the body's load reads it off the staged words. -/
def word {c : Dev nD} (M0 : Memref sig .tc .smem S2048 .i32) (f0 : Cont (F := F) c M0) (k : Fin k0_t1_loop.trips) : Fin 4 → BitVec 32
  | 0 => M0.view.readAt (Elt F) (Rect.unit (s := S2048) (k0_off1 k) S1.size (k0_off1_inb k)).toLoadRect f0 at0
  | 1 => M0.view.readAt (Elt F) (Rect.unit (s := S2048) (k0_off4 k) S1.size (k0_off4_inb k)).toLoadRect f0 at0
  | 2 => M0.view.readAt (Elt F) (Rect.unit (s := S2048) (k0_off7 k) S1.size (k0_off7_inb k)).toLoadRect f0 at0
  | 3 => M0.view.readAt (Elt F) (Rect.unit (s := S2048) (k0_off10 k) S1.size (k0_off10_inb k)).toLoadRect f0 at0

/-- The 8 rows of the slot table from row `v` on, as a copy's destination names them. -/
def dstM (v : BitVec 32) (h : k0_chk1 v) : Memref sig .tc .hbm S8x128 .f32 :=
  tabM.slice (Rect.unit (s := S671744x128) (k0_off2 v) S8x128.size (k0_off2_inb v h)) (fun _ => rfl)

/-- The 8 rows of token `k` in the staged block, as a copy's source names them. -/
def srcM (M1 : Memref sig .tc .vmem S4096x128 .f32) (k : Fin k0_t1_loop.trips) : Memref sig .tc .vmem S8x128 .f32 :=
  M1.slice (Rect.unit (s := S4096x128) (k0_off3 k) S8x128.size (k0_off3_inb k)) (fun _ => rfl)

/-- One copy's credit on the cell. -/
abbrev unit1 : ℕ := 128

section Copies

variable (c : Dev nD) (M1 : Memref sig .tc .vmem S4096x128 .f32) (w : Fin k0_t1_loop.trips → Fin 4 → BitVec 32)
  (hw : ∀ k j, k0_chk1 (w k j)) (f1 : Cont (F := F) c M1) (fv : Cont (F := F) c tabM)

/-- The slot table after copy `(k, j)` into contents `fv`. -/
abbrev landed (k : Fin k0_t1_loop.trips) (j : Fin 4) : Buf (Elt F) ((dstM (w k j) (hw k j)).view.loc (c : Thread nD τ)) :=
  (dstM (w k j) (hw k j)).view.write (Elt F) fv (ReadAs.same.apply ((srcM M1 k).view.read (Elt F) f1)) Finset.univ

/-- The table rows of copy `(k, j)`, held at the contents before the copy. -/
abbrev slotB (k : Fin k0_t1_loop.trips) (j : Fin 4) : sProp 𝕄 :=
  (dstM (w k j) (hw k j)).view.loc (c : Thread nD τ) ↦[(dstM (w k j) (hw k j)).view.set]{fullShare} fv
/-- … and after it. -/
abbrev slotA (k : Fin k0_t1_loop.trips) (j : Fin 4) : sProp 𝕄 :=
  (dstM (w k j) (hw k j)).view.loc (c : Thread nD τ) ↦[(dstM (w k j) (hw k j)).view.set]{fullShare} landed c M1 w hw f1 fv k j
/-- The token rows that copy `(k, j)` reads, under its own read token. -/
abbrev rowsT (k : Fin k0_t1_loop.trips) (j : Fin 4) : sProp 𝕄 :=
  (srcM M1 k).view.loc (c : Thread nD τ) ↦[(srcM M1 k).view.set]{Transfers.shareTokN fullShare (4 * k.val + j.val)} f1

/-- What copy `(k, j)` delivers. -/
abbrev delivers (k : Fin k0_t1_loop.trips) (j : Fin 4) : sProp 𝕄 := iprop(slotA c M1 w hw f1 fv k j ∗ rowsT c M1 f1 k j)

/-- Copy number `t` is copy `t % 4` of trip `t / 4`. -/
def tripOf (t : Fin 2048) : Fin k0_t1_loop.trips := ⟨t.val / 4, by rw [trips1]; omega⟩
def partOf (t : Fin 2048) : Fin 4 := ⟨t.val % 4, by omega⟩

theorem tripOf_mk (k : Fin k0_t1_loop.trips) (j : Fin 4) (h : 4 * k.val + j.val < 2048) : tripOf ⟨4 * k.val + j.val, h⟩ = k :=
  Fin.ext (by show (4 * k.val + j.val) / 4 = k.val; omega)
theorem partOf_mk (k : Fin k0_t1_loop.trips) (j : Fin 4) (h : 4 * k.val + j.val < 2048) : partOf ⟨4 * k.val + j.val, h⟩ = j :=
  Fin.ext (by show (4 * k.val + j.val) % 4 = j.val; omega)

/-- A family over trips and parts, by copy number. -/
abbrev byNo {A : Type*} (Φ : Fin k0_t1_loop.trips → Fin 4 → A) (t : Fin 2048) : A := Φ (tripOf t) (partOf t)
theorem byNo_mk {A : Type*} (Φ : Fin k0_t1_loop.trips → Fin 4 → A) (k : Fin k0_t1_loop.trips) (j : Fin 4) (h : 4 * k.val + j.val < 2048) :
    byNo Φ ⟨4 * k.val + j.val, h⟩ = Φ k j := by unfold byNo; rw [tripOf_mk, partOf_mk]

/-- The batch on the kernel's cell: `a` copies started, `u` units waited for. -/
abbrev batch (a u : ℕ) : sProp 𝕄 :=
  Transfers.Batch (countersEmb (U := UC sig nD τ)) (c : Thread nD τ) (.dma cc0_scratch0.sem) () unit1 (byNo (delivers c M1 w hw f1 fv)) a u

/-- The copies from number `a` on. -/
abbrev later (Φ : Fin k0_t1_loop.trips → Fin 4 → sProp 𝕄) (a : ℕ) : sProp 𝕄 := bigSep (Ring.rangeSet 2048 a 2048) (byNo Φ)

/-- A trip's four copies off the head. -/
theorem later_trip (Φ : Fin k0_t1_loop.trips → Fin 4 → sProp 𝕄) (k : Fin k0_t1_loop.trips) :
    later Φ (4 * k.val) = iprop(Φ k 0 ∗ Φ k 1 ∗ Φ k 2 ∗ Φ k 3 ∗ later Φ (4 * (k.val + 1))) := by
  have hk : k.val < 512 := trips1 ▸ k.isLt
  unfold later
  rw [Ring.bigSep_rangeSet_head (lo := 4 * k.val) (by omega) (by omega), Ring.bigSep_rangeSet_head (lo := 4 * k.val + 1) (by omega) (by omega),
    Ring.bigSep_rangeSet_head (lo := 4 * k.val + 1 + 1) (by omega) (by omega), Ring.bigSep_rangeSet_head (lo := 4 * k.val + 1 + 1 + 1) (by omega) (by omega)]
  have e0 := byNo_mk Φ k 0 (by show 4 * k.val + 0 < 2048; omega)
  have e1 := byNo_mk Φ k 1 (by show 4 * k.val + 1 < 2048; omega)
  have e2 := byNo_mk Φ k 2 (by show 4 * k.val + 2 < 2048; omega)
  have e3 := byNo_mk Φ k 3 (by show 4 * k.val + 3 < 2048; omega)
  exact congr (congrArg _ e0) (congr (congrArg _ e1) (congr (congrArg _ e2) (congr (congrArg _ e3) rfl)))

end Copies

section Issue

variable (c : Dev nD) (M0 : Memref sig .tc .smem S2048 .i32) (f0 : Cont (F := F) c M0) (M1 : Memref sig .tc .vmem S4096x128 .f32)
  (hw : ∀ k j, k0_chk1 (word M0 f0 k j)) (f1 : Cont (F := F) c M1) (fv : Cont (F := F) c tabM)

/-- Before trip `k` of the issuing loop: the copies below `4 k` started, none waited for; the table rows and the token rows
    of the others still in hand; the words. -/
def issueAt (k : ℕ) (_ : Unit) : sProp 𝕄 :=
  iprop(batch c M1 (word M0 f0) hw f1 fv (4 * k) 0 ∗ later (slotB c (word M0 f0) hw fv) (4 * k) ∗ later (rowsT c M1 f1) (4 * k)
    ∗ held c M0 f0)

theorem amount1 (v : BitVec 32) (h : k0_chk1 v) : (dstM v h).view.amount (.dma cc0_scratch0.sem) = unit1 := rfl

/-- ONE TRIP of the issuing loop. -/
theorem issue_step [∀ e, Nonempty (Elt F e)] (i : grid0.Coords) (h0 : M0.IsWhole) (h1 : M1.IsWhole) (h3 h4 : (tabM).IsWhole)
    (k : Fin k0_t1_loop.trips) (acc : Unit) :
    issueAt c M0 f0 M1 hw f1 fv k acc
      ⊢ wp frame (wpE (defs₀ (F := F)) Variants.none (c : Thread nD τ) none) Set.univ
        (k0_t1_body i M0 h0 M1 h1 tabM h3 tabM h4 cc0_scratch0 k acc) (issueAt c M0 f0 M1 hw f1 fv (k.val + 1)) := by
  have hk : k.val < 512 := trips1 ▸ k.isLt
  unfold issueAt
  rw [later_trip, later_trip]
  unfold k0_t1_body
  simp only [k0_part1_eq_skeleton]
  unfold k0_part1_skel
  iintro ⟨HB, ⟨Ha0, Ha1, Ha2, Ha3, Ha⟩, ⟨Hr0, Hr1, Hr2, Hr3, Hr⟩, H0⟩
  sl_exec (disch := first | exact hw k 0)
  iapply (Transfers.wp_dmaBatch (countersEmb (U := UC sig nD τ)) Variants.none (c : Thread nD τ) none
    (src := srcM M1 k) (dst := dstM (word M0 f0 k 0) (hw k 0)) () unit1 (amount1 _ _) subset_rfl
    (D := byNo (delivers c M1 (word M0 f0) hw f1 fv)) (j := 4 * k.val) (u := 0) (by omega) (by omega)
    (Entails.of_eq (byNo_mk (delivers c M1 (word M0 f0) hw f1 fv) k 0 (by show 4 * k.val + 0 < 2048; omega)).symm)) $$ [Hr0 Ha0 HB]
  · isplitl [Hr0]; · iexact Hr0
    isplitl [Ha0]; · iexact Ha0
    iexact HB
  iintro HB
  sl_exec (disch := first | exact hw k 1)
  iapply (Transfers.wp_dmaBatch (countersEmb (U := UC sig nD τ)) Variants.none (c : Thread nD τ) none
    (src := srcM M1 k) (dst := dstM (word M0 f0 k 1) (hw k 1)) () unit1 (amount1 _ _) subset_rfl
    (D := byNo (delivers c M1 (word M0 f0) hw f1 fv)) (j := 4 * k.val + 1) (u := 0) (by omega) (by omega)
    (Entails.of_eq (byNo_mk (delivers c M1 (word M0 f0) hw f1 fv) k 1 (by show 4 * k.val + 1 < 2048; omega)).symm)) $$ [Hr1 Ha1 HB]
  · isplitl [Hr1]; · iexact Hr1
    isplitl [Ha1]; · iexact Ha1
    iexact HB
  iintro HB
  sl_exec (disch := first | exact hw k 2)
  iapply (Transfers.wp_dmaBatch (countersEmb (U := UC sig nD τ)) Variants.none (c : Thread nD τ) none
    (src := srcM M1 k) (dst := dstM (word M0 f0 k 2) (hw k 2)) () unit1 (amount1 _ _) subset_rfl
    (D := byNo (delivers c M1 (word M0 f0) hw f1 fv)) (j := 4 * k.val + 2) (u := 0) (by omega) (by omega)
    (Entails.of_eq (byNo_mk (delivers c M1 (word M0 f0) hw f1 fv) k 2 (by show 4 * k.val + 2 < 2048; omega)).symm)) $$ [Hr2 Ha2 HB]
  · isplitl [Hr2]; · iexact Hr2
    isplitl [Ha2]; · iexact Ha2
    iexact HB
  iintro HB
  sl_exec (disch := first | exact hw k 3)
  iapply (Transfers.wp_dmaBatch (countersEmb (U := UC sig nD τ)) Variants.none (c : Thread nD τ) none
    (src := srcM M1 k) (dst := dstM (word M0 f0 k 3) (hw k 3)) () unit1 (amount1 _ _) subset_rfl
    (D := byNo (delivers c M1 (word M0 f0) hw f1 fv)) (j := 4 * k.val + 3) (u := 0) (by omega) (by omega)
    (Entails.of_eq (byNo_mk (delivers c M1 (word M0 f0) hw f1 fv) k 3 (by show 4 * k.val + 3 < 2048; omega)).symm)) $$ [Hr3 Ha3 HB]
  · isplitl [Hr3]; · iexact Hr3
    isplitl [Ha3]; · iexact Ha3
    iexact HB
  iintro HB
  rw [wp_pure]
  imodintro
  isplitl [HB]; · iexact HB
  isplitl [Ha]; · iexact Ha
  isplitl [Hr]; · iexact Hr
  iexact H0

end Issue

end Cert.Proof.Dispatch

end
-- ==== Proof.Dispatch.Drain.lean ====
/- One trip of the draining loop: four waits, each for one copy's credit. None hands a delivery back; when all 2048 units
   are consumed the batch is collected whole. -/
module

public import proofs.«01_k».proof.Proof.Dispatch.Trip

@[expose] public section

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (c : Dev nD) (M1 : Memref sig .tc .vmem S4096x128 .f32) (w : Fin k0_t1_loop.trips → Fin 4 → BitVec 32)
  (hw : ∀ k j, k0_chk1 (w k j)) (f1 : Cont (F := F) c M1) (fv : Cont (F := F) c tabM)

/-- Before trip `k` of the draining loop: all copies started, `4 k` credits consumed. -/
def drainAt (k : ℕ) (_ : Unit) : sProp 𝕄 :=
  iprop((∃ W, owes (c : Thread nD τ) 0 W) ∗ batch c M1 w hw f1 fv 2048 (4 * k * unit1))

/-- ONE TRIP of the draining loop. -/
theorem drain_step [∀ e, Nonempty (Elt F e)] (i : grid0.Coords) (M0 : Memref sig .tc .smem S2048 .i32) (h0 : M0.IsWhole) (h1 : M1.IsWhole)
    (h3 h4 : (tabM).IsWhole) (k : Fin k0_t2_loop.trips) (acc : Unit) :
    drainAt c M1 w hw f1 fv k acc
      ⊢ wp frame (wpE (defs₀ (F := F)) Variants.none (c : Thread nD τ) none) Set.univ
        (k0_t2_body i M0 h0 M1 h1 tabM h3 tabM h4 cc0_scratch0 k acc) (drainAt c M1 w hw f1 fv (k.val + 1)) := by
  have hk : k.val < 512 := trips2 ▸ k.isLt
  unfold drainAt k0_t2_body
  iintro ⟨⟨%W, HO⟩, HB⟩
  iapply (Transfers.wp_waitBatchMul (countersEmb (U := UC sig nD τ)) Variants.none (c : Thread nD τ) none
    (D := byNo (delivers c M1 w hw f1 fv)) () (N := unit1) 1 rfl (j := 2048) (u := 4 * k.val * unit1) (by unfold unit1; omega)) $$ [HB HO]
  · isplitl [HB]; · iexact HB
    iexact HO
  iintro ⟨HB, HO⟩
  iapply (Transfers.wp_waitBatchMul (countersEmb (U := UC sig nD τ)) Variants.none (c : Thread nD τ) none
    (D := byNo (delivers c M1 w hw f1 fv)) () (N := unit1) 1 rfl (j := 2048) (u := 4 * k.val * unit1 + 1 * unit1) (by unfold unit1; omega)) $$ [HB HO]
  · isplitl [HB]; · iexact HB
    iexact HO
  iintro ⟨HB, HO⟩
  iapply (Transfers.wp_waitBatchMul (countersEmb (U := UC sig nD τ)) Variants.none (c : Thread nD τ) none
    (D := byNo (delivers c M1 w hw f1 fv)) () (N := unit1) 1 rfl (j := 2048) (u := 4 * k.val * unit1 + 1 * unit1 + 1 * unit1) (by unfold unit1; omega)) $$ [HB HO]
  · isplitl [HB]; · iexact HB
    iexact HO
  iintro ⟨HB, HO⟩
  iapply (Transfers.wp_waitBatchMul (countersEmb (U := UC sig nD τ)) Variants.none (c : Thread nD τ) none
    (D := byNo (delivers c M1 w hw f1 fv)) () (N := unit1) 1 rfl (j := 2048) (u := 4 * k.val * unit1 + 1 * unit1 + 1 * unit1 + 1 * unit1) (by unfold unit1; omega)) $$ [HB HO]
  · isplitl [HB]; · iexact HB
    iexact HO
  iintro ⟨HB, HO⟩
  simp only [Prog.bind]
  sl_step
  isplitl [HO]; · iexists _; iexact HO
  rw [show 4 * (k.val + 1) * unit1 = 4 * k.val * unit1 + 1 * unit1 + 1 * unit1 + 1 * unit1 + 1 * unit1 by unfold unit1; omega]
  iexact HB

end Cert.Proof.Dispatch

end
-- ==== Proof.Dispatch.Rows.lean ====
/- The slot table by the 8-row groups that a grid step's copies write, and what it holds when the step is done; the staged
   token rows by the read tokens under which the copies read them. -/
module

public import proofs.«01_k».proof.Proof.Dispatch.Trip

@[expose] public section

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

section Held

/-- Held elements, those of `K` apart. -/
theorem held_split {ℓ : Loc nD τ sig} (q : PosShare TreeShare) (K : Finset (Idx ℓ)) (g : Buf (Elt F) ℓ) :
    (ℓ ↦[Finset.univ]{q} g : sProp 𝕄) = iprop((ℓ ↦[K]{q} g) ∗ ℓ ↦[Finset.univ \ K]{q} g) :=
  have hs : (ℓ ↦[Finset.univ]{q} g : sProp 𝕄) ⊣⊢ iprop((ℓ ↦[K]{q} g) ∗ ℓ ↦[Finset.univ \ K]{q} g) :=
    pointsTo_split_subset (Finset.subset_univ K)
  BI.equiv_iff.mp ⟨hs.1, hs.2⟩

/-- Held elements by `n` read tokens and what is left of the share. -/
theorem held_tokens {ℓ : Loc nD τ sig} (f : Buf (Elt F) ℓ) (n : ℕ) :
    (ℓ ↦[Finset.univ]{fullShare} f : sProp 𝕄) = iprop((ℓ ↦[Finset.univ]{Transfers.shareDrop fullShare n} f)
      ∗ bigSep Finset.univ fun t : Fin n => ℓ ↦[Finset.univ]{Transfers.shareTokN fullShare t.val} f) := by
  have hs : (ℓ ↦[Finset.univ]{fullShare} f : sProp 𝕄) ⊣⊢ iprop((ℓ ↦[Finset.univ]{Transfers.shareDrop fullShare n} f)
        ∗ bigSep (Finset.range n) fun i => ℓ ↦[Finset.univ]{Transfers.shareTokN fullShare i} f) :=
    Transfers.pointsTo_toks_range fullShare n
  refine (BI.equiv_iff.mp ⟨hs.1, hs.2⟩).trans (congrArg _ ?_)
  exact (Ring.bigSep_fin_eq_range n _ _ fun t h => rfl).symm

end Held

section Source

variable (c : Dev nD) (M1 : Memref sig .tc .vmem S4096x128 .f32) (f1 : Cont (F := F) c M1)

/-- What copy `(k, j)`'s read token covers beside the rows it reads. -/
abbrev spareT (k : Fin k0_t1_loop.trips) (j : Fin 4) : sProp 𝕄 :=
  M1.view.loc (c : Thread nD τ) ↦[Finset.univ \ (srcM M1 k).view.set]{Transfers.shareTokN fullShare (4 * k.val + j.val)} f1

theorem number (t : Fin 2048) : 4 * (tripOf t).val + (partOf t).val = t.val := by
  show 4 * (t.val / 4) + t.val % 4 = t.val; omega

theorem row_split (k : Fin k0_t1_loop.trips) (j : Fin 4) :
    (M1.view.loc (c : Thread nD τ) ↦[Finset.univ]{Transfers.shareTokN fullShare (4 * k.val + j.val)} f1 : sProp 𝕄)
      = iprop(rowsT c M1 f1 k j ∗ spareT c M1 f1 k j) :=
  held_split _ _ _

theorem token_split (t : Fin 2048) :
    (M1.view.loc (c : Thread nD τ) ↦[Finset.univ]{Transfers.shareTokN fullShare t.val} f1 : sProp 𝕄)
      = iprop(byNo (rowsT c M1 f1) t ∗ byNo (spareT c M1 f1) t) :=
  (congrArg (fun n => (M1.view.loc (c : Thread nD τ) ↦[Finset.univ]{Transfers.shareTokN fullShare n} f1 : sProp 𝕄)) (number t).symm).trans
    (row_split c M1 f1 (tripOf t) (partOf t))

/-- The staged token rows: every copy's rows under its own read token, and two parts that no copy reads. -/
theorem rows_split :
    (held c M1 f1 : sProp 𝕄) = iprop((M1.view.loc (c : Thread nD τ) ↦[Finset.univ]{Transfers.shareDrop fullShare 2048} f1)
      ∗ bigSep Finset.univ (byNo (rowsT c M1 f1)) ∗ bigSep Finset.univ (byNo (spareT c M1 f1))) := by
  refine (held_tokens (ℓ := M1.view.loc (c : Thread nD τ)) f1 2048).trans (congrArg _ ?_)
  refine Eq.trans (BI.bigSep_congr fun t _ => token_split c M1 f1 t) ?_
  exact BI.bigSep_sep Finset.univ (byNo (rowsT c M1 f1)) (byNo (spareT c M1 f1))

end Source

section Table

variable (c : Dev nD) (w : Fin k0_t1_loop.trips → Fin 4 → BitVec 32) (hw : ∀ k j, k0_chk1 (w k j))

/-- The elements of the table that the rows from word `v` on are. -/
theorem mem_dst (v : BitVec 32) (h : k0_chk1 v) (y : S671744x128.Idx) :
    y ∈ (dstM v h).view.set ↔ v.toNat ≤ (y 0).val ∧ (y 0).val < v.toNat + 8 := by
  unfold dstM
  rw [show (tabM.slice (Rect.unit (s := S671744x128) (k0_off2 v) S8x128.size (k0_off2_inb v h)) (fun _ => rfl)).view.set
    = (Rect.unit (s := S671744x128) (k0_off2 v) S8x128.size (k0_off2_inb v h)).set from View.set_slice_whole _ _, Rect.mem_set_unit]
  constructor
  · intro H; exact H 0
  · intro H a
    fin_cases a
    · exact H
    · exact ⟨Nat.zero_le _, (y 1).isLt⟩

/-- The copies' words differ. -/
def Distinct : Prop := ∀ t t' : Fin 2048, t ≠ t' → byNo w t ≠ byNo w t'

abbrev dstOf (t : Fin 2048) : Finset (Idx (tabM.view.loc (c : Thread nD τ))) := (dstM (byNo w t) (hw _ _)).view.set

theorem dst_disjoint (hd : Distinct w) (t t' : Fin 2048) (h : t ≠ t') : Disjoint (dstOf c w hw t) (dstOf c w hw t') := by
  rw [Finset.disjoint_left]
  intro y hy hy'
  have h1 := (mem_dst _ _ y).1 hy
  have h2 := (mem_dst _ _ y).1 hy'
  obtain ⟨a, ha⟩ := (hw (tripOf t) (partOf t)).1
  obtain ⟨b, hb⟩ := (hw (tripOf t') (partOf t')).1
  replace ha : (byNo w t).toNat = 8 * a := ha
  replace hb : (byNo w t').toNat = 8 * b := hb
  exact hd t t' h (BitVec.eq_of_toNat_eq (by omega))

variable (M1 : Memref sig .tc .vmem S4096x128 .f32) (f1 : Cont (F := F) c M1) (fv : Cont (F := F) c tabM)

open Classical in
/-- The table when every copy has landed. -/
def written : Cont (F := F) c tabM := fun i =>
  if h : ∃ t : Fin 2048, i ∈ dstOf c w hw t then landed c M1 w hw f1 fv (tripOf h.choose) (partOf h.choose) i else fv i

theorem written_off (i : Idx (tabM.view.loc (c : Thread nD τ))) (h : ¬ ∃ t : Fin 2048, i ∈ dstOf c w hw t) : written c w hw M1 f1 fv i = fv i := dif_neg h

theorem written_on (hd : Distinct w) (t : Fin 2048) (i : Idx (tabM.view.loc (c : Thread nD τ))) (hi : i ∈ dstOf c w hw t) :
    written c w hw M1 f1 fv i = landed c M1 w hw f1 fv (tripOf t) (partOf t) i := by
  have hex : ∃ t : Fin 2048, i ∈ dstOf c w hw t := ⟨t, hi⟩
  have e : hex.choose = t := by
    by_contra hne
    exact Finset.disjoint_left.mp (dst_disjoint c w hw hd _ t hne) hex.choose_spec hi
  exact (dif_pos hex).trans (congrArg (fun t' => landed c M1 w hw f1 fv (tripOf t') (partOf t') i) e)

/-- The table's elements that no copy writes. -/
abbrev rest : Finset (Idx (tabM.view.loc (c : Thread nD τ))) := Finset.univ \ Finset.univ.biUnion (dstOf c w hw)

/-- The table held whole is the copies' rows and the rest, at any one contents. -/
theorem table_split (hd : Distinct w) (g : Cont (F := F) c tabM) :
    (held c tabM g : sProp 𝕄) = iprop((bigSep Finset.univ fun t => tabM.view.loc (c : Thread nD τ) ↦[dstOf c w hw t]{fullShare} g)
      ∗ tabM.view.loc (c : Thread nD τ) ↦[rest c w hw]{fullShare} g) := by
  refine (held_split fullShare (Finset.univ.biUnion (dstOf c w hw)) g).trans (congrArg₂ _ ?_ rfl)
  exact pointsTo_biUnion Finset.univ (dstOf c w hw) fun t _ t' _ h => dst_disjoint c w hw hd t t' h

theorem before_split (hd : Distinct w) :
    (held c tabM fv : sProp 𝕄) = iprop(bigSep Finset.univ (byNo (slotB c w hw fv)) ∗ tabM.view.loc (c : Thread nD τ) ↦[rest c w hw]{fullShare} fv) :=
  table_split c w hw hd fv

theorem rest_written :
    (tabM.view.loc (c : Thread nD τ) ↦[rest c w hw]{fullShare} written c w hw M1 f1 fv : sProp 𝕄)
      = tabM.view.loc (c : Thread nD τ) ↦[rest c w hw]{fullShare} fv := by
  have h : ∀ i ∈ rest c w hw, written c w hw M1 f1 fv i = fv i := by
    intro i hi
    rw [Finset.mem_sdiff, Finset.mem_biUnion] at hi
    exact written_off c w hw M1 f1 fv i fun h => hi.2 (h.imp fun t ht => ⟨Finset.mem_univ t, ht⟩)
  exact pointsTo_congr h

theorem after_split (hd : Distinct w) :
    (held c tabM (written c w hw M1 f1 fv) : sProp 𝕄) = iprop(bigSep Finset.univ (byNo (slotA c M1 w hw f1 fv))
      ∗ tabM.view.loc (c : Thread nD τ) ↦[rest c w hw]{fullShare} fv) := by
  refine (table_split c w hw hd _).trans (congrArg₂ _ (BI.bigSep_congr fun t _ => ?_) (rest_written c w hw M1 f1 fv))
  exact pointsTo_congr fun i hi => written_on c w hw M1 f1 fv hd t i hi

end Table

end Cert.Proof.Dispatch

end
-- ==== Proof.Dispatch.Body.lean ====
/- The dispatch kernel's body, run once: 2048 copies started, 2048 credits waited for, the batch collected. -/
module

public import proofs.«01_k».proof.Proof.Dispatch.Drain
public import proofs.«01_k».proof.Proof.Dispatch.Rows

@[expose] public section

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

variable (c : Dev nD) (M0 : Memref sig .tc .smem S2048 .i32) (f0 : Cont (F := F) c M0) (M1 : Memref sig .tc .vmem S4096x128 .f32)
  (hw : ∀ k j, k0_chk1 (word M0 f0 k j)) (f1 : Cont (F := F) c M1) (fv : Cont (F := F) c tabM)

theorem held_storable (ℓ : Loc nD τ sig) (S : Finset (Idx ℓ)) (q : PosShare TreeShare) (f : Buf (Elt F) ℓ) :
    BI.Storable (upEmb : UEmb _ 𝕄) (ℓ ↦[S]{q} f : sProp 𝕄) := inferInstance

section Stored

variable (w : Fin k0_t1_loop.trips → Fin 4 → BitVec 32) (hw : ∀ k j, k0_chk1 (w k j)) (k : Fin k0_t1_loop.trips) (j : Fin 4)

instance slotA_storable : BI.Storable (upEmb : UEmb _ 𝕄) (slotA c M1 w hw f1 fv k j) := held_storable _ _ _ _
instance rowsT_storable : BI.Storable (upEmb : UEmb _ 𝕄) (rowsT c M1 f1 k j) := held_storable _ _ _ _
theorem delivers_storable' : BI.Storable (upEmb : UEmb _ 𝕄) (delivers c M1 w hw f1 fv k j) :=
  @BI.Storable.sep _ _ _ _ _ _ _ _ (slotA_storable c M1 f1 fv w hw k j) (rowsT_storable c M1 f1 k j)
instance delivers_storable (t : Fin 2048) : BI.Storable (upEmb : UEmb _ 𝕄) (byNo (delivers c M1 w hw f1 fv) t) :=
  delivers_storable' c M1 f1 fv w hw (tripOf t) (partOf t)

end Stored

/-- The kernel's cell. -/
abbrev cell : SemLoc sig := .dma cc0_scratch0.sem

theorem later_all (Φ : Fin k0_t1_loop.trips → Fin 4 → sProp 𝕄) : later Φ (4 * 0) = bigSep Finset.univ (byNo Φ) := by
  unfold later; rw [Nat.mul_zero, Ring.rangeSet_univ]
theorem later_none (Φ : Fin k0_t1_loop.trips → Fin 4 → sProp 𝕄) : later Φ (4 * k0_t1_loop.trips) = BI.emp := by
  unfold later; rw [trips1]; exact Ring.bigSep_rangeSet_empty le_rfl

theorem issue_start : iprop(batch c M1 (word M0 f0) hw f1 fv 0 0 ∗ bigSep Finset.univ (byNo (slotB c (word M0 f0) hw fv))
      ∗ bigSep Finset.univ (byNo (rowsT c M1 f1)) ∗ held c M0 f0) ⊢ issueAt c M0 f0 M1 hw f1 fv 0 () := by
  unfold issueAt; rw [later_all, later_all, Nat.mul_zero]

theorem issue_end (acc : Unit) : issueAt c M0 f0 M1 hw f1 fv k0_t1_loop.trips acc ⊢ iprop(batch c M1 (word M0 f0) hw f1 fv 2048 0 ∗ held c M0 f0) := by
  unfold issueAt; rw [later_none, later_none, trips1]
  iintro ⟨A, -, -, B⟩; isplitl [A] <;> iassumption

theorem drain_start (w : Fin k0_t1_loop.trips → Fin 4 → BitVec 32) (hw : ∀ k j, k0_chk1 (w k j)) :
    iprop((∃ W, owes (c : Thread nD τ) 0 W) ∗ batch c M1 w hw f1 fv 2048 0) ⊢ drainAt c M1 w hw f1 fv 0 () := by
  unfold drainAt; rw [Nat.mul_zero, Nat.zero_mul]

theorem drain_end (w : Fin k0_t1_loop.trips → Fin 4 → BitVec 32) (hw : ∀ k j, k0_chk1 (w k j)) (acc : Unit) :
    drainAt c M1 w hw f1 fv k0_t2_loop.trips acc ⊢ iprop((∃ W, owes (c : Thread nD τ) 0 W) ∗ batch c M1 w hw f1 fv 2048 (unit1 * 2048)) := by
  unfold drainAt; rw [trips2, show 4 * 512 * unit1 = unit1 * 2048 from rfl]

theorem collect (w : Fin k0_t1_loop.trips → Fin 4 → BitVec 32) (hw : ∀ k j, k0_chk1 (w k j)) :
    batch c M1 w hw f1 fv 2048 (unit1 * 2048) ⊢ (|={Set.univ}=> iprop((bigSep Finset.univ (byNo (slotA c M1 w hw f1 fv))
      ∗ bigSep Finset.univ (byNo (rowsT c M1 f1))) ∗ semVal ((c : Thread nD τ), cell) 0) : sProp 𝕄) := by
  have h := Transfers.batch_collect' (Lvl := ℕ) (countersEmb (U := UC sig nD τ)) (c : Thread nD τ) (sm := cell) (ι := ()) (N := unit1)
    (by decide) (D := byNo (delivers c M1 w hw f1 fv))
  rwa [show bigSep Finset.univ (byNo (delivers c M1 w hw f1 fv)) = iprop(bigSep Finset.univ (byNo (slotA c M1 w hw f1 fv))
      ∗ bigSep Finset.univ (byNo (rowsT c M1 f1))) from BI.bigSep_sep Finset.univ (byNo (slotA c M1 w hw f1 fv)) (byNo (rowsT c M1 f1))] at h

/-- THE BODY'S RUN. -/
theorem body_run [∀ e, Nonempty (Elt F e)] (hd : Distinct (word M0 f0)) (i : grid0.Coords) (h0 : M0.IsWhole) (h1 : M1.IsWhole)
    (h3 h4 : (tabM).IsWhole) (W : Waits sig Unit) (Q : PUnit → sProp 𝕄) :
    iprop(held c M0 f0 ∗ held c M1 f1 ∗ held c tabM fv ∗ semVal ((c : Thread nD τ), cell) 0 ∗ owes (c : Thread nD τ) 0 W
      ∗ (iprop(held c M0 f0 ∗ held c M1 f1 ∗ held c tabM (written c (word M0 f0) hw M1 f1 fv) ∗ semVal ((c : Thread nD τ), cell) 0
            ∗ ∃ W, owes (c : Thread nD τ) 0 W) -∗ Q ⟨⟩))
      ⊢ wp frame (wpE (defs₀ (F := F)) Variants.none (c : Thread nD τ) none) Set.univ
        (cc0_moe_dispatch i M0 h0 M1 h1 tabM h3 tabM h4 cc0_scratch0) Q := by
  rw [rows_split c M1 f1, before_split c (word M0 f0) hw fv hd, after_split c (word M0 f0) hw M1 f1 fv hd]
  iintro ⟨H0, ⟨HA, HR, HS⟩, ⟨HT, HV⟩, Hc, HO, Hk⟩
  simp only [cc0_moe_dispatch_eq_skeleton]; unfold cc0_moe_dispatch_skel
  imod (Transfers.batch_alloc' (Lvl := ℕ) (countersEmb (U := UC sig nD τ)) (c : Thread nD τ) () unit1
    (byNo (delivers c M1 (word M0 f0) hw f1 fv)) (sm := cell) (E := Set.univ)) $$ Hc with HB
  sl_for (issueAt c M0 f0 M1 hw f1 fv) $$ [HB HT HR H0]
  · intro k acc; exact issue_step c M0 f0 M1 hw f1 fv i h0 h1 h3 h4 k acc
  · iapply (issue_start c M0 f0 M1 hw f1 fv)
    isplitl [HB]; · iexact HB
    isplitl [HT]; · iexact HT
    isplitl [HR]; · iexact HR
    iexact H0
  iintro %acc HL
  ihave HL' := (issue_end c M0 f0 M1 hw f1 fv acc) $$ HL
  icases HL' with ⟨HB, H0⟩
  sl_for (drainAt c M1 (word M0 f0) hw f1 fv) $$ [HB HO]
  · intro k acc; exact drain_step c M1 (word M0 f0) hw f1 fv i M0 h0 h1 h3 h4 k acc
  · iapply (drain_start c M1 f1 fv (word M0 f0) hw)
    isplitl [HO]; · iexists _; iexact HO
    iexact HB
  iintro %acc2 HL2
  ihave HL2' := (drain_end c M1 f1 fv (word M0 f0) hw acc2) $$ HL2
  icases HL2' with ⟨HO, HB⟩
  imod (collect c M1 f1 fv (word M0 f0) hw) $$ HB with ⟨⟨HT, HR⟩, Hc⟩
  sl_step
  iapply Hk
  isplitl [H0]; · iexact H0
  isplitl [HA HR HS]
  · isplitl [HA]; · iexact HA
    isplitl [HR]; · iexact HR
    iexact HS
  isplitl [HT HV]
  · isplitl [HT]; · iexact HT
    iexact HV
  isplitl [Hc]; · iexact Hc
  iexact HO

/-- The same at words `w` that the loads are known to read. -/
theorem body_run_words [∀ e, Nonempty (Elt F e)] (w : Fin k0_t1_loop.trips → Fin 4 → BitVec 32) (hwd : word M0 f0 = w)
    (hw : ∀ k j, k0_chk1 (w k j)) (hd : Distinct w) (i : grid0.Coords) (h0 : M0.IsWhole) (h1 : M1.IsWhole)
    (h3 h4 : (tabM).IsWhole) (W : Waits sig Unit) (Q : PUnit → sProp 𝕄) :
    iprop(held c M0 f0 ∗ held c M1 f1 ∗ held c tabM fv ∗ semVal ((c : Thread nD τ), cell) 0 ∗ owes (c : Thread nD τ) 0 W
      ∗ (iprop(held c M0 f0 ∗ held c M1 f1 ∗ held c tabM (written c w hw M1 f1 fv) ∗ semVal ((c : Thread nD τ), cell) 0
            ∗ ∃ W, owes (c : Thread nD τ) 0 W) -∗ Q ⟨⟩))
      ⊢ wp frame (wpE (defs₀ (F := F)) Variants.none (c : Thread nD τ) none) Set.univ
        (cc0_moe_dispatch i M0 h0 M1 h1 tabM h3 tabM h4 cc0_scratch0) Q := by
  subst hwd
  exact body_run c M0 f0 M1 hw f1 fv hd i h0 h1 h3 h4 W Q

end Cert.Proof.Dispatch

end
-- ==== Proof.Dispatch.Step.lean ====
/- What a grid step's copies leave in the slot table, at an index: on a row that copy number `t` covers, the row of token
   `t / 4` of the staged block; elsewhere the row that was there. And the words that the loads read, as entries of the
   staged words. -/
module

public import proofs.«01_k».proof.Proof.Dispatch.Rows
public import Idealize.ShloMosaic.Lib.ValueIdxCore

@[expose] public section

noncomputable section

namespace Cert.Proof.Dispatch

open Cert.KernelIdeal Cert.KernelIdeal.Gen
open Idealize.ShloMosaic Idealize.ShloMosaic.TcCoe Idealize.ShloMosaic.Tactic
open Idealize.ShloMosaic.ValueIdx

variable {F : FTy → Type} [FloatOps F]

theorem off_word1 : ∀ k : Fin k0_t1_loop.trips, k0_off1 k 0 = 4 * k.val + 0 := by decide +kernel
theorem off_word2 : ∀ k : Fin k0_t1_loop.trips, k0_off4 k 0 = 4 * k.val + 1 := by decide +kernel
theorem off_word3 : ∀ k : Fin k0_t1_loop.trips, k0_off7 k 0 = 4 * k.val + 2 := by decide +kernel
theorem off_word4 : ∀ k : Fin k0_t1_loop.trips, k0_off10 k 0 = 4 * k.val + 3 := by decide +kernel
theorem off_rows0 : ∀ k : Fin k0_t1_loop.trips, k0_off3 k 0 = 8 * k.val := by decide +kernel
theorem off_rows1 : ∀ k : Fin k0_t1_loop.trips, k0_off3 k 1 = 0 := by decide +kernel

/-- Copy number of part `j` of trip `k`. -/
def noOf (k : Fin k0_t1_loop.trips) (j : Fin 4) : Fin 2048 := ⟨4 * k.val + j.val, by have h := lt_of_lt_of_eq k.isLt trips1; omega⟩

/-- The words of a step, as entries of the staged words. -/
def wordOf (X : S2048.Idx → BitVec 32) (k : Fin k0_t1_loop.trips) (j : Fin 4) : BitVec 32 := X (ix1 (noOf k j))

theorem noOf_parts (t : Fin 2048) : noOf (tripOf t) (partOf t) = t := Fin.ext (number t)
theorem byNo_wordOf (X : S2048.Idx → BitVec 32) (t : Fin 2048) : byNo (wordOf X) t = X (ix1 t) := by
  show X (ix1 (noOf (tripOf t) (partOf t))) = _
  rw [noOf_parts]

theorem word_eq {c : Dev nD} (M0 : Memref sig .tc .smem S2048 .i32) (f0 : Cont (F := F) c M0) :
    word M0 f0 = wordOf (M0.view.read (Elt F) f0) := by
  funext k j
  have h : ∀ (off : Fin 1 → ℕ) (inb) (n : ℕ), off 0 = n → (hn : n < 2048) →
      M0.view.readAt (Elt F) (Rect.unit (s := S2048) off S1.size inb).toLoadRect f0 at0 = M0.view.read (Elt F) f0 (ix1 ⟨n, hn⟩) := by
    intro off inb n hoff hn
    refine congrArg (M0.view.read (Elt F) f0) (funext fun a => Fin.ext ?_)
    fin_cases a
    show off 0 + 1 * (at0 0).val = n
    have : (at0 0).val = 0 := rfl
    omega
  fin_cases j
  · exact h _ _ _ (off_word1 k) _
  · exact h _ _ _ (off_word2 k) _
  · exact h _ _ _ (off_word3 k) _
  · exact h _ _ _ (off_word4 k) _

section Landed

variable (c : Dev nD) (w : Fin k0_t1_loop.trips → Fin 4 → BitVec 32) (hw : ∀ k j, k0_chk1 (w k j))
  (M1 : Memref sig .tc .vmem S4096x128 .f32) (f1 : Cont (F := F) c M1) (fv : Cont (F := F) c tabM)

/-- Row `r` of the 8 rows from word `v` on is inside the table. -/
theorem row_lt (v : BitVec 32) (h : k0_chk1 v) (r : Fin 8) : v.toNat + r.val < 671744 := by
  have := h.2 0
  have e : k0_off2 v 0 = v.toNat := rfl
  have e2 : S8x128.size 0 = 8 := rfl
  have e3 : S671744x128.size 0 = 671744 := rfl
  omega

theorem landed_at (k : Fin k0_t1_loop.trips) (j : Fin 4) (r : Fin 8) (l : Fin 128) :
    landed c M1 w hw f1 fv k j (ix2 ⟨(w k j).toNat + r.val, row_lt _ (hw k j) r⟩ l : S671744x128.Idx)
      = M1.view.read (Elt F) f1 (ix2 ⟨8 * k.val + r.val, by have h := lt_of_lt_of_eq k.isLt trips1; omega⟩ l : S4096x128.Idx) := by
  have e : (ix2 ⟨(w k j).toNat + r.val, row_lt _ (hw k j) r⟩ l : S671744x128.Idx)
      = (dstM (w k j) (hw k j)).view.emb (ix2 r l : S8x128.Idx) := by
    funext a; apply Fin.ext
    fin_cases a
    · show (w k j).toNat + r.val = (w k j).toNat + 1 * r.val; omega
    · show l.val = 0 + 1 * l.val; omega
  unfold landed
  rw [e]
  refine (View.write_emb_of_mem _ _ (Finset.mem_univ _)).trans ?_
  show M1.view.read (Elt F) f1 _ = _
  refine congrArg (M1.view.read (Elt F) f1) (funext fun a => Fin.ext ?_)
  have h0 := off_rows0 k
  have h1 := off_rows1 k
  fin_cases a
  · show k0_off3 k 0 + 1 * r.val = 8 * k.val + r.val; omega
  · show k0_off3 k 1 + 1 * l.val = l.val; omega

theorem mem_dstOf (t : Fin 2048) (y : S671744x128.Idx) :
    y ∈ dstOf c w hw t ↔ (byNo w t).toNat ≤ (y 0).val ∧ (y 0).val < (byNo w t).toNat + 8 := mem_dst _ _ y

/-- ON a copied row. -/
theorem written_row (hd : Distinct w) (t : Fin 2048) (r : Fin 8) (l : Fin 128) (y : S671744x128.Idx)
    (hy0 : (y 0).val = (byNo w t).toNat + r.val) (hy1 : y 1 = l) :
    written c w hw M1 f1 fv y
      = M1.view.read (Elt F) f1 (ix2 ⟨8 * (t.val / 4) + r.val, by omega⟩ l : S4096x128.Idx) := by
  have e : y = (ix2 ⟨(w (tripOf t) (partOf t)).toNat + r.val, row_lt _ (hw _ _) r⟩ l : S671744x128.Idx) := by
    funext a
    fin_cases a
    · exact Fin.ext hy0
    · exact hy1
  have hi : y ∈ dstOf c w hw t := (mem_dstOf c w hw t y).2 (by omega)
  refine (written_on c w hw M1 f1 fv hd t y hi).trans ?_
  rw [e]
  exact landed_at c w hw M1 f1 fv (tripOf t) (partOf t) r l

/-- OFF them. -/
theorem written_else (y : S671744x128.Idx) (h : ∀ t : Fin 2048, ¬ ((byNo w t).toNat ≤ (y 0).val ∧ (y 0).val < (byNo w t).toNat + 8)) :
    written c w hw M1 f1 fv y = fv y :=
  written_off c w hw M1 f1 fv y fun ⟨t, ht⟩ => h t ((mem_dstOf c w hw t y).1 ht)

end Landed

open Classical in
/-- The table after a step, of the step's words `w`, its block `X` of token rows and the table `T` before. -/
def stepOut (w : Fin k0_t1_loop.trips → Fin 4 → BitVec 32) (X : S4096x128.Idx → Elt F .f32) (T : S671744x128.Idx → Elt F .f32) :
    S671744x128.Idx → Elt F .f32 := fun y =>
  if h : ∃ t : Fin 2048, (byNo w t).toNat ≤ (y 0).val ∧ (y 0).val < (byNo w t).toNat + 8 then
    X (ix2 ⟨8 * (h.choose.val / 4) + ((y 0).val - (byNo w h.choose).toNat), by have := h.choose_spec; have := h.choose.isLt; omega⟩ (y 1))
  else T y

theorem written_eq (c : Dev nD) (w : Fin k0_t1_loop.trips → Fin 4 → BitVec 32) (hw : ∀ k j, k0_chk1 (w k j))
    (M1 : Memref sig .tc .vmem S4096x128 .f32) (f1 : Cont (F := F) c M1) (fv : Cont (F := F) c tabM) (hd : Distinct w) :
    written c w hw M1 f1 fv = stepOut w (M1.view.read (Elt F) f1) fv := by
  funext y
  unfold stepOut
  by_cases h : ∃ t : Fin 2048, (byNo w t).toNat ≤ (y 0).val ∧ (y 0).val < (byNo w t).toNat + 8
  · rw [dif_pos h]
    have hs := h.choose_spec
    exact written_row c w hw M1 f1 fv hd h.choose ⟨(y 0).val - (byNo w h.choose).toNat, by omega⟩ (y 1) y (by dsimp only; omega) rfl
  · rw [dif_neg h]
    exact written_else c w hw M1 f1 fv y fun t ht => h ⟨t, ht⟩

end Cert.Proof.Dispatch

end
-- ==== Proof.Dispatch.Launch.lean ====
/- The dispatch kernel launched: the table after each grid step, the body's obligation at a symbolic step, and the run of
   @main, for any float values, from any memory whose slots are in range and distinct within each step. -/
module

public import proofs.«01_k».proof.Proof.Dispatch.Body
public import proofs.«01_k».proof.Proof.Dispatch.Step
public import proofs.«01_k».proof.Proof.Gen.KernelIdeal.Frame

@[expose] public section

noncomputable section

namespace Cert.Proof.Dispatch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-- The words of step `t` on core `c`. -/
def wordsAt (c : Dev nD) (t : Fin cfg0.N) : Fin k0_t1_loop.trips → Fin 4 → BitVec 32 := wordOf (iblk m c 0 t)

/-- What the run asks of the launch memory: each step's words are aligned, in range and distinct rows. -/
def AllOK : Prop := ∀ (c : Dev nD) (t : Fin cfg0.N), (∀ k j, k0_chk1 (wordsAt m c t k j)) ∧ Distinct (wordsAt m c t)

/-- The table after the first `n` steps. -/
def tab (c : Dev nD) : ℕ → (S671744x128.Idx → Elt F .f32)
  | 0 => V m c main_v2
  | n + 1 => if h : n < cfg0.N then stepOut (wordsAt m c ⟨n, h⟩) (iblk m c 1 ⟨n, h⟩) (tab c n) else tab c n

theorem tab_succ (c : Dev nD) (t : Fin cfg0.N) : tab m c (t.val + 1) = stepOut (wordsAt m c t) (iblk m c 1 t) (tab m c t.val) := by
  rw [tab, dif_pos t.isLt]

/-- The buffers as the region finds them, but the table, which is as after `n` steps. -/
def Y (n : ℕ) (c : Dev nD) : (b : Ref sig .tc) → Buf (Elt F) ((c : Thread nD τ).loc b) := Function.update (V m c) main_v2 (tab m c n)

theorem Y_tab (n : ℕ) (c : Dev nD) : Y m n c main_v2 = tab m c n := Function.update_self ..
theorem Y_zero (c : Dev nD) : Y m 0 c = V m c := Function.update_eq_self ..

abbrev osem : Unit → SemLoc sig := fun _ => cell
abbrev RT : Finset (Ref sig .tc) := {main_v2}

theorem ownSemFacts : Pipeline.OwnSemFacts spec0 osem := by decide

theorem ends_eq (c : Dev nD) (W : (b : Ref sig .tc) → Buf (Elt F) ((c : Thread nD τ).loc b)) :
    (Ends spec0 osem RT c W : sProp 𝕄)
      = iprop(held c tabM (W main_v2) ∗ semVal (c, cell) 0 ∗ BI.emp ∗ ∃ r, prngReg c r) := by
  unfold Ends Pipeline.routed
  rw [BI.bigSep_singleton, Pipeline.ownSems0_eq_of_list c osem [()] (by decide) (by decide), scopedRest0_eq]
  rfl

/-- The proof data: each staged block is left as it is, the table is as after the step. -/
def dats (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
  Φ t := Ends spec0 osem RT c (Y m t.val c)
  q _ := fullShare
  owed _ := 0

theorem before_0 (c : Dev nD) (t : Fin cfg0.N) (d) : (dats m 0 c).before 0 t d = iblk m c 0 t := by
  rw [(dats m 0 c).before_fetched 0 t (fetch0_0 t)]; unfold Dat.fetched Dat.blockOf; dsimp only [dats]; rfl
theorem before_1 (c : Dev nD) (t : Fin cfg0.N) (d) : (dats m 0 c).before 1 t d = iblk m c 1 t := by
  rw [(dats m 0 c).before_fetched 1 t (fetch0_1 t)]; unfold Dat.fetched Dat.blockOf; dsimp only [dats]; rfl

/-- The body at step `t`, in the staging buffers of the step, at any contents that read the step's blocks. -/
theorem body_at [∀ e, Nonempty (Elt F e)] (hok : AllOK m) (c : Dev nD) (t : Fin cfg0.N) (M0 : Memref sig .tc .smem S2048 .i32)
    (M1 : Memref sig .tc .vmem S4096x128 .f32) (f0 : Cont (F := F) c M0) (f1 : Cont (F := F) c M1)
    (e0 : M0.view.read (Elt F) f0 = iblk m c 0 t) (e1 : M1.view.read (Elt F) f1 = iblk m c 1 t)
    (i : grid0.Coords) (h0 : M0.IsWhole) (h1 : M1.IsWhole) (h3 h4 : tabM.IsWhole) (W) (Q) :
    held c M0 f0 ∗ held c M1 f1 ∗ held c tabM (tab m c t.val) ∗ semVal (c, cell) 0 ∗ owes c 0 W
      ∗ ((held c M0 f0 ∗ held c M1 f1 ∗ held c tabM (tab m c (t.val + 1)) ∗ semVal (c, cell) 0 ∗ ∃ W, owes c 0 W) -∗ Q ⟨⟩)
    ⊢ (wp frame (wpE defs₀ Variants.none c none) Set.univ (cc0_moe_dispatch i M0 h0 M1 h1 tabM h3 tabM h4 cc0_scratch0) Q : sProp 𝕄) := by
  have hwd : word M0 f0 = wordsAt m c t := by rw [word_eq, e0]; rfl
  obtain ⟨hw, hd⟩ := hok c t
  have key := written_eq c (wordsAt m c t) hw M1 f1 (tab m c t.val) hd
  rw [e1, ← tab_succ] at key
  rw [← key]
  exact body_run_words c M0 f0 M1 f1 (tab m c t.val) (wordsAt m c t) hwd hw hd i h0 h1 h3 h4 W Q

set_option maxRecDepth 16384 in
theorem body_obligation [∀ e, Nonempty (Elt F e)] (hok : AllOK m) (c : Dev nD) :
    BodyObligation (dats m 0 c) (defs₀ (F := F)) Variants.none () Set.univ := fun t => by
  rw [bigSep_W0, bigSep_W0]
  rw [show (dats m 0 c).Φ t.castSucc = Ends spec0 osem RT c (Y m t.val c) from rfl,
    show (dats m 0 c).Φ t.succ = Ends spec0 osem RT c (Y m (t.val + 1) c) from rfl, ends_eq, ends_eq, Y_tab, Y_tab]
  unfold Dat.owesAt Pipeline.owesWithin owns
  rw [show (dats m 0 c).owed t.castSucc = 0 from rfl, show (dats m 0 c).owed t.succ = 0 from rfl]
  rw [show ((cfg0.win 0).stage (cfg0.slots t 0)).view.set = Finset.univ from (hstage0_0 ((cfg0.slots t 0).cast nbuf0_0)).set_eq_univ,
    show ((cfg0.win 1).stage (cfg0.slots t 1)).view.set = Finset.univ from (hstage0_1 ((cfg0.slots t 1).cast nbuf0_1)).set_eq_univ]
  iintro ⟨⟨Hv, Hs, -, Hp⟩, ⟨%W, %hW, HO⟩, ⟨%d0, %f0, %hf0, H0⟩, ⟨%d1, %f1, %hf1, H1⟩⟩
  rw [before_0] at hf0
  rw [before_1] at hf1
  iapply (body_at m hok c t (win0_0.stage (cfg0.slots t 0)) (win0_1.stage (cfg0.slots t 1)) f0 f1 hf0 hf1
    (grid0.coords t) (hstage0_0 ((cfg0.slots t 0).cast nbuf0_0)) (hstage0_1 ((cfg0.slots t 1).cast nbuf0_1))
    (Memref.isWhole_whole _) (Memref.isWhole_whole _) W)
  isplitl [H0]; · iexact H0
  isplitl [H1]; · iexact H1
  isplitl [Hv]; · iexact Hv
  isplitl [Hs]; · iexact Hs
  isplitl [HO]; · iexact HO
  iintro ⟨H0, H1, Hv, Hs, ⟨%W', HO⟩⟩
  isplitl [Hv Hs Hp]
  · isplitl [Hv]; · iexact Hv
    isplitl [Hs]; · iexact Hs
    isplitr; · iempintro
    iexact Hp
  isplitl [HO]
  · iexists W'; isplitr; · ipureintro; exact fun _ _ => Or.inl trivial
    iexact HO
  isplitl [H0]
  · iexists f0; isplitr; swap; (· iexact H0); ipureintro; exact hf0
  · iexists f1; isplitr; swap; (· iexact H1); ipureintro; exact hf1

/-- THE RUN: @main terminates; the two staged arrays and the other buffers end as the region found them, the table as
    after the last step, and every counter at zero. -/
theorem run_main [∀ e, Nonempty (Elt F e)] (hok : AllOK m) :
    θ_run defs (onTc (τ := τ) (main (F := F))) (s₀ m ρ)
      (fun r => RoutedPost cfgs (dats m) 0 RT (V m) (Y m cfg0.N) r ∧ r.2.sem = fun _ => 0) :=
  Pipeline.θ_run_frame_routed cfgs (dats m) 0 launch0 ownSemFacts defs₀ Variants.none m ρ main
    (hbody := fun c => (body_obligation m hok c).loose) (hshare := fun c => (dats m 0 c).share_full fun _ => rfl)
    (howed := fun _ _ => rfl) (V := V m)
    (hmain := Pipeline.hmain_prefix cfgs 0 defs₀ Variants.none m main hostOps0 hostOps0_sub hostOps0_fresh main_chain)
    (hA := fun _ _ => rfl) (R := RT) (hR := by decide) (Y := Y m cfg0.N)
    (hin := fun c => by rw [show (dats m 0 c).Φ 0 = Ends spec0 osem RT c (Y m 0 c) from rfl, Y_zero])
    (hout := fun _ => .rfl) (Q' := _)

/-- THE FRAME with the table's final contents. -/
theorem run_values [∀ e, Nonempty (Elt F e)] (hok : AllOK m) :
    θ_run defs (onTc (τ := τ) (main (F := F))) ⟨m, fun _ => 0, ρ⟩ (fun r => (∀ c : Dev nD,
      r.2.mem ((c.tc : Thread nD τ).loc main_v2) = tab m c cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ ⟨h, hz⟩ => ⟨fun c =>
    ⟨((h c).2.1 main_v2 (by decide)).trans (Y_tab m _ c),
      ((h c).1 1).trans (((dats m 0 c).arrAt_in 1 rfl _).trans (V_main_arg0 m c)),
      ((h c).2.2 main_arg1 (by decide)).trans (V_main_arg1 m c)⟩, hz⟩) (run_main m ρ hok)

end Cert.Proof.Dispatch

end
-- ==== Proof.Dispatch.Slots.lean ====
/- The precondition read: every slot word is below 83968 and no two assignments share a slot. And where a scatter of
   scalars by one index word each lands. -/
module

public import proofs.«01_k».proof.Defs
public import proofs.«01_k».proof.Proof.Gen.Pre_slots_distinct
public import Idealize.ShloMosaic.Lib.Routing.OpsSet
public import Idealize.ShloMosaic.Lib.Routing.OpsPair
public import Idealize.ShloMosaic.Lib.ValueIdxCore

@[expose] public section

noncomputable section

namespace Cert.Proof.Dispatch

open Idealize.ShloMosaic Idealize.ShloMosaic.ValueIdx Idealize.ShloMosaic.Routing

variable {F : FTy → Type} [FloatOps F]

/-- The slots are in range and distinct. -/
def SlotsOK (s : Cert.Pre_slots_distinct.S65536.Idx → BitVec 32) : Prop :=
  (∀ i : Fin 65536, (s (ix1 i)).toNat < 83968) ∧ ∀ i i' : Fin 65536, s (ix1 i) = s (ix1 i') → i = i'

/-- An update of one scalar by one index word lands at entry `e` exactly when the word, read signed, is `e`. -/
theorem lands_at {M N : Nat} (d : ScatterDims (shape1 M) (shape2 N 1) (shape1 N)) (hiw : d.insertedWindowDims = [0])
    (hsd : d.scatterDimsToOperandDims = [0]) (hivd : d.indexVectorDim = 1) (idx : IVec (shape2 N 1) 32) (i : Fin N) (e : Fin M) :
    d.resultIdx? (ix1 i) idx = some (ix1 e) ↔ (idx (ix2 i (0 : Fin 1))).toInt = (e.val : Int) := by
  have hin : (0 : Fin 1) ∈ d.scatterDimsToOperandDims := by rw [hsd]; exact List.mem_singleton.2 rfl
  have hw : d.window (ix1 i) 0 = 0 := by
    unfold ScatterDims.window
    refine dif_neg fun h => ?_
    have h2 := of_decide_eq_true (List.mem_filter.1 h).2
    rw [hiw] at h2
    exact h2 (List.mem_singleton.2 rfl)
  have hs : d.start (ix1 i) idx 0 = (idx (ix2 i (0 : Fin 1))).toInt := by
    unfold ScatterDims.start
    rw [dif_pos hin]
    refine congrArg (fun q => (idx q).toInt) (funext fun b => Fin.ext ?_)
    unfold ScatterDims.siIdx
    match b with
    | ⟨0, _⟩ =>
      rw [dif_neg (by rw [hivd]; exact Nat.zero_ne_one)]
      unfold ScatterDims.siCoord
      have one : ∀ a : Fin 1, (ix1 i a).val = i.val := fun a => by rw [Subsingleton.elim a 0]
      exact (Fin.val_cast ..).trans (one _)
    | ⟨1, _⟩ =>
      rw [dif_pos (by rw [hivd])]
      show d.scatterDimsToOperandDims.idxOf (0 : Fin 1) = 0
      rw [hsd]; simp
  rw [resultIdx?_ix1, hw, hs]
  simp

/-- A word in `[0, n)`, signed, is below `n`. -/
theorem toNat_lt_of (v : BitVec 32) (n : ℕ) (hn : n < 2 ^ 31) (h0 : IntOp.cmpi .sge v 0#32 = 1#1)
    (h1 : IntOp.cmpi .slt v (BitVec.ofNat 32 n) = 1#1) : v.toNat < n := by
  have one : ∀ b : Bool, BitVec.ofBool b = 1#1 → b = true := by decide
  have a := one _ h0
  have b := one _ h1
  simp only [BitVec.sle, BitVec.slt, decide_eq_true_eq] at a b
  rw [StableHlo.Predicate.toInt_ofNat_small n hn] at b
  have z : (0#32).toInt = 0 := by decide
  rw [z] at a
  have := v.isLt
  rw [BitVec.toInt_eq_toNat_cond] at a b
  split at a <;> omega

theorem and_one {a b : BitVec 1} (h : IntOp.andi a b = 1#1) : a = 1#1 ∧ b = 1#1 := by
  revert a b; decide

theorem cmpi_eq_one {a b : BitVec 32} (h : IntOp.cmpi .eq a b = 1#1) : a = b := by
  have one : ∀ b : Bool, BitVec.ofBool b = 1#1 → b = true := by decide
  exact beq_iff_eq.1 (one _ h)

/-- A word below `n ≤ 2 ^ 31` is left as it is by the wrap of a negative index. -/
theorem wrap_small (v a : BitVec 32) (h : v.toNat < 2 ^ 31) : Scalar.select (IntOp.cmpi .slt v 0#32) (IntOp.addi v a) v = v :=
  wrap_of_lt v (IntOp.addi v a) h

open Cert.Pre_slots_distinct Cert.Pre_slots_distinct.Facts in
/-- Reading a table of the slots at assignment `j`'s slot. -/
theorem read_back (T : IVec S83968 32) (s z n : IVec S65536 32) (hz : ∀ i, z i = 0#32) (j : Fin 65536) (h : (s (ix1 j)).toNat < 83968) :
    Host.gather gather_S83968_S65536x1_S65536_n_0_n_n_0_1_1 T
      (broadcastInDim S65536x1 ![0] bcast_S65536_S65536x1_0 (select (cmpi .slt s z) (addi s n) s)) (ix1 j) = T (ix1 ⟨(s (ix1 j)).toNat, h⟩) := by
  refine gather_take1 gather_S83968_S65536x1_S65536_n_0_n_n_0_1_1 rfl rfl rfl rfl T _ j ⟨(s (ix1 j)).toNat, h⟩ ?_ (by decide)
  refine (broadcastInDim_apply (s := S65536) (t := S65536x1) ![0] _ _ (ix2 j (0 : Fin 1)) (ix1 j)
    (fun a => match a with | ⟨0, _⟩ => (if_neg (by decide : ¬ (65536 : ℕ) = 1)).symm)).trans ?_
  show Scalar.select (IntOp.cmpi .slt (s (ix1 j)) (z (ix1 j))) (IntOp.addi (s (ix1 j)) (n (ix1 j))) (s (ix1 j)) = _
  rw [hz, wrap_small _ _ (lt_trans h (by decide)), BitVec.ofNat_toNat, BitVec.setWidth_eq]

theorem slots_of_pre (x : FVec F Cert.Pre_slots_distinct.S131072x128 .f32) (s : IVec Cert.Pre_slots_distinct.S65536 32)
    (h : Cert.Pre_slots_distinct.fn (F := F) x s = fun _ => 1#1) : SlotsOK s := by
  unfold Cert.Pre_slots_distinct.fn Cert.Pre_slots_distinct.fn_part1 at h
  dsimp only at h
  have hlt : ∀ i : Fin 65536, (s (ix1 i)).toNat < 83968 := fun i => by
    have e := and_one (and_one (congrFun h (ix1 i))).1
    exact toNat_lt_of _ 83968 (by decide) e.1 e.2
  refine ⟨hlt, fun i i' hii => ?_⟩
  generalize Host.scatter _ _ _ _ _ = T at h
  have key : ∀ j : Fin 65536, T (ix1 ⟨(s (ix1 j)).toNat, hlt j⟩) = BitVec.ofNat 32 j.val := fun j => by
    have e := cmpi_eq_one (and_one (congrFun h (ix1 j))).2
    refine (read_back T s _ _ ?_ j (hlt j)).symm.trans e
    exact fun _ => rfl
  have e : (⟨(s (ix1 i)).toNat, hlt i⟩ : Fin 83968) = ⟨(s (ix1 i')).toNat, hlt i'⟩ := Fin.ext (congrArg BitVec.toNat hii)
  have e2 := (key i).symm.trans ((congrArg (fun q => T (ix1 q)) e).trans (key i'))
  have e3 := congrArg BitVec.toNat e2
  have := i.isLt
  have := i'.isLt
  rw [BitVec.toNat_ofNat, BitVec.toNat_ofNat, Nat.mod_eq_of_lt (by omega), Nat.mod_eq_of_lt (by omega)] at e3
  exact Fin.ext e3

end Cert.Proof.Dispatch

end
-- ==== Proof.Dispatch.Value.lean ====
/- What the launch leaves in the slot table: on the 8 rows of a slot that an assignment `a` has, token `a / 4`'s 8 rows;
   on every other row zero. -/
module

public import proofs.«01_k».proof.Proof.Dispatch.Launch
public import proofs.«01_k».proof.Proof.Dispatch.Slots
public import Idealize.ShloMosaic.Lib.Claim

@[expose] public section

noncomputable section

namespace Cert.Proof.Dispatch

open Cert.KernelIdeal Cert.KernelIdeal.Gen
open Idealize.ShloMosaic Idealize.ShloMosaic.TcCoe Idealize.ShloMosaic.ValueIdx

variable {F : FTy → Type} [FloatOps F]

section Entry

variable (m : (ℓ : Loc nD τ sig) → Buf (Elt F) ℓ) (c : Dev nD)

/-- The slots and the tokens' rows as launched. -/
abbrev slots : S65536.Idx → BitVec 32 := m ((c : Thread nD τ).loc main_arg1)
abbrev rows : S131072x128.Idx → Elt F .f32 := m ((c : Thread nD τ).loc main_arg0)

theorem entry_words (i : S65536.Idx) : (V m c main_v1 : S65536.Idx → BitVec 32) i = slots m c i * 8#32 := by
  entry_read
  rfl

theorem entry_table (y : S671744x128.Idx) : (V m c main_v2 : S671744x128.Idx → Elt F .f32) y = FloatOps.ofBits .f32 0x00000000#32 := by
  entry_read
  rfl

/-- Assignment number `n` of step `t`. -/
def asg (t : Fin cfg0.N) (n : Fin 2048) : Fin 65536 := ⟨2048 * t.val + n.val, by have h : t.val < 32 := t.isLt; omega⟩

theorem at_words : ∀ t : Fin cfg0.N, cc0_transform_0 (grid0.coords t) 0 = t.val := by decide +kernel
theorem at_rows0 : ∀ t : Fin cfg0.N, cc0_transform_1 (grid0.coords t) 0 = t.val := by decide +kernel
theorem at_rows1 : ∀ t : Fin cfg0.N, cc0_transform_1 (grid0.coords t) 1 = 0 := by decide +kernel

theorem word_at (t : Fin cfg0.N) (n : Fin 2048) :
    (iblk m c 0 t : S2048.Idx → BitVec 32) (ix1 n) = slots m c (ix1 (asg t n)) * 8#32 := by
  rw [← entry_words]
  unfold iblk
  rw [View.read_apply]
  refine congrArg (V m c main_v1 : S65536.Idx → BitVec 32) (funext fun a => Fin.ext ?_)
  have h := at_words t
  fin_cases a
  show cc0_transform_0 (grid0.coords t) 0 * 2048 + 1 * n.val = 2048 * t.val + n.val
  omega

theorem rows_at (t : Fin cfg0.N) (r : Fin 4096) (l : Fin 128) :
    (iblk m c 1 t : S4096x128.Idx → Elt F .f32) (ix2 r l)
      = rows m c (ix2 ⟨4096 * t.val + r.val, by have h : t.val < 32 := t.isLt; omega⟩ l) := by
  unfold rows
  rw [← V_main_arg0 m c]
  unfold iblk
  rw [View.read_apply]
  refine congrArg (V m c main_arg0 : S131072x128.Idx → Elt F .f32) (funext fun a => Fin.ext ?_)
  have h := at_rows0 t
  have h' := at_rows1 t
  fin_cases a
  · show cc0_transform_1 (grid0.coords t) 0 * 4096 + 1 * r.val = 4096 * t.val + r.val; omega
  · show cc0_transform_1 (grid0.coords t) 1 * 128 + 1 * l.val = l.val; omega

theorem times8 (v : BitVec 32) (h : v.toNat < 83968) : (v * 8#32).toNat = 8 * v.toNat := by
  rw [BitVec.toNat_mul]
  show v.toNat * 8 % 2 ^ 32 = _
  omega

theorem byNo_toNat (h : SlotsOK (slots m c)) (t : Fin cfg0.N) (n : Fin 2048) :
    (byNo (wordsAt m c t) n).toNat = 8 * (slots m c (ix1 (asg t n))).toNat := by
  unfold wordsAt
  rw [byNo_wordOf]
  refine (congrArg BitVec.toNat (word_at m c t n)).trans (times8 _ (h.1 _))

end Entry

section Table

variable (m : (ℓ : Loc nD τ sig) → Buf (Elt F) ℓ)

theorem allOK_of_slots (h : ∀ c : Dev nD, SlotsOK (slots m c)) : AllOK m := fun c t => by
  refine ⟨fun k j => ?_, fun n n' hn e => hn ?_⟩
  · have e : wordsAt m c t k j = slots m c (ix1 (asg t (noOf k j))) * 8#32 := word_at m c t (noOf k j)
    rw [e]
    have hs := (h c).1 (asg t (noOf k j))
    have h8 := times8 _ hs
    refine ⟨?_, fun a => ?_⟩
    · show 8 ∣ (slots m c (ix1 (asg t (noOf k j))) * 8#32).toNat
      rw [h8]; exact ⟨_, rfl⟩
    · fin_cases a
      · show (slots m c (ix1 (asg t (noOf k j))) * 8#32).toNat + 8 ≤ 671744
        omega
      · show 0 + 128 ≤ 128
        omega
  · have e2 := congrArg BitVec.toNat e
    rw [byNo_toNat m c (h c), byNo_toNat m c (h c)] at e2
    have e3 := (h c).2 _ _ (BitVec.eq_of_toNat_eq (Nat.eq_of_mul_eq_mul_left (by decide) e2))
    have e4 : 2048 * t.val + n.val = 2048 * t.val + n'.val := congrArg Fin.val e3
    exact Fin.ext (by omega)

variable (c : Dev nD) (h : SlotsOK (slots m c))

include h in
/-- A step, at a row of slot `s` that its assignment number `k` has. -/
theorem step_hit (t : Fin cfg0.N) (T : S671744x128.Idx → Elt F .f32) (k : Fin 2048) (y : S671744x128.Idx)
    (hk : (y 0).val / 8 = (slots m c (ix1 (asg t k))).toNat) :
    stepOut (wordsAt m c t) (iblk m c 1 t) T y
      = rows m c (ix2 ⟨8 * ((asg t k).val / 4) + (y 0).val % 8, by have := (asg t k).isLt; omega⟩ (y 1)) := by
  have ex : ∃ n : Fin 2048, (byNo (wordsAt m c t) n).toNat ≤ (y 0).val ∧ (y 0).val < (byNo (wordsAt m c t) n).toNat + 8 :=
    ⟨k, by rw [byNo_toNat m c h]; omega⟩
  unfold stepOut
  rw [dif_pos ex]
  have hs := ex.choose_spec
  have hn := byNo_toNat m c h t ex.choose
  have e : ex.choose = k := by
    have e3 := h.2 (asg t ex.choose) (asg t k) (BitVec.eq_of_toNat_eq (by omega))
    have e4 : 2048 * t.val + ex.choose.val = 2048 * t.val + k.val := congrArg Fin.val e3
    exact Fin.ext (by omega)
  refine (rows_at m c t _ _).trans (congrArg (rows m c) ?_)
  have ha : (asg t k).val = 2048 * t.val + k.val := rfl
  have ev : ex.choose.val = k.val := congrArg Fin.val e
  have ek : (slots m c (ix1 (asg t ex.choose))).toNat = (y 0).val / 8 := by rw [e]; exact hk.symm
  refine congrArg (fun q => (ix2 q (y 1) : S131072x128.Idx)) (Fin.ext ?_)
  show 4096 * t.val + (8 * (ex.choose.val / 4) + ((y 0).val - (byNo (wordsAt m c t) ex.choose).toNat)) = 8 * ((asg t k).val / 4) + (y 0).val % 8
  omega

include h in
/-- A step, at a row of a slot that none of its assignments has. -/
theorem step_miss (t : Fin cfg0.N) (T : S671744x128.Idx → Elt F .f32) (y : S671744x128.Idx)
    (hk : ∀ k : Fin 2048, (y 0).val / 8 ≠ (slots m c (ix1 (asg t k))).toNat) :
    stepOut (wordsAt m c t) (iblk m c 1 t) T y = T y := by
  unfold stepOut
  refine dif_neg ?_
  rintro ⟨n, hn⟩
  rw [byNo_toNat m c h] at hn
  exact hk n (by omega)

include h in
theorem tab_hit (n : ℕ) (hn : n ≤ cfg0.N) (a : Fin 65536) (ha : a.val < 2048 * n) (y : S671744x128.Idx)
    (hy : (y 0).val / 8 = (slots m c (ix1 a)).toNat) :
    tab m c n y = rows m c (ix2 ⟨8 * (a.val / 4) + (y 0).val % 8, by have := a.isLt; omega⟩ (y 1)) := by
  induction n with
  | zero => omega
  | succ n ih =>
    rw [tab_succ m c ⟨n, hn⟩]
    by_cases hlt : a.val < 2048 * n
    · rw [step_miss m c h ⟨n, hn⟩ _ y ?_]
      · exact ih (Nat.le_of_succ_le hn) hlt
      · intro k hk
        have e3 := h.2 a (asg ⟨n, hn⟩ k) (BitVec.eq_of_toNat_eq (by omega))
        have e4 : a.val = 2048 * n + k.val := congrArg Fin.val e3
        omega
    · have e : a = asg ⟨n, hn⟩ ⟨a.val - 2048 * n, by omega⟩ := Fin.ext (by show a.val = 2048 * n + (a.val - 2048 * n); omega)
      rw [step_hit m c h ⟨n, hn⟩ _ ⟨a.val - 2048 * n, by omega⟩ y (by rw [← e]; exact hy)]
      refine congrArg (fun q => rows m c (ix2 q (y 1) : S131072x128.Idx)) (Fin.ext ?_)
      show 8 * ((asg ⟨n, hn⟩ ⟨a.val - 2048 * n, _⟩).val / 4) + _ = _
      rw [← e]

include h in
theorem tab_miss (n : ℕ) (hn : n ≤ cfg0.N) (y : S671744x128.Idx)
    (hy : ∀ a : Fin 65536, (y 0).val / 8 ≠ (slots m c (ix1 a)).toNat) : tab m c n y = FloatOps.ofBits .f32 0x00000000#32 := by
  induction n with
  | zero => exact entry_table m c y
  | succ n ih =>
    rw [tab_succ m c ⟨n, hn⟩, step_miss m c h ⟨n, hn⟩ _ y fun k => hy _]
    exact ih (Nat.le_of_succ_le hn)

end Table

end Cert.Proof.Dispatch

end
-- ==== Proof.Dispatch.Ref.lean ====
/- The reference's table at an index: token `a / 4`'s row on the slot that assignment `a` has, zero on a slot that none has. -/
module

public import proofs.«01_k».proof.Proof.Dispatch.Slots
public import proofs.«01_k».proof.Proof.Gen.ReferenceIdeal.Read

@[expose] public section

noncomputable section

namespace Cert.Proof.Dispatch.Ref

open Cert.ReferenceIdeal Cert.ReferenceIdeal.Gen Cert.ReferenceIdeal.Read
open Idealize.ShloMosaic Idealize.ShloMosaic.ValueIdx Idealize.ShloMosaic.Routing

variable {F : FTy → Type} [FloatOps F]

section

variable (x : (⟨S131072x128, .f32⟩ : BufTy).Contents (Elt F)) (s : (⟨S65536, .i32⟩ : BufTy).Contents (Elt F)) (h : SlotsOK s)

/-- The token of assignment `a`. -/
theorem token (a : Fin 65536) : val_main_v3 (F := F) (ix1 a) = BitVec.ofNat 32 (a.val / 4) := by
  rw [val_main_v3_apply, val_main_v2_apply]
  rfl

include h in
theorem index (a : Fin 65536) : (val_main_v10 (F := F) s (ix2 a (0 : Fin 1))).toInt = ((s (ix1 a)).toNat : ℤ) := by
  have hs := h.1 a
  have e : val_main_v10 (F := F) s (ix2 a (0 : Fin 1)) = s (ix1 a) := by
    rw [val_main_v10_apply, val_main_v9_apply]
    refine Eq.trans ?_ (wrap_small (s (ix1 a)) 83968#32 (lt_trans hs (by decide)))
    have : idx_main_v10 (ix2 a (0 : Fin 1)) = ix1 a := funext fun a => match a with | ⟨0, _⟩ => rfl
    rw [this]
    rfl
  rw [e, BitVec.toInt_eq_toNat_cond, if_pos (by omega)]

include h in
theorem slot_hit (a : Fin 65536) (e : Fin 83968) (he : e.val = (s (ix1 a)).toNat) :
    val_main_v11 (F := F) s (ix1 e) = BitVec.ofNat 32 (a.val / 4) := by
  unfold val_main_v11
  have lands := fun i : Fin 65536 => lands_at scatter_S83968_S65536x1_S65536_n_0_0_1 rfl rfl rfl (val_main_v10 (F := F) s) i e
  refine scatter_set_hit _ _ _ _ _ _ (fun k hk => ?_) (ix1 a) ((lands a).2 ?_)
  · obtain ⟨i, rfl⟩ : ∃ i, k = ix1 i := ⟨k 0, eq_ix1 k⟩
    have h1 := (lands i).1 hk
    rw [index s h] at h1
    have : i = a := h.2 i a (BitVec.eq_of_toNat_eq (by omega))
    rw [this]
    exact token a
  · rw [index s h, he]

include h in
theorem slot_miss (e : Fin 83968) (he : ∀ a : Fin 65536, e.val ≠ (s (ix1 a)).toNat) :
    val_main_v11 (F := F) s (ix1 e) = BitVec.ofNat 32 16384 := by
  unfold val_main_v11
  have lands := fun i : Fin 65536 => lands_at scatter_S83968_S65536x1_S65536_n_0_0_1 rfl rfl rfl (val_main_v10 (F := F) s) i e
  refine (scatter_set_miss _ _ _ _ _ fun k hk => ?_).trans ?_
  · obtain ⟨i, rfl⟩ : ∃ i, k = ix1 i := ⟨k 0, eq_ix1 k⟩
    have h1 := (lands i).1 hk
    rw [index s h] at h1
    exact he i (by omega)
  · rw [val_main_v4_apply]; rfl

/-- The gather's row of slot `e`, the table of slots holding token row `b` there. -/
theorem row (e : Fin 83968) (b : Fin 16385) (hb : val_main_v11 (F := F) s (ix1 e) = BitVec.ofNat 32 b.val) (q : Fin 1024) :
    val_main_v20 (F := F) x s (ix2 e q) = val_main_v13 (F := F) x (ix2 b q) := by
  unfold val_main_v20
  refine gather_row gather_S16385x1024_S83968x1_S83968x1024_1_0_n_n_0_1_11024 rfl rfl rfl rfl rfl _ _ e q b ?_ (by decide)
  rw [val_main_v19_apply, val_main_v18_apply, ← hb]
  have hn : (val_main_v11 (F := F) s (ix1 e)).toNat < 2 ^ 31 := by
    rw [hb, BitVec.toNat_ofNat]; have := b.isLt; omega
  refine Eq.trans ?_ (wrap_small (val_main_v11 (F := F) s (ix1 e)) 16385#32 hn)
  have : idx_main_v19 (ix2 e (0 : Fin 1)) = ix1 e := funext fun a => match a with | ⟨0, _⟩ => rfl
  rw [this]
  rfl

theorem padded (b : Fin 16384) (q : Fin 1024) :
    val_main_v13 (F := F) x (ix2 ⟨b.val, by omega⟩ q)
      = x (ix2 ⟨8 * b.val + q.val / 128, by omega⟩ ⟨q.val % 128, by omega⟩) := by
  unfold val_main_v13
  refine (concatenate_pair_apply_left (t := S16385x1024) (s₁ := S16384x1024) (s₂ := S1x1024) 0 _ _ _
    (ix2 ⟨b.val, by omega⟩ q) rfl (ix2 b q) (fun a => match a with | ⟨0, _⟩ => rfl | ⟨1, _⟩ => rfl)).trans ?_
  rw [val_main_v0_apply]
  refine congrArg x (funext fun a => match a with
    | ⟨0, _⟩ => Fin.ext (by show (b.val * 1024 + q.val) / 128 = 8 * b.val + q.val / 128; omega)
    | ⟨1, _⟩ => Fin.ext (by show (b.val * 1024 + q.val) % 128 = q.val % 128; omega))

theorem padding (q : Fin 1024) : val_main_v13 (F := F) x (ix2 ⟨16384, by omega⟩ q) = FloatOps.ofBits .f32 0x00000000#32 := by
  unfold val_main_v13
  refine (concatenate_pair_apply_right (t := S16385x1024) (s₁ := S16384x1024) (s₂ := S1x1024) 0 _ _ _
    (ix2 ⟨16384, by omega⟩ q) rfl rfl (ix2 (0 : Fin 1) q) (fun a ha => match a, ha with
    | ⟨0, _⟩, ha => absurd rfl ha
    | ⟨1, _⟩, _ => rfl) rfl).trans ?_
  rw [val_main_v12_apply]
  rfl

include h in
theorem out_hit (a : Fin 65536) (y : S671744x128.Idx) (hy : (y 0).val / 8 = (s (ix1 a)).toNat) :
    val_main_v21 (F := F) x s y = x (ix2 ⟨8 * (a.val / 4) + (y 0).val % 8, by have := a.isLt; omega⟩ (y 1)) := by
  have h0 : (y 0).val < 671744 := (y 0).isLt
  have h1 : (y 1).val < 128 := (y 1).isLt
  have ha := a.isLt
  have e : idx_main_v21 y = ix2 (⟨(y 0).val / 8, by omega⟩ : Fin 83968) (⟨128 * ((y 0).val % 8) + (y 1).val, by omega⟩ : Fin 1024) :=
    funext fun a => match a with
      | ⟨0, _⟩ => Fin.ext (by show ((y 0).val * 128 + (y 1).val) / 1024 = (y 0).val / 8; omega)
      | ⟨1, _⟩ => Fin.ext (by show ((y 0).val * 128 + (y 1).val) % 1024 = 128 * ((y 0).val % 8) + (y 1).val; omega)
  rw [val_main_v21_apply, e, row x s _ ⟨a.val / 4, by omega⟩ (slot_hit s h a _ hy)]
  refine (padded x ⟨a.val / 4, by omega⟩ _).trans (congrArg x ?_)
  exact funext fun a' => match a' with
    | ⟨0, _⟩ => Fin.ext (by show 8 * (a.val / 4) + (128 * ((y 0).val % 8) + (y 1).val) / 128 = 8 * (a.val / 4) + (y 0).val % 8; omega)
    | ⟨1, _⟩ => Fin.ext (by show (128 * ((y 0).val % 8) + (y 1).val) % 128 = (y 1).val; omega)

include h in
theorem out_miss (y : S671744x128.Idx) (hy : ∀ a : Fin 65536, (y 0).val / 8 ≠ (s (ix1 a)).toNat) :
    val_main_v21 (F := F) x s y = FloatOps.ofBits .f32 0x00000000#32 := by
  have h0 : (y 0).val < 671744 := (y 0).isLt
  have h1 : (y 1).val < 128 := (y 1).isLt
  have e : idx_main_v21 y = ix2 (⟨(y 0).val / 8, by omega⟩ : Fin 83968) (⟨128 * ((y 0).val % 8) + (y 1).val, by omega⟩ : Fin 1024) :=
    funext fun a => match a with
      | ⟨0, _⟩ => Fin.ext (by show ((y 0).val * 128 + (y 1).val) / 1024 = (y 0).val / 8; omega)
      | ⟨1, _⟩ => Fin.ext (by show ((y 0).val * 128 + (y 1).val) % 1024 = 128 * ((y 0).val % 8) + (y 1).val; omega)
  rw [val_main_v21_apply, e, row x s _ ⟨16384, by omega⟩ (slot_miss s h _ hy)]
  exact padding x _

end

end Cert.Proof.Dispatch.Ref

end
-- ==== Proof.Dispatch.Claims.lean ====
/- The dispatch claims for any float values, of the ideal pair's programs: the two frames and the equal tables. -/
module

public import proofs.«01_k».proof.Proof.Dispatch.Value
public import proofs.«01_k».proof.Proof.Dispatch.Ref
public import proofs.«01_k».proof.Proof.Gen.ReferenceIdeal.Run

@[expose] public section

noncomputable section

namespace Cert.Proof.Dispatch

open Idealize.ShloMosaic Idealize.ShloMosaic.TcCoe Idealize.ShloMosaic.ValueIdx Idealize.SL.Sem

variable {F : FTy → Type} [FloatOps F]

/-- The reference's run, with its counters. -/
theorem ref_run (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_v21)
            = Cert.ReferenceIdeal.Read.val_main_v21 (F := F) (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c =>
      ⟨(h c).1.trans (Cert.ReferenceIdeal.Read.val_main_v21_eq _ _), (h c).2.1, (h c).2.2⟩, sem_eq_zero_of_no_sems (by decide) r.2⟩)
    (Cert.ReferenceIdeal.Value.run (F := F) m ρ)

/-- The two tables are one. -/
theorem tables_eq (m : (ℓ : Loc Cert.KernelIdeal.nD Cert.KernelIdeal.τ Cert.KernelIdeal.sig) → Buf (Elt F) ℓ) (c : Dev Cert.KernelIdeal.nD)
    (h : SlotsOK (slots m c)) :
    tab m c Cert.KernelIdeal.cfg0.N = Cert.ReferenceIdeal.Read.val_main_v21 (F := F) (rows m c) (slots m c) := by
  funext y
  by_cases e : ∃ a : Fin 65536, (y 0).val / 8 = (slots m c (ix1 a)).toNat
  · obtain ⟨a, ha⟩ := e
    exact (tab_hit m c h _ le_rfl a a.isLt y ha).trans (Ref.out_hit _ _ h a y ha).symm
  · have hy : ∀ a : Fin 65536, (y 0).val / 8 ≠ (slots m c (ix1 a)).toNat := fun a ha => e ⟨a, ha⟩
    exact (tab_miss m c h _ le_rfl y hy).trans (Ref.out_miss _ _ h y hy).symm

end Cert.Proof.Dispatch

end
-- ==== Proof.Experts.Tables.lean ====
/- The generated facts on the expert kernel, its reference and its precondition. -/
module

public import proofs.«01_k».proof.Defs
public import proofs.«01_k».proof.Proof.Gen.Kernel2
public import proofs.«01_k».proof.Proof.Gen.Kernel2Ideal.Launch
public import proofs.«01_k».proof.Proof.Gen.Kernel2Ideal.Skeleton
public import proofs.«01_k».proof.Proof.Gen.Reference2Ideal.Read
public import proofs.«01_k».proof.Proof.Gen.Pre_blocks_used
-- ==== Proof.Experts.Body.lean ====
/- The expert kernel's body: its values as functions of the blocks that it finds, and its steps. -/
module

public import proofs.«01_k».proof.Proof.Experts.Tables
public import Idealize.ShloMosaic.Lib.Pipeline.Frame
public import Idealize.ShloMosaic.Lib.Exec
public import Idealize.ShloMosaic.Lib.VecWindow

@[expose] public section

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev TB : Memref sig .tc .smem S164 .i32 := Memref.whole main_v25
abbrev TN : Memref sig .tc .smem S1 .i32 := Memref.whole main_v26
abbrev G0 : Memref sig .tc .vmem S1024x2048 .bf16 := Memref.whole cc0_scratch0
abbrev G1 : Memref sig .tc .vmem S1024x1024 .bf16 := Memref.whole cc0_scratch1

variable (c : Dev nD)

abbrev Cont {sp : Space} {s : Shape} {e : EltTy} (M : Memref sig .tc sp s e) : Type := Buf (Elt F) (M.view.loc (c : Thread nD τ))
abbrev held {sp : Space} {s : Shape} {e : EltTy} (M : Memref sig .tc sp s e) (f : Cont (F := F) c M) : sProp 𝕄 :=
  iprop((M.view.loc (c : Thread nD τ)) ↦{fullShare} f)
abbrev heldR {sp : Space} {s : Shape} {e : EltTy} (M : Memref sig .tc sp s e) (f : Cont (F := F) c M) : sProp 𝕄 :=
  iprop((M.view.loc (c : Thread nD τ)) ↦{fullShare.right} f)

/-- The word table `b` holds at the offset `o`. -/
def wB (b : Cont (F := F) c TB) (o : Fin 1 → ℕ) (h : ∀ a, o a + S1.size a ≤ S164.size a) : BitVec 32 :=
  TB.view.readAt (Elt F) (Rect.unit (s := S164) o S1.size h).toLoadRect b (Shape.Idx.first (show 0 < S1.numel by decide))
/-- The word of the one-word table `n`. -/
def wN (n : Cont (F := F) c TN) : BitVec 32 :=
  TN.view.readAt (Elt F) (Rect.unit (s := S1) ![0] S1.size inb_S1_S1_0).toLoadRect n (Shape.Idx.first (show 0 < S1.numel by decide))

/-- Whether the body converts the weights at point `i`, the block's expert `x` and the previous block's `y`. -/
def reload (i : grid0.Coords) (x y : BitVec 32) : BitVec 1 :=
  Scalar.cmpi .ne (Scalar.extui (Scalar.ori (Scalar.cmpi .eq (BitVec.ofNat 32 (i 0).val) 0#32) (Scalar.cmpi .ne x y)) : BitVec 32) 0#32

/-- Rows `s`, `s + 8`, … of a block: columns `128 s … 128 s + 127` of the block read as 512 rows of 1024. -/
def xcol (X : S4096x128.Idx → Elt F .f32) (s : Fin 8) : S512x128.Idx → Elt F .f32 := fun x =>
  X (ValueIdx.ix2 ⟨s.val + 8 * (x 0).val, by have := (x 0).isLt; have := s.isLt; show _ < 4096; change _ < 512 at *; omega⟩ (x 1))

/-- The activations of a block of rows. -/
def hid (X : S4096x128.Idx → Elt F .f32) (W : S1024x2048.Idx → Elt F .bf16) (B : S1x1x1x2048.Idx → Elt F .f32) : S512x1024.Idx → Elt F .bf16 :=
  k0_pay13 (xcol X 0) (xcol X 1) (xcol X 2) (xcol X 3) (xcol X 4) (xcol X 5) (xcol X 6) (xcol X 7) W B

/-- A matrix of 512 rows of 1024 laid out as 4096 rows of 128. -/
def spread (P : S512x1024.Idx → Elt F .f32) : S4096x128.Idx → Elt F .f32 := fun y =>
  P (ValueIdx.ix2 ⟨(y 0).val / 8, by have h : (y 0).val < 4096 := (y 0).isLt; show _ < 512; omega⟩
    ⟨128 * ((y 0).val % 8) + (y 1).val, by have h : (y 1).val < 128 := (y 1).isLt; show _ < 1024; omega⟩)

/-- What a used block's body leaves. -/
def outBlk (X : S4096x128.Idx → Elt F .f32) (W0 : S1024x2048.Idx → Elt F .bf16) (B0 : S1x1x1x2048.Idx → Elt F .f32)
    (W1 : S1024x1024.Idx → Elt F .bf16) (B1 : S1x1x1x1024.Idx → Elt F .f32) : S4096x128.Idx → Elt F .f32 :=
  spread (k0_pay3 (hid X W0 B0) W1 B1)

/-- The piece of columns `128 s …` is the laid-out matrix on the rows `s`, `s + 8`, …. -/
theorem spread_emb (s o : ℕ) (hs : s < 8) (ho : o = 128 * s) (P : S512x1024.Idx → Elt F .f32)
    (hsl : S512x1024.Slices ![0, o] S512x128) (x : S512x128.Idx) (inb sp) :
    extractStridedSlice S512x128 ![0, o] P hsl x
      = spread P ((⟨(⟨![s, 0], S512x128.size, ![8, 1], inb⟩ : LoadRect S4096x128), sp⟩ : Rect S4096x128).emb x) := by
  have h0 : (x 0).val < 512 := (x 0).isLt
  have h1 : (x 1).val < 128 := (x 1).isLt
  refine congrArg P (funext fun a => match a with
    | ⟨0, _⟩ => Fin.ext ?_
    | ⟨1, _⟩ => Fin.ext ?_)
  · show 0 + (x 0).val = (s + 8 * (x 0).val) / 8
    omega
  · show o + (x 1).val = 128 * ((s + 8 * (x 0).val) % 8) + (0 + 1 * (x 1).val)
    omega

theorem mem_strided (s : ℕ) (y : S4096x128.Idx) (h : (y 0).val % 8 = s) (inb sp) :
    y ∈ (⟨(⟨![s, 0], S512x128.size, ![8, 1], inb⟩ : LoadRect S4096x128), sp⟩ : Rect S4096x128).set := by
  have h0 : (y 0).val < 4096 := (y 0).isLt
  refine (LoadRect.mem_set _).mpr fun a => ?_
  match a with
  | ⟨0, _⟩ => exact ⟨(y 0).val / 8, by show _ < 512; omega, by show (y 0).val = s + 8 * ((y 0).val / 8); omega⟩
  | ⟨1, _⟩ => exact ⟨(y 1).val, (y 1).isLt, by show (y 1).val = 0 + 1 * (y 1).val; omega⟩

/-- A scratch buffer rewritten whole under a condition. -/
theorem scratch_read {sp : Space} {s t : Shape} {e e' : EltTy} (v : View sig .tc sp s e) (C : Prop) [Decidable C] (f : v.ty.Contents (Elt F))
    {off : Fin s.rank → ℕ} (inb : ∀ a, off a + s.size a ≤ s.size a) (x X : t.Idx → Elt F e') (hx : x = X)
    (k : (t.Idx → Elt F e') → (s.Idx → Elt F e)) :
    v.read (Elt F) (if _h : C then v.writes (Elt F) f [⟨Rect.unit off s.size inb, k x⟩] else f) = if C then k X else v.read (Elt F) f := by
  subst hx
  by_cases h : C
  · rw [dif_pos h, if_pos h]; exact View.read_writes_full ..
  · rw [dif_neg h, if_neg h]

/-- The output block: the last condition's whole store over the first condition's stores. -/
theorem out_read {sp : Space} {s : Shape} {e : EltTy} (v : View sig .tc sp s e) (C3 C2 : Prop) [Decidable C3] [Decidable C2]
    (f : v.ty.Contents (Elt F)) (L : List (View.Piece (Elt F) s e)) {off : Fin s.rank → ℕ} (inb : ∀ a, off a + s.size a ≤ s.size a)
    (z Y' : s.Idx → Elt F e) (hL : ∀ f, v.read (Elt F) (v.writes (Elt F) f L) = Y') (Y : s.Idx → Elt F e)
    (hY : (C3 ∧ Y = z) ∨ (¬ C3 ∧ C2 ∧ Y = Y')) :
    v.read (Elt F) (if _h : C3 then v.writes (Elt F) (if _h : C2 then v.writes (Elt F) f L else f) [⟨Rect.unit off s.size inb, z⟩]
      else if _h : C2 then v.writes (Elt F) f L else f) = Y := by
  obtain ⟨h3, rfl⟩ | ⟨h3, h2, rfl⟩ := hY
  · rw [dif_pos h3]; exact View.read_writes_full ..
  · rw [dif_neg h3, dif_pos h2]; exact hL f

/-- The load of rows `s`, `s + 8`, … of a block. -/
theorem strided_read (M3 : Memref sig .tc .vmem S4096x128 .f32) (f3 : Cont (F := F) c M3) (X3 : S4096x128.Idx → Elt F .f32)
    (e3 : M3.view.read (Elt F) f3 = X3) (s : Fin 8) (inb) :
    M3.view.readAt (Elt F) (⟨![s.val, 0], S512x128.size, ![8, 1], inb⟩ : LoadRect S4096x128) f3 = xcol X3 s := by
  subst e3
  exact funext fun x => congrArg (M3.view.read (Elt F) f3) (funext fun a => match a with
    | ⟨0, _⟩ => rfl
    | ⟨1, _⟩ => Fin.ext (by show 0 + 1 * (x 1).val = (x 1).val; omega))

/-- The block's 8 stores, whatever was there before. -/
theorem pieces_read (M8 : Memref sig .tc .vmem S4096x128 .f32) (f8 : Cont (F := F) c M8) (h : S512x1024.Idx → Elt F .bf16)
    (W1 : S1024x1024.Idx → Elt F .bf16) (B1 : S1x1x1x1024.Idx → Elt F .f32) :
    M8.view.read (Elt F) (M8.view.writes (Elt F) f8
      [⟨⟨⟨![7, 0], S512x128.size, ![8, 1], inb_S4096x128_S512x128_7_0_s_8_1⟩, spos_8_1⟩, k0_pay11 h W1 B1⟩,
       ⟨⟨⟨![6, 0], S512x128.size, ![8, 1], inb_S4096x128_S512x128_6_0_s_8_1⟩, spos_8_1⟩, k0_pay10 h W1 B1⟩,
       ⟨⟨⟨![5, 0], S512x128.size, ![8, 1], inb_S4096x128_S512x128_5_0_s_8_1⟩, spos_8_1⟩, k0_pay9 h W1 B1⟩,
       ⟨⟨⟨![4, 0], S512x128.size, ![8, 1], inb_S4096x128_S512x128_4_0_s_8_1⟩, spos_8_1⟩, k0_pay8 h W1 B1⟩,
       ⟨⟨⟨![3, 0], S512x128.size, ![8, 1], inb_S4096x128_S512x128_3_0_s_8_1⟩, spos_8_1⟩, k0_pay7 h W1 B1⟩,
       ⟨⟨⟨![2, 0], S512x128.size, ![8, 1], inb_S4096x128_S512x128_2_0_s_8_1⟩, spos_8_1⟩, k0_pay6 h W1 B1⟩,
       ⟨⟨⟨![1, 0], S512x128.size, ![8, 1], inb_S4096x128_S512x128_1_0_s_8_1⟩, spos_8_1⟩, k0_pay5 h W1 B1⟩,
       ⟨⟨⟨![0, 0], S512x128.size, ![8, 1], inb_S4096x128_S512x128_0_0_s_8_1⟩, spos_8_1⟩, k0_pay4 h W1 B1⟩])
      = spread (k0_pay3 h W1 B1) := by
  funext y
  refine View.read_writes_apply_of_pieces _ _ (spread (k0_pay3 h W1 B1)) _ ?_ y ?_
  · simp only [List.forall_mem_cons, List.not_mem_nil, false_imp_iff, implies_true, and_true]
    refine ⟨?_, ?_, ?_, ?_, ?_, ?_, ?_, ?_⟩
    · exact fun x => spread_emb 7 896 (by decide) rfl (k0_pay3 h W1 B1) slices_S512x1024_o0_896_S512x128 x _ _
    · exact fun x => spread_emb 6 768 (by decide) rfl (k0_pay3 h W1 B1) slices_S512x1024_o0_768_S512x128 x _ _
    · exact fun x => spread_emb 5 640 (by decide) rfl (k0_pay3 h W1 B1) slices_S512x1024_o0_640_S512x128 x _ _
    · exact fun x => spread_emb 4 512 (by decide) rfl (k0_pay3 h W1 B1) slices_S512x1024_o0_512_S512x128 x _ _
    · exact fun x => spread_emb 3 384 (by decide) rfl (k0_pay3 h W1 B1) slices_S512x1024_o0_384_S512x128 x _ _
    · exact fun x => spread_emb 2 256 (by decide) rfl (k0_pay3 h W1 B1) slices_S512x1024_o0_256_S512x128 x _ _
    · exact fun x => spread_emb 1 128 (by decide) rfl (k0_pay3 h W1 B1) slices_S512x1024_o0_128_S512x128 x _ _
    · exact fun x => spread_emb 0 0 (by decide) rfl (k0_pay3 h W1 B1) slices_S512x1024_o0_0_S512x128 x _ _
  · have h0 : (y 0).val < 4096 := (y 0).isLt
    have h1 : (y 1).val < 128 := (y 1).isLt
    obtain h | h | h | h | h | h | h | h : (y 0).val % 8 = 7 ∨ (y 0).val % 8 = 6 ∨ (y 0).val % 8 = 5 ∨ (y 0).val % 8 = 4
      ∨ (y 0).val % 8 = 3 ∨ (y 0).val % 8 = 2 ∨ (y 0).val % 8 = 1 ∨ (y 0).val % 8 = 0 := by omega
    · exact ⟨_, .head _, mem_strided 7 y h _ _⟩
    · exact ⟨_, .tail _ (.head _), mem_strided 6 y h _ _⟩
    · exact ⟨_, .tail _ (.tail _ (.head _)), mem_strided 5 y h _ _⟩
    · exact ⟨_, .tail _ (.tail _ (.tail _ (.head _))), mem_strided 4 y h _ _⟩
    · exact ⟨_, .tail _ (.tail _ (.tail _ (.tail _ (.head _)))), mem_strided 3 y h _ _⟩
    · exact ⟨_, .tail _ (.tail _ (.tail _ (.tail _ (.tail _ (.head _))))), mem_strided 2 y h _ _⟩
    · exact ⟨_, .tail _ (.tail _ (.tail _ (.tail _ (.tail _ (.tail _ (.head _)))))), mem_strided 1 y h _ _⟩
    · exact ⟨_, .tail _ (.tail _ (.tail _ (.tail _ (.tail _ (.tail _ (.tail _ (.head _))))))), mem_strided 0 y h _ _⟩

set_option maxHeartbeats 800000 in
/-- THE BODY at a point, in any buffers at any contents. -/
theorem body_run (i : grid0.Coords) (b : Cont (F := F) c TB) (n : Cont (F := F) c TN)
    (M3 : Memref sig .tc .vmem S4096x128 .f32) (h3 : M3.IsWhole) (M4 : Memref sig .tc .vmem S1x1x1024x2048 .f32) (h4 : M4.IsWhole)
    (M5 : Memref sig .tc .vmem S1x1x1x2048 .f32) (h5 : M5.IsWhole) (M6 : Memref sig .tc .vmem S1x1x1024x1024 .f32) (h6 : M6.IsWhole)
    (M7 : Memref sig .tc .vmem S1x1x1x1024 .f32) (h7 : M7.IsWhole) (M8 : Memref sig .tc .vmem S4096x128 .f32) (h8 : M8.IsWhole)
    (f3 : Cont (F := F) c M3) (f4 : Cont (F := F) c M4) (f5 : Cont (F := F) c M5) (f6 : Cont (F := F) c M6) (f7 : Cont (F := F) c M7)
    (f8 : Cont (F := F) c M8) (g0 : Cont (F := F) c G0) (g1 : Cont (F := F) c G1)
    (X3 : S4096x128.Idx → Elt F .f32) (X4 : S1x1x1024x2048.Idx → Elt F .f32) (X5 : S1x1x1x2048.Idx → Elt F .f32)
    (X6 : S1x1x1024x1024.Idx → Elt F .f32) (X7 : S1x1x1x1024.Idx → Elt F .f32)
    (e3 : M3.view.read (Elt F) f3 = X3) (e4 : M4.view.read (Elt F) f4 = X4) (e5 : M5.view.read (Elt F) f5 = X5)
    (e6 : M6.view.read (Elt F) f6 = X6) (e7 : M7.view.read (Elt F) f7 = X7)
    (W0 : S1024x2048.Idx → Elt F .bf16) (W1 : S1024x1024.Idx → Elt F .bf16) (Y : S4096x128.Idx → Elt F .f32)
    (k0 : (if reload i (wB c b (k0_off1 i) (k0_off1_inb i)) (wB c b (k0_off2 i) (k0_off2_inb i)) = 1#1 then k0_pay1 X4
      else G0.view.read (Elt F) g0) = W0)
    (k1 : (if reload i (wB c b (k0_off1 i) (k0_off1_inb i)) (wB c b (k0_off2 i) (k0_off2_inb i)) = 1#1 then k0_pay2 X6
      else G1.view.read (Elt F) g1) = W1)
    (k8 : (k0_cond3 i (wN c n) = 1#1 ∧ Y = k0_pay12) ∨ (k0_cond3 i (wN c n) ≠ 1#1 ∧ k0_cond2 i (wN c n) = 1#1 ∧ Y = outBlk X3 W0 X5 W1 X7))
    (ht ht' hg hg') (Q : PUnit → sProp 𝕄) :
    heldR c TB b ∗ heldR c TN n ∗ held c M3 f3 ∗ held c M4 f4 ∗ held c M5 f5 ∗ held c M6 f6 ∗ held c M7 f7 ∗ held c M8 f8 ∗ held c G0 g0 ∗ held c G1 g1
    ∗ ((∃ g0' g1' f8', ⌜G0.view.read (Elt F) g0' = W0 ∧ G1.view.read (Elt F) g1' = W1 ∧ M8.view.read (Elt F) f8' = Y⌝
        ∗ heldR c TB b ∗ heldR c TN n ∗ held c M3 f3 ∗ held c M4 f4 ∗ held c M5 f5 ∗ held c M6 f6 ∗ held c M7 f7
        ∗ held c M8 f8' ∗ held c G0 g0' ∗ held c G1 g1') -∗ Q ⟨⟩)
    ⊢ (wp frame (wpE (defs₀ (F := F)) Variants.none c none) Set.univ
        (cc0_moe_ffn i TB ht TN ht' M3 h3 M4 h4 M5 h5 M6 h6 M7 h7 M8 h8 G0 hg G1 hg') Q : sProp 𝕄) := by
  iintro ⟨HB, HN, H3, H4, H5, H6, H7, H8, HG0, HG1, Hk⟩
  simp only [cc0_moe_ffn_eq_skeleton]; unfold cc0_moe_ffn_skel
  simp only [k0_part1_eq_skeleton]; unfold k0_part1_skel
  sl_exec
  rw [wp_ret]
  imodintro
  iapply Hk
  iexists _, _, _
  isplitr
  swap
  · isplitl [HB]; · iexact HB
    isplitl [HN]; · iexact HN
    isplitl [H3]; · iexact H3
    isplitl [H4]; · iexact H4
    isplitl [H5]; · iexact H5
    isplitl [H6]; · iexact H6
    isplitl [H7]; · iexact H7
    isplitl [H8]; · iexact H8
    isplitl [HG0]; · iexact HG0
    iexact HG1
  · ipureintro
    refine ⟨(scratch_read G0.view _ g0 _ _ _ ((View.readAt_full ..).trans e4) k0_pay1).trans k0,
      (scratch_read G1.view _ g1 _ _ _ ((View.readAt_full ..).trans e6) k0_pay2).trans k1, ?_⟩
    refine out_read M8.view _ _ f8 _ _ _ (outBlk X3 W0 X5 W1 X7) (fun f => ?_) Y k8
    refine (pieces_read c M8 f _ _ _).trans (congrArg spread (congr (congr (congrArg k0_pay3 ?_) ?_) ?_))
    · refine congr (congr (congr (congr (congr (congr (congr (congr (congr (congrArg k0_pay13 ?_) ?_) ?_) ?_) ?_) ?_) ?_) ?_) ?_) ?_
      · exact strided_read c M3 f3 X3 e3 0 _
      · exact strided_read c M3 f3 X3 e3 1 _
      · exact strided_read c M3 f3 X3 e3 2 _
      · exact strided_read c M3 f3 X3 e3 3 _
      · exact strided_read c M3 f3 X3 e3 4 _
      · exact strided_read c M3 f3 X3 e3 5 _
      · exact strided_read c M3 f3 X3 e3 6 _
      · exact strided_read c M3 f3 X3 e3 7 _
      · exact (View.readAt_full ..).trans ((scratch_read G0.view _ g0 _ _ _ ((View.readAt_full ..).trans e4) k0_pay1).trans k0)
      · exact (View.readAt_full ..).trans e5
    · exact (View.readAt_full ..).trans ((scratch_read G1.view _ g1 _ _ _ ((View.readAt_full ..).trans e6) k0_pay2).trans k1)
    · exact (View.readAt_full ..).trans e7

end Cert.Proof.Experts

end
-- ==== Proof.Experts.Launch.lean ====
/- The expert kernel launched: what each grid point leaves in its output block, the body's obligation at a symbolic point,
   and the run of @main, for any float values, from any memory whose tables keep every block inside its array. -/
module

public import proofs.«01_k».proof.Proof.Experts.Body
public import Idealize.ShloMosaic.Lib.Pipeline.FrameBody

@[expose] public section

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation FramePost)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the launch, in the runs they are printed in. -/
abbrev opss : List (List (HloOp τ sig (Elt F))) :=
  [hostOps0, hostOps0_1, hostOps0_2, hostOps0_3, hostOps0_4, hostOps0_5, hostOps0_6]

/-- The buffers as the launch finds them. -/
abbrev V (c : Dev nD) (b : Ref sig .tc) : Buf (Elt F) ((c : Thread nD τ).loc b) :=
  StableHlo.after (opss (F := F)).flatten (fun b => m (c, b)) b

/-- The two tables as the launch finds them. -/
def tabs (c : Dev nD) : pre0.Contents (Elt F) := fun k => V m c (pre0.ref k)

variable (a : (pcfg0 (F := F)).Adm)

/-- Input block `w` of point `t`. -/
abbrev iblk (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V m c (Pipeline.arrRef spec0 w))

/-- The number of used blocks, as the table holds it. -/
abbrev nu (c : Dev nD) : BitVec 32 := wN c (a.1 1)

/-- What point `t` leaves in its output block. -/
def outAt (c : Dev nD) (t : Fin (cfg0 a).N) : S4096x128.Idx → Elt F .f32 :=
  if k0_cond3 (grid0.coords t) (nu a c) = 1#1 then k0_pay12
  else outBlk (iblk m a c 0 t) (k0_pay1 (iblk m a c 1 t)) (iblk m a c 2 t) (k0_pay2 (iblk m a c 3 t)) (iblk m a c 4 t)

/-- The invariant before point `t`: the scratch buffers hold the weights of point `t - 1`. -/
def inv (c : Dev nD) (t : ℕ) : sProp 𝕄 :=
  iprop(∃ g0 g1, ⌜∀ n : Fin (cfg0 a).N, n.val + 1 = t →
      G0.view.read (Elt F) g0 = k0_pay1 (iblk m a c 1 n) ∧ G1.view.read (Elt F) g1 = k0_pay2 (iblk m a c 3 n)⌝
    ∗ held c G0 g0 ∗ held c G1 g1 ∗ (∃ r, prngReg c r) ∗ heldR c TB (a.1 0) ∗ heldR c TN (a.1 1))

/-- The proof data: each input block is left as it is, the output block as `outAt` says. -/
def dats (_ : Fin 1) (c : Dev nD) : Dat τ (Elt F) Unit ℕ (UR sig nD τ) ℕ (cfg0 a) c where
  A w := V m c (Pipeline.arrRef spec0 w)
  after w t := match w with
    | ⟨0, _⟩ => iblk m a c 0 t
    | ⟨1, _⟩ => iblk m a c 1 t
    | ⟨2, _⟩ => iblk m a c 2 t
    | ⟨3, _⟩ => iblk m a c 3 t
    | ⟨4, _⟩ => iblk m a c 4 t
    | ⟨5, _⟩ => outAt m a c t
  Φ t := inv m a c t.val
  q _ := fullShare
  owed _ := 0

theorem before_0 (c : Dev nD) (t : Fin (cfg0 a).N) (d) : (dats m a 0 c).before 0 t d = iblk m a c 0 t :=
  ((dats m a 0 c).before_in_eq_fetched 0 rfl (fun _ => rfl) (fun _ _ _ => rfl) (fun _ => rfl) t d).trans rfl
theorem before_1 (c : Dev nD) (t : Fin (cfg0 a).N) (d) : (dats m a 0 c).before 1 t d = iblk m a c 1 t :=
  ((dats m a 0 c).before_in_eq_fetched 1 rfl (fun _ => rfl) (fun _ _ _ => rfl) (fun _ => rfl) t d).trans rfl
theorem before_2 (c : Dev nD) (t : Fin (cfg0 a).N) (d) : (dats m a 0 c).before 2 t d = iblk m a c 2 t :=
  ((dats m a 0 c).before_in_eq_fetched 2 rfl (fun _ => rfl) (fun _ _ _ => rfl) (fun _ => rfl) t d).trans rfl
theorem before_3 (c : Dev nD) (t : Fin (cfg0 a).N) (d) : (dats m a 0 c).before 3 t d = iblk m a c 3 t :=
  ((dats m a 0 c).before_in_eq_fetched 3 rfl (fun _ => rfl) (fun _ _ _ => rfl) (fun _ => rfl) t d).trans rfl
theorem before_4 (c : Dev nD) (t : Fin (cfg0 a).N) (d) : (dats m a 0 c).before 4 t d = iblk m a c 4 t :=
  ((dats m a 0 c).before_in_eq_fetched 4 rfl (fun _ => rfl) (fun _ _ _ => rfl) (fun _ => rfl) t d).trans rfl

theorem fetched_1 (c : Dev nD) (t : Fin (cfg0 a).N) (d) : (dats m a 0 c).fetched 1 t d = iblk m a c 1 t := rfl
theorem fetched_3 (c : Dev nD) (t : Fin (cfg0 a).N) (d) : (dats m a 0 c).fetched 3 t d = iblk m a c 3 t := rfl
theorem clip_1 (t n : Fin (cfg0 a).N) : ((cfg0 a).win 1).clip ((cfg0 a).grid.coords t) = ((cfg0 a).win 1).clip ((cfg0 a).grid.coords n) := rfl
theorem clip_3 (t n : Fin (cfg0 a).N) : ((cfg0 a).win 3).clip ((cfg0 a).grid.coords t) = ((cfg0 a).win 3).clip ((cfg0 a).grid.coords n) := rfl

theorem coords_val (t : Fin (cfg0 a).N) : (grid0.coords t 0).val = t.val := by
  rw [Pipeline.Grid.coords_val (G := grid0) t 0 (S := 1) (B := 164) (by decide) rfl, Nat.div_one]
  exact Nat.mod_eq_of_lt (lt_of_lt_of_eq t.isLt N_0)

/-- One bit widened is nonzero exactly when it is set. -/
theorem ne_extui (x : BitVec 1) : (Scalar.cmpi .ne (Scalar.extui x : BitVec 32) 0#32 = 1#1) ↔ x = 1#1 := by
  revert x; decide

theorem cond2_iff (i : grid0.Coords) (v : BitVec 32) : k0_cond2 i v = 1#1 ↔ Scalar.cmpi .slt (BitVec.ofNat 32 (i 0).val) v = 1#1 :=
  ne_extui _
theorem cond3_iff (i : grid0.Coords) (v : BitVec 32) : k0_cond3 i v = 1#1 ↔ Scalar.cmpi .sge (BitVec.ofNat 32 (i 0).val) v = 1#1 :=
  ne_extui _

/-- Exactly one of the two branches that store the output block is taken. -/
theorem cond2_iff_not (i : grid0.Coords) (v : BitVec 32) : k0_cond2 i v = 1#1 ↔ k0_cond3 i v ≠ 1#1 := by
  rw [cond2_iff, ne_eq, cond3_iff]
  show BitVec.ofBool (BitVec.slt _ _) = 1#1 ↔ ¬ BitVec.ofBool (BitVec.sle _ _) = 1#1
  rw [BitVec.sle_eq_not_slt]
  cases BitVec.slt (BitVec.ofNat 32 (i 0).val) v <;> decide

theorem wB_eq (c : Dev nD) (b : Cont (F := F) c TB) (o o' : Fin 1 → ℕ) (h h') (e : o = o') : wB c b o h = wB c b o' h' := by
  subst e; rfl

/-- Where the weights are not converted again, the point is not the first and its expert is the previous point's. -/
theorem not_reload (i : grid0.Coords) (x y : BitVec 32) (h : reload i x y ≠ 1#1) : (i 0).val ≠ 0 ∧ x = y := by
  unfold reload at h
  rw [ne_eq, ne_extui] at h
  refine ⟨fun hi => h ?_, Classical.byContradiction fun hxy => h ?_⟩
  · rw [hi]; show (1#1 ||| _) = 1#1
    generalize Scalar.cmpi .ne x y = z; revert z; decide
  · have : Scalar.cmpi .ne x y = 1#1 := by
      show BitVec.ofBool (x != y) = 1#1
      rw [bne_iff_ne.mpr hxy]; rfl
    rw [this]
    generalize Scalar.cmpi .eq (BitVec.ofNat 32 (i 0).val) 0#32 = z; revert z; decide

/-- The previous block's offset. -/
theorem off2_eq (t n : Fin (cfg0 a).N) (h : n.val + 1 = t.val) : k0_off2 (grid0.coords t) = k0_off1 (grid0.coords n) := by
  have hn : n.val < 163 := by have := lt_of_lt_of_eq t.isLt N_0; omega
  unfold k0_off2 k0_off1
  dsimp only
  rw [coords_val, coords_val, ← h]
  revert hn; generalize n.val = k
  intro hn
  interval_cases k <;> decide

theorem idle5 (t : Fin (cfg0 a).N) : (cfg0 a).idle 5 ((cfg0 a).grid.coords t) = false := by
  show (!(k0_cond2 (grid0.coords t) ((a.1 : pre0.Contents (Elt F)).atD 1 ![0]) == 1#1) && !(k0_cond3 (grid0.coords t) ((a.1 : pre0.Contents (Elt F)).atD 1 ![0]) == 1#1)) = false
  have h := cond2_iff_not (grid0.coords t) ((a.1 : pre0.Contents (Elt F)).atD 1 ![0])
  by_cases h3 : k0_cond3 (grid0.coords t) ((a.1 : pre0.Contents (Elt F)).atD 1 ![0]) = 1#1
  · rw [beq_iff_eq.mpr h3]; exact Bool.and_false _
  · rw [beq_iff_eq.mpr (h.mpr h3)]; rfl

/-- Where the weights are not converted again, the weight blocks are the previous point's. -/
theorem iblk_prev (c : Dev nD) (t n : Fin (cfg0 a).N) (h : n.val + 1 = t.val)
    (hr : reload (grid0.coords t) (wB c (a.1 0) (k0_off1 (grid0.coords t)) (k0_off1_inb _)) (wB c (a.1 0) (k0_off2 (grid0.coords t)) (k0_off2_inb _)) ≠ 1#1) :
    iblk m a c 1 t = iblk m a c 1 n ∧ iblk m a c 3 t = iblk m a c 3 n := by
  have hw := (not_reload _ _ _ hr).2
  rw [wB_eq c (a.1 0) _ _ _ (k0_off1_inb (grid0.coords n)) (off2_eq a t n h)] at hw
  have h1 : ((cfg0 a).win 1).index t = ((cfg0 a).win 1).index n := by
    show cc0_transform_1 _ _ a.1 (grid0.coords t) = cc0_transform_1 _ _ a.1 (grid0.coords n)
    exact congrArg (fun w : BitVec 32 => ![(0#32).toNat, w.toNat, (0#32).toNat, (0#32).toNat]) hw
  have h3 : ((cfg0 a).win 3).index t = ((cfg0 a).win 3).index n := by
    show cc0_transform_3 _ _ a.1 (grid0.coords t) = cc0_transform_3 _ _ a.1 (grid0.coords n)
    exact congrArg (fun w : BitVec 32 => ![(0#32).toNat, w.toNat, (0#32).toNat, (0#32).toNat]) hw
  exact ⟨(fetched_1 m a c t _).symm.trans (((dats m a 0 c).fetched_congr 1 h1 (clip_1 a t n) ((dats m a 0 c).after 1 t)).trans (fetched_1 m a c n _)),
    (fetched_3 m a c t _).symm.trans (((dats m a 0 c).fetched_congr 3 h3 (clip_3 a t n) ((dats m a 0 c).after 3 t)).trans (fetched_3 m a c n _))⟩

end Cert.Proof.Experts

end
-- ==== Proof.Experts.Host.lean ====
/- What the host operations before the launch leave: the end of each expert's padded rows, the number of used blocks, the
   table of the blocks' experts, the reshaped biases, and the arguments as they were. -/
module

public import proofs.«01_k».proof.Proof.Experts.Launch
public import proofs.«01_k».proof.Proof.Gen.Reference2Ideal.Read

@[expose] public section

noncomputable section

namespace Cert.Proof.Experts

open Cert.Kernel2Ideal Cert.Kernel2Ideal.Gen
open Idealize.ShloMosaic Idealize.ShloMosaic.TcCoe Idealize.ShloMosaic.StableHlo

variable {F : FTy → Type} [FloatOps F]
variable (m : (ℓ : Loc nD τ sig) → Buf (Elt F) ℓ)

/-- The number of used blocks, of the counts `x`. -/
def nuOf (x : S32.Idx → BitVec 32) : S_.Idx → BitVec 32 := Cert.Reference2Ideal.Read.val_main_v85 (F := F) x
/-- The row each expert's padded rows end before, of the counts `x`. -/
def padEnd (x : S32.Idx → BitVec 32) : S32.Idx → BitVec 32 := Cert.Reference2Ideal.Read.val_main_v7 (F := F) x

/-- The table of experts, of the padded ends `p` and the number of used blocks `n`. -/
def expOf (p : S32.Idx → BitVec 32) (n : S_.Idx → BitVec 32) : S164.Idx → BitVec 32 :=
  minsi (Host.reduce IntOp.addi
      (extui 32 (cmpi .sle (broadcastInDim S164x32 ![0, 1] bcast_S1x32_S164x32_0_1 (broadcastInDim S1x32 ![1] bcast_S32_S1x32_1 p))
        (broadcastInDim S164x32 ![0, 1] bcast_S164x1_S164x32_0_1 (broadcastInDim S164x1 ![0] bcast_S164_S164x1_0
          (muli (minsi (iotaInDim S164 32 0) (broadcastInDim S164 ![] bcast_S_S164 (subi n (constantI S_ 32 1#32))))
            (broadcastInDim S164 ![] bcast_S_S164 (constantI S_ 32 512#32)))))) natLt_1_32)
      (constantI S_ 32 0#32) reducesTo_S164x32_S164_d1 h_S_)
    (broadcastInDim S164 ![] bcast_S_S164 (constantI S_ 32 31#32))

theorem V_v7 (c : Dev nD) : V m c main_v7 = padEnd (F := F) (m (c, main_arg1)) := by
  simp only [V, opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, TRef.toBuf, TRef.ofBuf, cast_eq]
  after_results_simp <;> rfl

theorem V_v10 (c : Dev nD) : V m c main_v10 = nuOf (F := F) (m (c, main_arg1)) := by
  simp only [V, opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, TRef.toBuf, TRef.ofBuf, cast_eq]
  after_results_simp <;> rfl

theorem V_v25 (c : Dev nD) : V m c main_v25 = expOf (padEnd (F := F) (m (c, main_arg1))) (nuOf (F := F) (m (c, main_arg1))) := by
  simp only [V, opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, TRef.toBuf, TRef.ofBuf, cast_eq]
  after_results_simp <;> rfl

theorem V_v26 (c : Dev nD) : V m c main_v26 = shapeCast S1 (nuOf (F := F) (m (c, main_arg1))) shapeCasts_S_S1 := by
  simp only [V, opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, TRef.toBuf, TRef.ofBuf, cast_eq]
  after_results_simp <;> rfl

theorem V_v27 (c : Dev nD) : V m c main_v27 = shapeCast S4x32x1x2048 (m (c, main_arg3)) shapeCasts_S4x32x2048_S4x32x1x2048 := by
  simp only [V, opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, TRef.toBuf, TRef.ofBuf, cast_eq]
  after_results_simp <;> rfl

theorem V_v28 (c : Dev nD) : V m c main_v28 = shapeCast S4x32x1x1024 (m (c, main_arg5)) shapeCasts_S4x32x1024_S4x32x1x1024 := by
  simp only [V, opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, TRef.toBuf, TRef.ofBuf, cast_eq]
  after_results_simp <;> rfl

/-- A buffer no host operation writes is as launched. -/
theorem V_of_not_written (c : Dev nD) (b : Ref sig .tc) (h : (opss (F := F)).flatten.Forall fun op => Proc.devRef .tc b ∉ op.writes) :
    V m c b = m (c, b) :=
  StableHlo.after_of_forall_not_mem (b := Proc.devRef .tc b) _ _ (List.forall_iff_forall_mem.mp h)

theorem V_arg0 (c : Dev nD) : V m c main_arg0 = m (c, main_arg0) := V_of_not_written m c _ (by
  simp only [opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, List.Forall, StableHlo.nullary_writes, StableHlo.unary_writes, StableHlo.binary_writes, StableHlo.ternary_writes, StableHlo.reshape_writes, Finset.mem_singleton]
  repeat' apply And.intro
  all_goals exact StableHlo.devRef_ne_of_ne (by decide))

theorem V_arg1 (c : Dev nD) : V m c main_arg1 = m (c, main_arg1) := V_of_not_written m c _ (by
  simp only [opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, List.Forall, StableHlo.nullary_writes, StableHlo.unary_writes, StableHlo.binary_writes, StableHlo.ternary_writes, StableHlo.reshape_writes, Finset.mem_singleton]
  repeat' apply And.intro
  all_goals exact StableHlo.devRef_ne_of_ne (by decide))

theorem V_arg2 (c : Dev nD) : V m c main_arg2 = m (c, main_arg2) := V_of_not_written m c _ (by
  simp only [opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, List.Forall, StableHlo.nullary_writes, StableHlo.unary_writes, StableHlo.binary_writes, StableHlo.ternary_writes, StableHlo.reshape_writes, Finset.mem_singleton]
  repeat' apply And.intro
  all_goals exact StableHlo.devRef_ne_of_ne (by decide))

theorem V_arg3 (c : Dev nD) : V m c main_arg3 = m (c, main_arg3) := V_of_not_written m c _ (by
  simp only [opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, List.Forall, StableHlo.nullary_writes, StableHlo.unary_writes, StableHlo.binary_writes, StableHlo.ternary_writes, StableHlo.reshape_writes, Finset.mem_singleton]
  repeat' apply And.intro
  all_goals exact StableHlo.devRef_ne_of_ne (by decide))

theorem V_arg4 (c : Dev nD) : V m c main_arg4 = m (c, main_arg4) := V_of_not_written m c _ (by
  simp only [opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, List.Forall, StableHlo.nullary_writes, StableHlo.unary_writes, StableHlo.binary_writes, StableHlo.ternary_writes, StableHlo.reshape_writes, Finset.mem_singleton]
  repeat' apply And.intro
  all_goals exact StableHlo.devRef_ne_of_ne (by decide))

theorem V_arg5 (c : Dev nD) : V m c main_arg5 = m (c, main_arg5) := V_of_not_written m c _ (by
  simp only [opss, List.flatten_cons, List.flatten_nil, List.append_nil, List.cons_append, List.nil_append, hostOps0, hostOps0_1, hostOps0_2, hostOps0_3, hostOps0_4, hostOps0_5, hostOps0_6, TRef.binary, TRef.nullary, TRef.ternary, TRef.unary, List.Forall, StableHlo.nullary_writes, StableHlo.unary_writes, StableHlo.binary_writes, StableHlo.ternary_writes, StableHlo.reshape_writes, Finset.mem_singleton]
  repeat' apply And.intro
  all_goals exact StableHlo.devRef_ne_of_ne (by decide))

end Cert.Proof.Experts

end
-- ==== Proof.Experts.Range.lean ====
/- The tables' words: the number of used blocks is positive under the precondition, every expert is below 32, so every block
   lies inside its array; and a used block's expert is the reference's. -/
module

public import proofs.«01_k».proof.Proof.Experts.Host

@[expose] public section

noncomputable section

namespace Cert.Proof.Experts

open Cert.Kernel2Ideal Cert.Kernel2Ideal.Gen
open Idealize.ShloMosaic Idealize.ShloMosaic.TcCoe Idealize.ShloMosaic.StableHlo
open ValueIdx

variable {F : FTy → Type} [FloatOps F]

/-! ## Words -/

theorem toNat_of_pos (n : BitVec 32) (hn : 1 ≤ n.toInt) : 1 ≤ n.toNat ∧ n.toNat < 2 ^ 31 := by
  have h := n.isLt
  rw [BitVec.toInt_eq_toNat_cond] at hn
  split at hn <;> omega

theorem toInt_ofNat (j : ℕ) (hj : j < 164) : (BitVec.ofNat 32 j).toInt = j := by
  rw [BitVec.toInt_eq_toNat_cond, BitVec.toNat_ofNat, Nat.mod_eq_of_lt (by omega)]
  split <;> omega

/-- The last used block where `j` is beyond it. -/
theorem clamp (j : ℕ) (hj : j < 164) (n : BitVec 32) (hn : 1 ≤ n.toInt) :
    IntOp.minsi (BitVec.ofNat 32 j) (n - 1#32) = if (j : ℤ) < n.toInt then BitVec.ofNat 32 j else n - 1#32 := by
  obtain ⟨h1, h2⟩ := toNat_of_pos n hn
  have hs : (n - 1#32).toNat = n.toNat - 1 := by
    rw [BitVec.toNat_sub]; show (2 ^ 32 - 1 + n.toNat) % 2 ^ 32 = n.toNat - 1; omega
  have hi : n.toInt = n.toNat := by rw [BitVec.toInt_eq_toNat_cond, if_pos (by omega)]
  have hsi : (n - 1#32).toInt = n.toNat - 1 := by
    rw [BitVec.toInt_eq_toNat_cond, if_pos (by omega), hs]; omega
  unfold IntOp.minsi
  by_cases hlt : (j : ℤ) < n.toInt
  · rw [if_pos hlt]
    by_cases h : (BitVec.ofNat 32 j).slt (n - 1#32) = true
    · rw [if_pos h]
    · rw [if_neg h]
      rw [BitVec.slt_iff_toInt_lt, toInt_ofNat j hj, hsi] at h
      apply BitVec.eq_of_toNat_eq
      rw [hs, BitVec.toNat_ofNat, Nat.mod_eq_of_lt (by omega)]
      omega
  · rw [if_neg hlt, if_neg]
    rw [BitVec.slt_iff_toInt_lt, toInt_ofNat j hj, hsi]
    omega

theorem clamp_toNat_lt (j : ℕ) (hj : j < 164) (n : BitVec 32) (hn : 1 ≤ n.toInt) :
    (IntOp.minsi (BitVec.ofNat 32 j) (n - 1#32)).toNat < 164 := by
  obtain ⟨h1, h2⟩ := toNat_of_pos n hn
  rw [clamp j hj n hn]
  split
  · rw [BitVec.toNat_ofNat, Nat.mod_eq_of_lt (by omega)]; exact hj
  · rename_i h
    have hi : n.toInt = n.toNat := by rw [BitVec.toInt_eq_toNat_cond, if_pos (by omega)]
    rw [BitVec.toNat_sub]
    show (2 ^ 32 - 1 + n.toNat) % 2 ^ 32 < 164
    omega

/-- A sum of words below 2 is at most their number. -/
theorem foldl_add_le {α : Type} (l : List α) (x : α → BitVec 32) (hx : ∀ n, (x n).toNat ≤ 1) (r : BitVec 32)
    (hr : r.toNat + l.length < 2 ^ 32) : (l.foldl (fun r n => IntOp.addi r (x n)) r).toNat ≤ r.toNat + l.length := by
  induction l generalizing r with
  | nil => simp
  | cons a l ih =>
    have ha := hx a
    rw [List.length_cons] at hr
    have h1 : (IntOp.addi r (x a)).toNat = r.toNat + (x a).toNat := by
      show (r + x a).toNat = _
      rw [BitVec.toNat_add, Nat.mod_eq_of_lt (by omega)]
    rw [List.foldl_cons, List.length_cons]
    have := ih (IntOp.addi r (x a)) (by omega)
    omega

theorem extui_le (b : BitVec 1) : (b.setWidth 32 : BitVec 32).toNat ≤ 1 := by revert b; decide

theorem minsi_31 (s : BitVec 32) (hs : s.toNat ≤ 5248) : (IntOp.minsi s 31#32).toNat < 32 := by
  unfold IntOp.minsi
  by_cases h : s.slt 31#32 = true
  · rw [if_pos h]
    rw [BitVec.slt_iff_toInt_lt, BitVec.toInt_eq_toNat_cond, if_pos (by omega)] at h
    have : (31#32).toInt = 31 := by decide
    omega
  · rw [if_neg h]; decide

/-! ## The experts -/

/-- One word spread along a vector. -/
theorem scal_bcast (q : S_.Idx → BitVec 32) (i : S164.Idx) (i0 : S_.Idx) : broadcastInDim S164 ![] bcast_S_S164 q i = q i0 :=
  broadcastInDim_apply _ bcast_S_S164 q i i0 (fun a => a.elim0)

theorem minsi_lt (X : S164.Idx → BitVec 32) (k : S164.Idx) (h : (X k).toNat ≤ 5248) :
    (minsi X (broadcastInDim S164 ![] bcast_S_S164 (constantI S_ 32 31#32)) k).toNat < 32 := by
  unfold minsi
  rw [scal_bcast _ k (fun a => a.elim0)]
  exact minsi_31 _ h

theorem numel_pairs : S164x32.numel = 5248 := by decide

/-- The number of experts ended before a block, at most the number of summands. -/
theorem sum_le (X : S164x32.Idx → BitVec 1) (k : S164.Idx) :
    (Host.reduce IntOp.addi (extui 32 X natLt_1_32) (constantI S_ 32 0#32) reducesTo_S164x32_S164_d1 h_S_ k).toNat ≤ 5248 := by
  unfold Host.reduce
  generalize hl : (List.finRange S164x32.numel).filter _ = l
  have hlen : l.length ≤ 5248 := by
    rw [← hl]
    refine (List.length_filter_le _ _).trans ?_
    rw [List.length_finRange, numel_pairs]
  have h0 : (0#32).toNat = 0 := rfl
  have h := foldl_add_le l (fun n => extui 32 X natLt_1_32 (S164x32.rowMajor.symm n)) (fun n => extui_le _) 0#32 (by omega)
  rw [h0, Nat.zero_add] at h
  exact h.trans hlen

theorem expOf_lt (p : S32.Idx → BitVec 32) (n : S_.Idx → BitVec 32) (k : S164.Idx) : (expOf p n k).toNat < 32 := by
  unfold expOf
  exact minsi_lt _ k (sum_le _ k)

theorem drop_val (y : S164x32.Idx) : ((reducesTo_S164x32_S164_d1.drop y) 0).val = (y 0).val := rfl

/-- A sum along the second axis at `k` reads row `k` only. -/
theorem sum_congr (X Y : S164x32.Idx → BitVec 32) (z : S_.Idx → BitVec 32) (k : S164.Idx)
    (h : ∀ y : S164x32.Idx, (y 0).val = (k 0).val → X y = Y y) :
    Host.reduce IntOp.addi X z reducesTo_S164x32_S164_d1 h_S_ k = Host.reduce IntOp.addi Y z reducesTo_S164x32_S164_d1 h_S_ k := by
  unfold Host.reduce
  refine List.foldl_ext _ _ _ fun r n hm => congrArg (IntOp.addi r) (h _ ?_)
  have hd := (List.mem_filter.mp hm).2
  generalize S164x32.rowMajor.symm n = y at hd ⊢
  exact (drop_val y).symm.trans (congrArg (fun f : S164.Idx => (f 0).val) (of_decide_eq_true hd))

/-- A vector of one word per row, spread along the rows. -/
theorem rows_bcast (q : S164.Idx → BitVec 32) (y : S164x32.Idx) :
    broadcastInDim S164x32 ![0, 1] bcast_S164x1_S164x32_0_1 (broadcastInDim S164x1 ![0] bcast_S164_S164x1_0 q) y
      = q (Cert.Reference2Ideal.Read.idx_main_v12 (Cert.Reference2Ideal.Read.idx_main_v14 y)) := by
  rw [broadcastInDim_apply _ bcast_S164x1_S164x32_0_1 _ y (Cert.Reference2Ideal.Read.idx_main_v14 y) (fun a => match a with
    | ⟨0, _⟩ => by show (y 0).val = if (164 : Nat) = 1 then 0 else (y 0).val; rw [if_neg (by decide)]
    | ⟨1, _⟩ => by show 0 = if (1 : Nat) = 1 then 0 else (y 1).val; rw [if_pos rfl])]
  generalize Cert.Reference2Ideal.Read.idx_main_v14 y = i
  exact broadcastInDim_apply _ bcast_S164_S164x1_0 q i (Cert.Reference2Ideal.Read.idx_main_v12 i) (fun a => match a with
    | ⟨0, _⟩ => by show (i 0).val = if (164 : Nat) = 1 then 0 else (i 0).val; rw [if_neg (by decide)])

/-- A used block's expert is the reference's. -/
theorem expOf_eq (x : S32.Idx → BitVec 32) (i0 : S_.Idx) (hn : 1 ≤ (nuOf (F := F) x i0).toInt) (k : S164.Idx)
    (hk : ((k 0).val : ℤ) < (nuOf (F := F) x i0).toInt) :
    expOf (padEnd (F := F) x) (nuOf (F := F) x) k = Cert.Reference2Ideal.Read.val_main_v19 (F := F) x k := by
  unfold expOf
  rw [Cert.Reference2Ideal.Read.val_main_v19_apply]
  unfold Cert.Reference2Ideal.Read.val_main_v17
  unfold minsi
  rw [scal_bcast _ k i0]
  refine congrArg (fun s => IntOp.minsi s 31#32) (sum_congr _ _ _ k fun y hy => ?_)
  rw [Cert.Reference2Ideal.Read.val_main_v16_apply, Cert.Reference2Ideal.Read.val_main_v15_apply]
  unfold extui cmpi
  unfold Cert.Reference2Ideal.Read.val_main_v13 Cert.Reference2Ideal.Read.val_main_v11 Cert.Reference2Ideal.Read.val_main_v14 Cert.Reference2Ideal.Read.val_main_v12 padEnd
  generalize Cert.Reference2Ideal.Read.val_main_v7 (F := F) x = p
  rw [rows_bcast]
  refine congrArg (fun z : BitVec 32 => (IntOp.cmpi .sle _ z).setWidth 32) (Eq.trans ?_ (rows_bcast _ y).symm)
  rw [Cert.Reference2Ideal.Read.val_main_v10_apply, Cert.Reference2Ideal.Read.val_main_v8_apply, Cert.Reference2Ideal.Read.val_main_v9_apply]
  generalize nuOf (F := F) x = g at hn hk ⊢
  have h512 : Cert.Reference2Ideal.Read.val_main_c_3 (F := F)
      (Cert.Reference2Ideal.Read.idx_main_v9 (Cert.Reference2Ideal.Read.idx_main_v12 (Cert.Reference2Ideal.Read.idx_main_v14 y))) = 512#32 := rfl
  rw [h512]
  have hc := clamp (y 0).val (y 0).isLt (g i0) hn
  rw [if_pos (by rw [hy]; exact hk)] at hc
  unfold muli
  rw [scal_bcast _ _ i0]
  refine congrArg (fun z => IntOp.muli z 512#32) ?_
  beta_reduce
  rw [scal_bcast _ _ i0]
  exact hc

/-! ## The blocks lie inside their arrays -/

theorem ok_of (pf : pre0.Contents (Elt F)) (hn : 1 ≤ (pf.at 1 (Rect.unit (s := S1) ![0] S1.size inb_S1_S1_0) numel1_S1 : BitVec 32).toInt)
    (hb : ∀ k : S164.Idx, (pf 0 k : BitVec 32).toNat < 32) : ok0 pf := by
  refine ⟨fun i => ⟨fun a => ?_, .inl rfl⟩, fun i => ⟨fun a => ?_, .inl rfl⟩, fun i => ⟨fun a => ?_, .inl rfl⟩,
    fun i => ⟨fun a => ?_, .inl rfl⟩, fun i => ⟨fun a => ?_, .inl rfl⟩⟩
  · have h := clamp_toNat_lt (i 0).val (i 0).isLt _ hn
    have h2 : cc0_transform_0 inb_S1_S1_0 numel1_S1 pf i 0 < 164 := h
    match a with
    | ⟨0, _⟩ =>
      show (cc0_transform_0 inb_S1_S1_0 numel1_S1 pf i 0 + 1) * 4096 ≤ 671744
      omega
    | ⟨1, _⟩ => show (0 + 1) * 128 ≤ 128; omega
  all_goals
    have h := hb ((Rect.unit (s := S164) (k0_off1 i) S1.size (k0_off1_inb i)).emb (Shape.Idx.first (numel1_S1.symm ▸ Nat.one_pos)))
  · match a with
    | ⟨0, _⟩ => show (0 + 1) * 1 ≤ 4; omega
    | ⟨1, _⟩ => show (BitVec.toNat (w := 32) (pf 0 _) + 1) * 1 ≤ 32; rw [Nat.mul_one]; exact h
    | ⟨2, _⟩ => show (0 + 1) * 1024 ≤ 1024; omega
    | ⟨3, _⟩ => show (0 + 1) * 2048 ≤ 2048; omega
  · match a with
    | ⟨0, _⟩ => show (0 + 1) * 1 ≤ 4; omega
    | ⟨1, _⟩ => show (BitVec.toNat (w := 32) (pf 0 _) + 1) * 1 ≤ 32; rw [Nat.mul_one]; exact h
    | ⟨2, _⟩ => show (0 + 1) * 1 ≤ 1; omega
    | ⟨3, _⟩ => show (0 + 1) * 2048 ≤ 2048; omega
  · match a with
    | ⟨0, _⟩ => show (0 + 1) * 1 ≤ 4; omega
    | ⟨1, _⟩ => show (BitVec.toNat (w := 32) (pf 0 _) + 1) * 1 ≤ 32; rw [Nat.mul_one]; exact h
    | ⟨2, _⟩ => show (0 + 1) * 1024 ≤ 1024; omega
    | ⟨3, _⟩ => show (0 + 1) * 1024 ≤ 1024; omega
  · match a with
    | ⟨0, _⟩ => show (0 + 1) * 1 ≤ 4; omega
    | ⟨1, _⟩ => show (BitVec.toNat (w := 32) (pf 0 _) + 1) * 1 ≤ 32; rw [Nat.mul_one]; exact h
    | ⟨2, _⟩ => show (0 + 1) * 1 ≤ 1; omega
    | ⟨3, _⟩ => show (0 + 1) * 1024 ≤ 1024; omega

/-! ## From the precondition -/

variable (m : (ℓ : Loc nD τ sig) → Buf (Elt F) ℓ)

/-- The one index of the scalar shape. -/
def pt0 : S_.Idx := fun a => a.elim0

/-- The number of used blocks of the launch memory. -/
def used (c : Dev nD) : BitVec 32 := nuOf (F := F) (m (c, main_arg1)) pt0

theorem nuOf_any (x : S32.Idx → BitVec 32) (q : S_.Idx) : nuOf (F := F) x q = nuOf (F := F) x pt0 :=
  congrArg _ (funext fun a => a.elim0)

theorem table_n (c : Dev nD) (q : S1.Idx) : tabs m c 1 q = used m c :=
  (congrFun (V_v26 m c) q).trans (nuOf_any _ _)

theorem table_b (c : Dev nD) (k : S164.Idx) : tabs m c 0 k = expOf (padEnd (F := F) (m (c, main_arg1))) (nuOf (F := F) (m (c, main_arg1))) k :=
  congrFun (V_v25 m c) k

/-- The launch memory's counts use a block. -/
def Used : Prop := ∀ c, 1 ≤ (used m c).toInt

theorem ok_tabs (h : Used m) (c : Dev nD) : ok0 (tabs m c) := by
  refine ok_of _ ?_ fun k => ?_
  · rw [show (tabs m c).at 1 (Rect.unit (s := S1) ![0] S1.size inb_S1_S1_0) numel1_S1 = used m c from table_n m c _]; exact h c
  · rw [table_b]; exact expOf_lt _ _ k

/-- The tables of the launch memory, admissible. -/
def adm (h : Used m) : (pcfg0 (F := F)).Adm := ⟨tabs m 0, ok_tabs m h 0⟩

theorem tabs_adm (h : Used m) (c : Dev nD) : tabs m c = (adm m h).1 := by
  rw [show c = 0 from Subsingleton.elim _ _]; rfl

theorem used_of_pre (h : ∀ c, Cert.Pre_blocks_used.fn (F := F) (m (c, main_arg0)) (m (c, main_arg1)) (m (c, main_arg2)) (m (c, main_arg3))
    (m (c, main_arg4)) (m (c, main_arg5)) = fun _ => 1#1) : Used m := fun c => by
  have h1 := congrFun (h c) (ix1 (0 : Fin 1))
  have h2 : BitVec.ofBool ((1#32).sle (nuOf (F := F) (m (c, main_arg1)) (Shape.rowMajor S_ |>.symm (Fin.cast shapeCasts_S_S1 (S1.rowMajor (ix1 (0 : Fin 1))))))) = 1#1 := h1
  rw [nuOf_any] at h2
  have h3 : (1#32).sle (used m c) = true := by
    cases hb : (1#32).sle (used m c) with
    | true => rfl
    | false => rw [show nuOf (F := F) (m (c, main_arg1)) pt0 = used m c from rfl, hb] at h2; exact absurd h2 (by decide)
  rw [BitVec.sle_iff_toInt_le] at h3
  exact h3

end Cert.Proof.Experts

end
-- ==== Proof.Experts.Run.lean ====
/- The expert kernel's body at a symbolic grid point, and the run of @main, for any float values, from any memory whose
   tables keep every block inside its array. -/
module

public import proofs.«01_k».proof.Proof.Experts.Launch

@[expose] public section

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation FramePost)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (a : (pcfg0 (F := F)).Adm)

/-- The body at point `t`, in any whole buffers that read the point's blocks. -/
theorem body_at (c : Dev nD) (t : Fin (cfg0 a).N)
    (M3 : Memref sig .tc .vmem S4096x128 .f32) (h3 : M3.IsWhole) (M4 : Memref sig .tc .vmem S1x1x1024x2048 .f32) (h4 : M4.IsWhole)
    (M5 : Memref sig .tc .vmem S1x1x1x2048 .f32) (h5 : M5.IsWhole) (M6 : Memref sig .tc .vmem S1x1x1024x1024 .f32) (h6 : M6.IsWhole)
    (M7 : Memref sig .tc .vmem S1x1x1x1024 .f32) (h7 : M7.IsWhole) (M8 : Memref sig .tc .vmem S4096x128 .f32) (h8 : M8.IsWhole)
    (f3 : Cont (F := F) c M3) (f4 : Cont (F := F) c M4) (f5 : Cont (F := F) c M5) (f6 : Cont (F := F) c M6) (f7 : Cont (F := F) c M7)
    (f8 : Cont (F := F) c M8)
    (e3 : M3.view.read (Elt F) f3 = iblk m a c 0 t) (e4 : M4.view.read (Elt F) f4 = iblk m a c 1 t)
    (e5 : M5.view.read (Elt F) f5 = iblk m a c 2 t) (e6 : M6.view.read (Elt F) f6 = iblk m a c 3 t)
    (e7 : M7.view.read (Elt F) f7 = iblk m a c 4 t) (ht : TB.IsWhole) (ht' : TN.IsWhole) (hg : G0.IsWhole) (hg' : G1.IsWhole) (Q) :
    inv m a c t.val ∗ held c M3 f3 ∗ held c M4 f4 ∗ held c M5 f5 ∗ held c M6 f6 ∗ held c M7 f7 ∗ held c M8 f8
      ∗ ((∃ f8', ⌜M8.view.read (Elt F) f8' = outAt m a c t⌝ ∗ inv m a c (t.val + 1)
          ∗ held c M3 f3 ∗ held c M4 f4 ∗ held c M5 f5 ∗ held c M6 f6 ∗ held c M7 f7 ∗ held c M8 f8') -∗ Q ⟨⟩)
    ⊢ (wp frame (wpE defs₀ Variants.none c none) Set.univ
        (cc0_moe_ffn (grid0.coords t) TB ht TN ht' M3 h3 M4 h4 M5 h5 M6 h6 M7 h7 M8 h8 G0 hg G1 hg') Q : sProp 𝕄) := by
  unfold inv
  iintro ⟨⟨%g0, %g1, %hg01, HG0, HG1, Hp, HB, HN⟩, H3, H4, H5, H6, H7, H8, HQ⟩
  have kk : (if reload (grid0.coords t) (wB c (a.1 0) (k0_off1 (grid0.coords t)) (k0_off1_inb _)) (wB c (a.1 0) (k0_off2 (grid0.coords t)) (k0_off2_inb _)) = 1#1
        then k0_pay1 (iblk m a c 1 t) else G0.view.read (Elt F) g0) = k0_pay1 (iblk m a c 1 t)
      ∧ (if reload (grid0.coords t) (wB c (a.1 0) (k0_off1 (grid0.coords t)) (k0_off1_inb _)) (wB c (a.1 0) (k0_off2 (grid0.coords t)) (k0_off2_inb _)) = 1#1
        then k0_pay2 (iblk m a c 3 t) else G1.view.read (Elt F) g1) = k0_pay2 (iblk m a c 3 t) := by
    by_cases hr : reload (grid0.coords t) (wB c (a.1 0) (k0_off1 (grid0.coords t)) (k0_off1_inb _)) (wB c (a.1 0) (k0_off2 (grid0.coords t)) (k0_off2_inb _)) = 1#1
    · exact ⟨if_pos hr, if_pos hr⟩
    · have h0 := (not_reload _ _ _ hr).1
      rw [coords_val] at h0
      have hlt := t.isLt
      have hn := hg01 ⟨t.val - 1, by omega⟩ (by show t.val - 1 + 1 = t.val; omega)
      have hp := iblk_prev m a c t ⟨t.val - 1, by omega⟩ (by show t.val - 1 + 1 = t.val; omega) hr
      rw [hp.1, hp.2]
      exact ⟨(if_neg hr).trans hn.1, (if_neg hr).trans hn.2⟩
  have k8 : (k0_cond3 (grid0.coords t) (wN c (a.1 1)) = 1#1 ∧ outAt m a c t = k0_pay12)
      ∨ (k0_cond3 (grid0.coords t) (wN c (a.1 1)) ≠ 1#1 ∧ k0_cond2 (grid0.coords t) (wN c (a.1 1)) = 1#1
        ∧ outAt m a c t = outBlk (iblk m a c 0 t) (k0_pay1 (iblk m a c 1 t)) (iblk m a c 2 t) (k0_pay2 (iblk m a c 3 t)) (iblk m a c 4 t)) := by
    by_cases h3 : k0_cond3 (grid0.coords t) (nu a c) = 1#1
    · exact .inl ⟨h3, if_pos h3⟩
    · exact .inr ⟨h3, (cond2_iff_not _ _).mpr h3, if_neg h3⟩
  iapply (body_run c (grid0.coords t) (a.1 0) (a.1 1) M3 h3 M4 h4 M5 h5 M6 h6 M7 h7 M8 h8 f3 f4 f5 f6 f7 f8 g0 g1
    (iblk m a c 0 t) (iblk m a c 1 t) (iblk m a c 2 t) (iblk m a c 3 t) (iblk m a c 4 t) e3 e4 e5 e6 e7
    (k0_pay1 (iblk m a c 1 t)) (k0_pay2 (iblk m a c 3 t)) (outAt m a c t) kk.1 kk.2 k8)
  isplitl [HB]; · iexact HB
  isplitl [HN]; · iexact HN
  isplitl [H3]; · iexact H3
  isplitl [H4]; · iexact H4
  isplitl [H5]; · iexact H5
  isplitl [H6]; · iexact H6
  isplitl [H7]; · iexact H7
  isplitl [H8]; · iexact H8
  isplitl [HG0]; · iexact HG0
  isplitl [HG1]; · iexact HG1
  iintro ⟨%g0', %g1', %f8', %hh, HB, HN, H3, H4, H5, H6, H7, H8, HG0, HG1⟩
  iapply HQ
  iexists f8'
  isplitr; · ipureintro; exact hh.2.2
  isplitl [HG0 HG1 Hp HB HN]
  · iexists g0'; iexists g1'
    isplitr
    · ipureintro
      intro n hn
      have : n = t := Fin.ext (Nat.succ.inj hn)
      subst this
      exact ⟨hh.1, hh.2.1⟩
    isplitl [HG0]; · iexact HG0
    isplitl [HG1]; · iexact HG1
    isplitl [Hp]; · iexact Hp
    isplitl [HB]; · iexact HB
    iexact HN
  isplitl [H3]; · iexact H3
  isplitl [H4]; · iexact H4
  isplitl [H5]; · iexact H5
  isplitl [H6]; · iexact H6
  isplitl [H7]; · iexact H7
  iexact H8

set_option maxRecDepth 16384 in
/-- The body's obligation at point `t`, its windows written out. -/
theorem body_step (c : Dev nD) (t : Fin (cfg0 a).N)
    (M3 : Memref sig .tc .vmem S4096x128 .f32) (h3 : M3.IsWhole)
    (M4 : Memref sig .tc .vmem S1x1x1024x2048 .f32) (h4 : M4.IsWhole)
    (M5 : Memref sig .tc .vmem S1x1x1x2048 .f32) (h5 : M5.IsWhole)
    (M6 : Memref sig .tc .vmem S1x1x1024x1024 .f32) (h6 : M6.IsWhole)
    (M7 : Memref sig .tc .vmem S1x1x1x1024 .f32) (h7 : M7.IsWhole)
    (M8 : Memref sig .tc .vmem S4096x128 .f32) (h8 : M8.IsWhole) :
    (iprop(inv m a c t.val ∗ (dats m a 0 c).owesAt () t.castSucc
        ∗ (∃ d, owns (c : Thread nD τ) M3 fullShare ((dats m a 0 c).before 0 t d))
        ∗ (∃ d, owns (c : Thread nD τ) M4 fullShare ((dats m a 0 c).before 1 t d))
        ∗ (∃ d, owns (c : Thread nD τ) M5 fullShare ((dats m a 0 c).before 2 t d))
        ∗ (∃ d, owns (c : Thread nD τ) M6 fullShare ((dats m a 0 c).before 3 t d))
        ∗ (∃ d, owns (c : Thread nD τ) M7 fullShare ((dats m a 0 c).before 4 t d))
        ∗ (∃ d, owns (c : Thread nD τ) M8 fullShare ((dats m a 0 c).before 5 t d))) : sProp 𝕄)
      ⊢ wp frame (wpE (defs₀ (F := F)) Variants.none c none) Set.univ
        (cc0_moe_ffn (grid0.coords t) TB (Memref.isWhole_whole _) TN (Memref.isWhole_whole _)
          M3 h3 M4 h4 M5 h5 M6 h6 M7 h7 M8 h8
          G0 (Memref.isWhole_whole _) G1 (Memref.isWhole_whole _)) fun _ =>
          iprop(inv m a c (t.val + 1) ∗ (dats m a 0 c).owesAt () t.succ
            ∗ owns (c : Thread nD τ) M3 fullShare (iblk m a c 0 t)
            ∗ owns (c : Thread nD τ) M4 fullShare (iblk m a c 1 t)
            ∗ owns (c : Thread nD τ) M5 fullShare (iblk m a c 2 t)
            ∗ owns (c : Thread nD τ) M6 fullShare (iblk m a c 3 t)
            ∗ owns (c : Thread nD τ) M7 fullShare (iblk m a c 4 t)
            ∗ owns (c : Thread nD τ) M8 fullShare (outAt m a c t)) := by
  unfold owns
  rw [h3.set_eq_univ, h4.set_eq_univ, h5.set_eq_univ, h6.set_eq_univ, h7.set_eq_univ, h8.set_eq_univ]
  unfold Dat.owesAt Pipeline.owesWithin
  rw [show (dats m a 0 c).owed t.castSucc = 0 from rfl, show (dats m a 0 c).owed t.succ = 0 from rfl]
  iintro ⟨Hv, ⟨%W, %hW, HO⟩, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before_0] at hf0
  rw [before_1] at hf1
  rw [before_2] at hf2
  rw [before_3] at hf3
  rw [before_4] at hf4
  iapply (body_at m a c t M3 h3 M4 h4 M5 h5 M6 h6 M7 h7 M8 h8
    f0 f1 f2 f3 f4 f5 hf0 hf1 hf2 hf3 hf4
    (Memref.isWhole_whole _) (Memref.isWhole_whole _) (Memref.isWhole_whole _) (Memref.isWhole_whole _))
  isplitl [Hv]; · iexact Hv
  isplitl [H0]; · iexact H0
  isplitl [H1]; · iexact H1
  isplitl [H2]; · iexact H2
  isplitl [H3]; · iexact H3
  isplitl [H4]; · iexact H4
  isplitl [H5]; · iexact H5
  iintro ⟨%f5', %hf5', Hv, H0, H1, H2, H3, H4, H5⟩
  isplitl [Hv]; · iexact Hv
  isplitl [HO]
  · iexists W; isplitr; · ipureintro; exact fun _ _ => Or.inl trivial
    iexact HO
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  iexists f5'; isplitr; swap; (· iexact H5); ipureintro; exact hf5'

set_option maxRecDepth 16384 in
set_option maxHeartbeats 1000000 in
theorem body_obligation (c : Dev nD) : BodyObligation (dats m a 0 c) (defs₀ (F := F)) Variants.none () Set.univ := fun t => by
  rw [bigSep_W0, bigSep_W0, idle5]
  dsimp only
  exact body_step m a c t
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))

/-- The two tables conjoined one by one. -/
theorem bigSep_tables {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

theorem tables_eq (c : Dev nD) : (Pipeline.ΦT pre0 a.1 c : sProp 𝕄) = iprop(heldR c TB (a.1 0) ∗ heldR c TN (a.1 1)) := by
  unfold Pipeline.ΦT Pipeline.prefHeld
  rw [show (bigSep (Finset.univ : Finset (Fin pre0.K)) fun k => (((c.tc : Thread nD τ).loc (pre0.ref k)) ↦{fullShare.right} a.1 k : sProp 𝕄))
    = _ from bigSep_tables _]
  rfl

theorem inv_in (c : Dev nD) : iprop(Pipeline.ΦA spec0 c ∗ Pipeline.ΦT pre0 a.1 c) ⊢ (inv m a c 0 : sProp 𝕄) := by
  rw [tables_eq]
  unfold Pipeline.ΦA inv
  rw [scopedRest0_eq]
  iintro ⟨⟨⟨⟨%g0, H0⟩, %g1, H1⟩, Hp⟩, HB, HN⟩
  iexists g0; iexists g1
  isplitr; · ipureintro; intro n hn; exact absurd hn (Nat.succ_ne_zero _)
  isplitl [H0]; · iexact H0
  isplitl [H1]; · iexact H1
  isplitl [Hp]; · iexact Hp
  isplitl [HB]; · iexact HB
  iexact HN

theorem inv_out (c : Dev nD) (n : ℕ) : (inv m a c n : sProp 𝕄) ⊢ Pipeline.ΦA spec0 c := by
  unfold Pipeline.ΦA inv
  rw [scopedRest0_eq]
  iintro ⟨%g0, %g1, -, H0, H1, Hp, -, -⟩
  isplitl [H0 H1]
  · isplitl [H0]; · iexists g0; iexact H0
    iexists g1; iexact H1
  iexact Hp

/-- THE RUN: @main terminates; the output array ends as the points leave it, the other buffers as the launch found them,
    and every counter at zero. -/
theorem run_main [∀ e, Nonempty (Elt F e)] (ha : ∀ c, tabs m c = a.1) :
    θ_run defs (onTc (τ := τ) (main (F := F))) (s₀ m ρ)
      (fun r => FramePost (Pipeline.pin pcfgs fun _ => a) (dats m a) 0 (V m) r ∧ r.2.sem = fun _ => 0) :=
  Pipeline.θ_run_frameP_track pcfgs (fun _ => a) (dats m a) 0 launch0 defs₀ Variants.none m ρ main
    (hbody := fun c => (body_obligation m a c).loose) (hshare := fun c => (dats m a 0 c).share_full fun _ => rfl)
    (howed := fun _ _ => rfl) (V := V m)
    (hmain := Pipeline.hmainP_prefixes pcfgs 0 defs₀ Variants.none m main opss
      ⟨hostOps0_sub, hostOps0_1_sub, hostOps0_2_sub, hostOps0_3_sub, hostOps0_4_sub, hostOps0_5_sub, hostOps0_6_sub⟩
      (by simp only [List.Forall]; repeat' constructor) main_chain)
    (hA := fun _ _ => rfl) (hpf := fun c k => congrFun (ha c) k)
    (hin := fun c => inv_in m a c) (hout := fun c => inv_out m a c _) (Q' := _)

end Cert.Proof.Experts

end
-- ==== Proof.Experts.Value.lean ====
/- What the launch leaves in the output table: block `t` of it is what point `t`'s body leaves; and the blocks the body
   finds, read in the launch memory. -/
module

public import proofs.«01_k».proof.Proof.Experts.Range
public import proofs.«01_k».proof.Proof.Experts.Run
public import Idealize.ShloMosaic.Lib.Pipeline.ValueKit.Geometry

@[expose] public section

noncomputable section

namespace Cert.Proof.Experts

open Cert.Kernel2Ideal Cert.Kernel2Ideal.Gen
open Idealize.ShloMosaic Idealize.ShloMosaic.TcCoe Idealize.ShloMosaic.ValueIdx
open Idealize.ShloMosaic.Pipeline (Dat FramePost)

variable {F : FTy → Type} [FloatOps F]

variable (m : (ℓ : Loc nD τ sig) → Buf (Elt F) ℓ) (a : (pcfg0 (F := F)).Adm) (c : Dev nD)

/-- Point `t`'s output block is block `t`. -/
theorem at_out (t : Fin (cfg0 a).N) : ((cfg0 a).win 5).index t (0 : Fin 2) = t.val := by
  show (BitVec.ofNat 32 (grid0.coords t 0).val).toNat = t.val
  rw [coords_val a t, BitVec.toNat_ofNat]
  have h : t.val < 164 := lt_of_lt_of_eq t.isLt N_0
  omega

/-- Every point's output block is written back. -/
theorem flush5 (t : Fin (cfg0 a).N) : ((cfg0 a).win 5).flush t = true := by
  rw [Pipeline.Window.flush_out _ rfl]
  by_cases h : t.val + 1 < (cfg0 a).grid.N
  · refine .inr ⟨h, fun e => ?_⟩
    have e0 := congrFun e (0 : Fin 2)
    rw [at_out a ⟨t.val + 1, h⟩, at_out a t] at e0
    exact absurd e0 (by show t.val + 1 ≠ t.val; omega)
  · have := t.isLt
    exact .inl (by change t.val < (cfg0 a).grid.N at this; omega)

/-- The point whose block holds row `r`. -/
def ptOf (y : S671744x128.Idx) : Fin (cfg0 a).N :=
  ⟨(y 0).val / 4096, lt_of_lt_of_eq (by have h : (y 0).val < 671744 := (y 0).isLt; omega : (y 0).val / 4096 < 164) N_0.symm⟩

/-- The whole output table. -/
def outTab : S671744x128.Idx → Elt F .f32 := fun y =>
  outAt m a c (ptOf a y) (ix2 ⟨(y 0).val % 4096, by omega⟩ (y 1))

theorem emb5 (t : Fin (cfg0 a).N) (y : S4096x128.Idx) :
    (((cfg0 a).win 5).blk t).view.emb y = (ix2 ⟨4096 * t.val + (y 0).val, by
      have h : t.val < 164 := lt_of_lt_of_eq t.isLt N_0
      have h2 : (y 0).val < 4096 := (y 0).isLt
      show _ < 671744; omega⟩ (y 1) : S671744x128.Idx) := by
  have h := at_out a t
  refine funext fun b => Fin.ext ?_
  match b with
  | ⟨0, _⟩ => show ((cfg0 a).win 5).index t (0 : Fin 2) * 4096 + 1 * (y 0).val = 4096 * t.val + (y 0).val; omega
  | ⟨1, _⟩ => show 0 * 128 + 1 * (y 1).val = (y 1).val; omega

theorem outTab_emb (t : Fin (cfg0 a).N) (y : S4096x128.Idx) : outAt m a c t y = outTab m a c ((((cfg0 a).win 5).blk t).view.emb y) := by
  refine Eq.trans ?_ (congrArg (outTab m a c) (emb5 a t y)).symm
  have h2 : (y 0).val < 4096 := (y 0).isLt
  unfold outTab
  refine congr (congrArg (outAt m a c) (Fin.ext ?_)) (funext fun b => Fin.ext ?_)
  · show t.val = (4096 * t.val + (y 0).val) / 4096
    omega
  · match b with
    | ⟨0, _⟩ => show (y 0).val = (4096 * t.val + (y 0).val) % 4096; omega
    | ⟨1, _⟩ => rfl

theorem mem5 (i : S671744x128.Idx) : i ∈ (((cfg0 a).win 5).blk (ptOf a i)).view.set := by
  have h0 : (i 0).val < 671744 := (i 0).isLt
  have e : (((cfg0 a).win 5).blk (ptOf a i)).view.emb (ix2 ⟨(i 0).val % 4096, by omega⟩ (i 1) : S4096x128.Idx) = i := by
    refine (emb5 a _ _).trans (funext fun b => Fin.ext ?_)
    match b with
    | ⟨0, _⟩ => show 4096 * ((i 0).val / 4096) + (i 0).val % 4096 = (i 0).val; omega
    | ⟨1, _⟩ => rfl
  exact Eq.mp (congrArg (· ∈ (((cfg0 a).win 5).blk (ptOf a i)).view.set) e) (View.emb_mem_set _ _)

/-- What the launch leaves in the output table. -/
theorem arr5 : (dats m a 0 c).arrAt 5 (cfg0 a).N = outTab m a c :=
  (dats m a 0 c).arrAt_eq_of_emb 5 (outTab m a c) (fun t _ y => (Eq.trans (b := outAt m a c t y) rfl (outTab_emb m a c t y)))
    fun i => ⟨ptOf a i, flush5 a _, mem5 a i⟩

/-! ## The blocks the body finds -/

section Blocks

variable (n : BitVec 32) (ex : S164.Idx → BitVec 32)

theorem nu_eq (hn : ∀ q, (a.1 1 : S1.Idx → BitVec 32) q = n) : nu a c = n := hn _

/-- The block of rows point `t` takes. -/
theorem at_rows (hn : ∀ q, (a.1 1 : S1.Idx → BitVec 32) q = n) (t : Fin (cfg0 a).N) :
    cc0_transform_0 inb_S1_S1_0 numel1_S1 a.1 (grid0.coords t) 0 = (IntOp.minsi (BitVec.ofNat 32 t.val) (n - 1#32)).toNat := by
  show (IntOp.minsi (BitVec.ofNat 32 (grid0.coords t 0).val) (Scalar.subi (a.1.at 1 (Rect.unit (s := S1) ![0] S1.size inb_S1_S1_0) numel1_S1) 1#32)).toNat = _
  rw [show a.1.at 1 (Rect.unit (s := S1) ![0] S1.size inb_S1_S1_0) numel1_S1 = n from hn _, coords_val a t]
  rfl

/-- Point `t`, as an index of the table of experts. -/
def ptIx (t : Fin (cfg0 a).N) : S164.Idx := ix1 ⟨t.val, lt_of_lt_of_eq t.isLt N_0⟩

/-- The expert point `t` takes. -/
theorem at_exp (hb : ∀ k, (a.1 0 : S164.Idx → BitVec 32) k = ex k) (t : Fin (cfg0 a).N) :
    a.1.at 0 (Rect.unit (s := S164) ![(Scalar.indexCast (BitVec.ofNat 32 (grid0.coords t 0).val) : BitVec 32).toNat] S1.size (k0_off1_inb (grid0.coords t))) numel1_S1
      = ex (ptIx a t) := by
  refine (hb _).trans (congrArg ex (funext fun b => Fin.ext ?_))
  have ht : t.val < 164 := lt_of_lt_of_eq t.isLt N_0
  match b with
  | ⟨0, _⟩ =>
    show (BitVec.ofNat 32 (grid0.coords t 0).val).toNat + 1 * 0 = t.val
    rw [coords_val a t, BitVec.toNat_ofNat]
    omega

theorem at_1 (hb : ∀ k, (a.1 0 : S164.Idx → BitVec 32) k = ex k) (t : Fin (cfg0 a).N) :
    cc0_transform_1 k0_off1_inb numel1_S1 a.1 (grid0.coords t) 1 = (ex (ptIx a t)).toNat := congrArg BitVec.toNat (at_exp a ex hb t)
theorem at_2 (hb : ∀ k, (a.1 0 : S164.Idx → BitVec 32) k = ex k) (t : Fin (cfg0 a).N) :
    cc0_transform_2 k0_off1_inb numel1_S1 a.1 (grid0.coords t) 1 = (ex (ptIx a t)).toNat := congrArg BitVec.toNat (at_exp a ex hb t)
theorem at_3 (hb : ∀ k, (a.1 0 : S164.Idx → BitVec 32) k = ex k) (t : Fin (cfg0 a).N) :
    cc0_transform_3 k0_off1_inb numel1_S1 a.1 (grid0.coords t) 1 = (ex (ptIx a t)).toNat := congrArg BitVec.toNat (at_exp a ex hb t)
theorem at_4 (hb : ∀ k, (a.1 0 : S164.Idx → BitVec 32) k = ex k) (t : Fin (cfg0 a).N) :
    cc0_transform_4 k0_off1_inb numel1_S1 a.1 (grid0.coords t) 1 = (ex (ptIx a t)).toNat := congrArg BitVec.toNat (at_exp a ex hb t)

theorem rows_at (t : Fin (cfg0 a).N) (h : cc0_transform_0 inb_S1_S1_0 numel1_S1 a.1 (grid0.coords t) 0 = t.val) (r : Fin 4096) (l : Fin 128) :
    (iblk m a c 0 t : S4096x128.Idx → Elt F .f32) (ix2 r l)
      = (m (c, main_arg0) : S671744x128.Idx → Elt F .f32)
          (ix2 ⟨4096 * t.val + r.val, by have h : t.val < 164 := lt_of_lt_of_eq t.isLt N_0; show _ < 671744; omega⟩ l) := by
  rw [← V_arg0 m c]
  refine Eq.trans (b := (V m c main_arg0 : S671744x128.Idx → Elt F .f32) ((((cfg0 a).win 0).blk t).view.emb (ix2 r l : S4096x128.Idx))) rfl ?_
  refine congrArg (V m c main_arg0 : S671744x128.Idx → Elt F .f32) (funext fun b => Fin.ext ?_)
  match b with
  | ⟨0, _⟩ => show cc0_transform_0 inb_S1_S1_0 numel1_S1 a.1 (grid0.coords t) 0 * 4096 + 1 * r.val = 4096 * t.val + r.val; omega
  | ⟨1, _⟩ => show 0 * 128 + 1 * l.val = l.val; omega

theorem w0_at (t : Fin (cfg0 a).N) (e : Fin 32) (h : cc0_transform_1 k0_off1_inb numel1_S1 a.1 (grid0.coords t) 1 = e.val) (k : Fin 1024) (q : Fin 2048) :
    (iblk m a c 1 t : S1x1x1024x2048.Idx → Elt F .f32) (ix4 0 0 k q) = (m (c, main_arg2) : S4x32x1024x2048.Idx → Elt F .f32) (ix4 0 e k q) := by
  rw [← V_arg2 m c]
  refine Eq.trans (b := (V m c main_arg2 : S4x32x1024x2048.Idx → Elt F .f32) ((((cfg0 a).win 1).blk t).view.emb (ix4 0 0 k q : S1x1x1024x2048.Idx))) rfl ?_
  refine congrArg (V m c main_arg2 : S4x32x1024x2048.Idx → Elt F .f32) (funext fun b => Fin.ext ?_)
  match b with
  | ⟨0, _⟩ => rfl
  | ⟨1, _⟩ => show cc0_transform_1 k0_off1_inb numel1_S1 a.1 (grid0.coords t) 1 * 1 + 1 * 0 = e.val; omega
  | ⟨2, _⟩ => show 0 * 1024 + 1 * k.val = k.val; omega
  | ⟨3, _⟩ => show 0 * 2048 + 1 * q.val = q.val; omega

theorem w1_at (t : Fin (cfg0 a).N) (e : Fin 32) (h : cc0_transform_3 k0_off1_inb numel1_S1 a.1 (grid0.coords t) 1 = e.val) (k : Fin 1024) (q : Fin 1024) :
    (iblk m a c 3 t : S1x1x1024x1024.Idx → Elt F .f32) (ix4 0 0 k q) = (m (c, main_arg4) : S4x32x1024x1024.Idx → Elt F .f32) (ix4 0 e k q) := by
  rw [← V_arg4 m c]
  refine Eq.trans (b := (V m c main_arg4 : S4x32x1024x1024.Idx → Elt F .f32) ((((cfg0 a).win 3).blk t).view.emb (ix4 0 0 k q : S1x1x1024x1024.Idx))) rfl ?_
  refine congrArg (V m c main_arg4 : S4x32x1024x1024.Idx → Elt F .f32) (funext fun b => Fin.ext ?_)
  match b with
  | ⟨0, _⟩ => rfl
  | ⟨1, _⟩ => show cc0_transform_3 k0_off1_inb numel1_S1 a.1 (grid0.coords t) 1 * 1 + 1 * 0 = e.val; omega
  | ⟨2, _⟩ => show 0 * 1024 + 1 * k.val = k.val; omega
  | ⟨3, _⟩ => show 0 * 1024 + 1 * q.val = q.val; omega

theorem b0_at (t : Fin (cfg0 a).N) (e : Fin 32) (h : cc0_transform_2 k0_off1_inb numel1_S1 a.1 (grid0.coords t) 1 = e.val) (q : Fin 2048) :
    (iblk m a c 2 t : S1x1x1x2048.Idx → Elt F .f32) (ix4 0 0 0 q) = (m (c, main_arg3) : S4x32x2048.Idx → Elt F .f32) (ix3 0 e q) := by
  refine Eq.trans (b := (V m c main_v27 : S4x32x1x2048.Idx → Elt F .f32) ((((cfg0 a).win 2).blk t).view.emb (ix4 0 0 0 q : S1x1x1x2048.Idx))) rfl ?_
  refine Eq.trans (congrArg (V m c main_v27 : S4x32x1x2048.Idx → Elt F .f32) (a₂ := ix4 0 e 0 q) (funext fun b => Fin.ext ?_)) ?_
  · match b with
    | ⟨0, _⟩ => rfl
    | ⟨1, _⟩ => show cc0_transform_2 k0_off1_inb numel1_S1 a.1 (grid0.coords t) 1 * 1 + 1 * 0 = e.val; omega
    | ⟨2, _⟩ => rfl
    | ⟨3, _⟩ => show 0 * 2048 + 1 * q.val = q.val; omega
  · rw [V_v27 m c]
    refine shapeCast_apply _ _ _ (ix3 0 e q : S4x32x2048.Idx) ?_
    rw [Shape.rowMajor_val_four, Shape.rowMajor_val_three]
    show (0 * 32 + e.val) * 2048 + q.val = ((0 * 32 + e.val) * 1 + 0) * 2048 + q.val
    omega

theorem b1_at (t : Fin (cfg0 a).N) (e : Fin 32) (h : cc0_transform_4 k0_off1_inb numel1_S1 a.1 (grid0.coords t) 1 = e.val) (q : Fin 1024) :
    (iblk m a c 4 t : S1x1x1x1024.Idx → Elt F .f32) (ix4 0 0 0 q) = (m (c, main_arg5) : S4x32x1024.Idx → Elt F .f32) (ix3 0 e q) := by
  refine Eq.trans (b := (V m c main_v28 : S4x32x1x1024.Idx → Elt F .f32) ((((cfg0 a).win 4).blk t).view.emb (ix4 0 0 0 q : S1x1x1x1024.Idx))) rfl ?_
  refine Eq.trans (congrArg (V m c main_v28 : S4x32x1x1024.Idx → Elt F .f32) (a₂ := ix4 0 e 0 q) (funext fun b => Fin.ext ?_)) ?_
  · match b with
    | ⟨0, _⟩ => rfl
    | ⟨1, _⟩ => show cc0_transform_4 k0_off1_inb numel1_S1 a.1 (grid0.coords t) 1 * 1 + 1 * 0 = e.val; omega
    | ⟨2, _⟩ => rfl
    | ⟨3, _⟩ => show 0 * 1024 + 1 * q.val = q.val; omega
  · rw [V_v28 m c]
    refine shapeCast_apply _ _ _ (ix3 0 e q : S4x32x1024.Idx) ?_
    rw [Shape.rowMajor_val_four, Shape.rowMajor_val_three]
    show (0 * 32 + e.val) * 1024 + q.val = ((0 * 32 + e.val) * 1 + 0) * 1024 + q.val
    omega

end Blocks

end Cert.Proof.Experts

end
-- ==== Proof.Experts.Apply.lean ====
/- What a used block's body leaves, at an index, at the ideal values: the expert layer of one block of rows, as sums. -/
module

public import proofs.«01_k».proof.Proof.Experts.Body
public import Idealize.ShloMosaic.Lib.MatmulPlain
public import Idealize.ShloMosaic.Lib.IdealHost
public import Idealize.ShloMosaic.Lib.Pipeline.Value

@[expose] public section

noncomputable section

namespace Cert.Proof.Experts

open Cert.Kernel2Ideal Cert.Kernel2Ideal.Gen
open Idealize.ShloMosaic Idealize.ShloMosaic.TcCoe Idealize.ShloMosaic.ValueIdx

/-- The gated activation of a gate and an up value, the clips and the factor as their bit patterns. -/
def act (g u : EReal) : EReal :=
  let a : EReal := min g (Ideal.ofBits .f32 0x40E00000#32)
  a * Ideal.logistic (Ideal.ofBits .f32 0x3FD9DB23#32 * a)
    * (min (Ideal.ofBits .f32 0x40E00000#32) (max (Ideal.ofBits .f32 0xC0E00000#32) u) + Ideal.ofBits .f32 0x3F800000#32)

/-- Gate and up columns of row `r`: the row against the first weights, and their bias. -/
def gateUp (x : Fin 1024 → EReal) (W : Fin 1024 → Fin 2048 → EReal) (B : Fin 2048 → EReal) (q : Fin 2048) : EReal :=
  (∑ k : Fin 1024, x k * W k q) + B q

/-- The activations of a row. -/
def acts (x : Fin 1024 → EReal) (W : Fin 1024 → Fin 2048 → EReal) (B : Fin 2048 → EReal) (q : Fin 1024) : EReal :=
  act (gateUp x W B ⟨q.val, by omega⟩) (gateUp x W B ⟨1024 + q.val, by omega⟩)

/-- The row an expert makes of a row. -/
def mlp (x : Fin 1024 → EReal) (W0 : Fin 1024 → Fin 2048 → EReal) (B0 : Fin 2048 → EReal) (W1 : Fin 1024 → Fin 1024 → EReal)
    (B1 : Fin 1024 → EReal) (q : Fin 1024) : EReal :=
  (∑ k : Fin 1024, acts x W0 B0 k * W1 k q) + B1 q

/-- Row `r` of a block laid out as rows of 128. -/
def rowOf (X : S4096x128.Idx → EReal) (r : Fin 512) (k : Fin 1024) : EReal :=
  X (ix2 ⟨k.val / 128 + 8 * r.val, by omega⟩ ⟨k.val % 128, by omega⟩)

theorem cat_apply (X : S4096x128.Idx → Elt Ideal .f32) (r : Fin 512) (k : Fin 1024)
    (h : Shape.Concatenates [S512x128, S512x128, S512x128, S512x128, S512x128, S512x128, S512x128, S512x128] S512x1024 1) :
    concatenate S512x1024 1 [⟨S512x128, xcol X 0⟩, ⟨S512x128, xcol X 1⟩, ⟨S512x128, xcol X 2⟩, ⟨S512x128, xcol X 3⟩,
      ⟨S512x128, xcol X 4⟩, ⟨S512x128, xcol X 5⟩, ⟨S512x128, xcol X 6⟩, ⟨S512x128, xcol X 7⟩] h (ix2 r k) = rowOf X r k :=
  concatenate_ofFn_apply (t := S512x1024) (s₁ := S512x128) 1 (fun n : Fin 8 => xcol X n) h rfl 128 rfl (ix2 r k) ⟨k.val / 128, by omega⟩ rfl
    (ix2 r ⟨k.val % 128, by omega⟩) rfl (fun b hb => match b, hb with
      | ⟨0, _⟩, _ => rfl
      | ⟨1, _⟩, hb => absurd rfl hb)

theorem pay1_apply (W : S1x1x1024x2048.Idx → Elt Ideal .f32) (k : Fin 1024) (q : Fin 2048) :
    k0_pay1 (F := Ideal) W (ix2 k q) = W (ix4 0 0 k q) := by
  unfold k0_pay1
  refine (shapeCast_apply _ _ (ix2 k q) (ix2 k q) rfl).trans ?_
  rw [truncf_apply]
  refine shapeCast_apply _ _ (ix2 k q) (ix4 0 0 k q) ?_
  rw [Shape.rowMajor_val_four, Shape.rowMajor_val_two]
  show ((0 * 1 + 0) * 1024 + k.val) * 2048 + q.val = k.val * 2048 + q.val
  omega

theorem pay2_apply (W : S1x1x1024x1024.Idx → Elt Ideal .f32) (k : Fin 1024) (q : Fin 1024) :
    k0_pay2 (F := Ideal) W (ix2 k q) = W (ix4 0 0 k q) := by
  unfold k0_pay2
  refine (shapeCast_apply _ _ (ix2 k q) (ix2 k q) rfl).trans ?_
  rw [truncf_apply]
  refine shapeCast_apply _ _ (ix2 k q) (ix4 0 0 k q) ?_
  rw [Shape.rowMajor_val_four, Shape.rowMajor_val_two]
  show ((0 * 1 + 0) * 1024 + k.val) * 1024 + q.val = k.val * 1024 + q.val
  omega

/-- A bias row under every row, at an index. -/
theorem bias0_apply (B : S1x1x1x2048.Idx → Elt Ideal .f32) (r : Fin 512) (q : Fin 2048) :
    broadcastTo S512x2048 (shapeCast S1x2048 B shapeCasts_S1x1x1x2048_S1x2048) broadcasts_S1x2048_S512x2048 (ix2 r q) = B (ix4 0 0 0 q) := by
  refine (broadcastTo_apply _ _ (ix2 r q) (ix2 (0 : Fin 1) q) ?_).trans (shapeCast_apply _ _ (ix2 (0 : Fin 1) q) (ix4 0 0 0 q) ?_)
  · intro a
    match a with
    | ⟨0, _⟩ => rfl
    | ⟨1, _⟩ => rfl
  · rw [Shape.rowMajor_val_four, Shape.rowMajor_val_two]
    show ((0 * 1 + 0) * 1 + 0) * 2048 + q.val = 0 * 2048 + q.val
    omega

theorem bias1_apply (B : S1x1x1x1024.Idx → Elt Ideal .f32) (r : Fin 512) (q : Fin 1024) :
    broadcastTo S512x1024 (shapeCast S1x1024 B shapeCasts_S1x1x1x1024_S1x1024) broadcasts_S1x1024_S512x1024 (ix2 r q) = B (ix4 0 0 0 q) := by
  refine (broadcastTo_apply _ _ (ix2 r q) (ix2 (0 : Fin 1) q) ?_).trans (shapeCast_apply _ _ (ix2 (0 : Fin 1) q) (ix4 0 0 0 q) ?_)
  · intro a
    match a with
    | ⟨0, _⟩ => rfl
    | ⟨1, _⟩ => rfl
  · rw [Shape.rowMajor_val_four, Shape.rowMajor_val_two]
    show ((0 * 1 + 0) * 1 + 0) * 1024 + q.val = 0 * 1024 + q.val
    omega

theorem zero_acc : (Ideal.ofBits .f32 0x00000000#32 : EReal) = 0 := Ideal.ofBits_zero_f32

/-- The first product, at an index. -/
theorem mm0_apply (L : FVec Ideal S512x1024 .bf16) (W : FVec Ideal S1024x2048 .bf16) (r : Fin 512) (q : Fin 2048) :
    matmul dot_S512x1024_S1024x2048_S512x2048_1_0_0_1_n_n none L W (constant (F := Ideal) S512x2048 .f32 0x00000000#32) (ix2 r q)
      = ∑ k : Fin 1024, L (ix2 r k) * W (ix2 k q) := by
  refine (Ideal.matmul_plain_apply (M := 512) (K := 1024) (N := 2048) none L W _ r q).trans ?_
  show (Ideal.ofBits .f32 0x00000000#32 : EReal) + _ = _
  rw [zero_acc, zero_add]

/-- The second product, at an index. -/
theorem mm1_apply (L : FVec Ideal S512x1024 .bf16) (W : FVec Ideal S1024x1024 .bf16) (r : Fin 512) (q : Fin 1024) :
    matmul dot_S512x1024_S1024x1024_S512x1024_1_0_0_1_n_n none L W (constant (F := Ideal) S512x1024 .f32 0x00000000#32) (ix2 r q)
      = ∑ k : Fin 1024, L (ix2 r k) * W (ix2 k q) := by
  refine (Ideal.matmul_plain_apply (M := 512) (K := 1024) (N := 1024) none L W _ r q).trans ?_
  show (Ideal.ofBits .f32 0x00000000#32 : EReal) + _ = _
  rw [zero_acc, zero_add]

/-- The activations of a block of rows, at an index. -/
theorem hid_act (X : S4096x128.Idx → Elt Ideal .f32) (W : S1024x2048.Idx → Elt Ideal .bf16) (B : S1x1x1x2048.Idx → Elt Ideal .f32)
    (r : Fin 512) (q : Fin 1024) :
    hid (F := Ideal) X W B (ix2 r q) = acts (rowOf X r) (fun k n => W (ix2 k n)) (fun n => B (ix4 0 0 0 n)) q := by
  have G (n : Fin 2048) (h) :
      addf (matmul (φ₁ := .bf16) (φ₂ := .bf16) dot_S512x1024_S1024x2048_S512x2048_1_0_0_1_n_n none (truncf (F := Ideal) (φ := .f32) .bf16 (concatenate S512x1024 1 [⟨S512x128, xcol X 0⟩, ⟨S512x128, xcol X 1⟩, ⟨S512x128, xcol X 2⟩,
          ⟨S512x128, xcol X 3⟩, ⟨S512x128, xcol X 4⟩, ⟨S512x128, xcol X 5⟩, ⟨S512x128, xcol X 6⟩, ⟨S512x128, xcol X 7⟩] h : FVec Ideal S512x1024 .f32) bitsLt_bf16_f32) (W : FVec Ideal S1024x2048 .bf16) (constant (F := Ideal) S512x2048 .f32 0x00000000#32))
        (broadcastTo S512x2048 (shapeCast S1x2048 B shapeCasts_S1x1x1x2048_S1x2048) broadcasts_S1x2048_S512x2048 : FVec Ideal S512x2048 .f32) (ix2 r n)
      = gateUp (rowOf X r) (fun k n => W (ix2 k n)) (fun n => B (ix4 0 0 0 n)) n := by
    refine congrArg₂ (fun x y : EReal => x + y) ((mm0_apply _ W r n).trans ?_) (bias0_apply B r n)
    exact Finset.sum_congr rfl fun k _ => congrArg (fun z : EReal => z * W (ix2 k n)) (cat_apply X r k h)
  unfold hid k0_pay13 acts
  rw [← G _ concatenates_S512x128_S512x128_S512x128_S512x128_S512x128_S512x128_S512x128_S512x128_S512x1024_d1,
    ← G _ concatenates_S512x128_S512x128_S512x128_S512x128_S512x128_S512x128_S512x128_S512x128_S512x1024_d1]
  refine congrArg₂ act (extractStridedSlice_apply _ _ _ _ _ fun a => ?_) (extractStridedSlice_apply _ _ _ _ _ fun a => ?_)
  · match a with
    | ⟨0, _⟩ => exact (Nat.zero_add _).symm
    | ⟨1, _⟩ => exact (Nat.zero_add _).symm
  · match a with
    | ⟨0, _⟩ => exact (Nat.zero_add _).symm
    | ⟨1, _⟩ => rfl

theorem outBlk_apply (X : S4096x128.Idx → Elt Ideal .f32) (W0 : S1x1x1024x2048.Idx → Elt Ideal .f32) (B0 : S1x1x1x2048.Idx → Elt Ideal .f32)
    (W1 : S1x1x1024x1024.Idx → Elt Ideal .f32) (B1 : S1x1x1x1024.Idx → Elt Ideal .f32) (y : S4096x128.Idx) :
    outBlk (F := Ideal) X (k0_pay1 W0) B0 (k0_pay2 W1) B1 y
      = mlp (rowOf X ⟨(y 0).val / 8, by have h : (y 0).val < 4096 := (y 0).isLt; omega⟩) (fun k n => W0 (ix4 0 0 k n)) (fun n => B0 (ix4 0 0 0 n))
          (fun k n => W1 (ix4 0 0 k n)) (fun n => B1 (ix4 0 0 0 n))
          ⟨128 * ((y 0).val % 8) + (y 1).val, by have h : (y 1).val < 128 := (y 1).isLt; omega⟩ := by
  unfold outBlk spread k0_pay3 mlp
  refine congrArg₂ (fun x y : EReal => x + y) ((mm1_apply _ _ _ _).trans ?_) (bias1_apply B1 _ _)
  refine Finset.sum_congr rfl fun k _ => congrArg₂ (fun x y : EReal => x * y) ((hid_act X _ B0 _ k).trans ?_) (pay2_apply W1 k _)
  exact congrArg (fun W => acts _ W _ k) (funext fun a => funext fun b => pay1_apply W0 a b)

end Cert.Proof.Experts

end
-- ==== Proof.Experts.Ref.lean ====
/- The reference's result, at an index, at the ideal values: in a used block the expert's row, elsewhere zero. -/
module

public import proofs.«01_k».proof.Proof.Experts.Apply
public import proofs.«01_k».proof.Proof.Gen.Reference2Ideal.Read
public import Idealize.ShloMosaic.Lib.Routing.Ops

@[expose] public section

noncomputable section

namespace Cert.Proof.Experts

open Cert.Reference2Ideal Cert.Reference2Ideal.Gen Cert.Reference2Ideal.Read
open Idealize.ShloMosaic Idealize.ShloMosaic.TcCoe Idealize.ShloMosaic.ValueIdx
open Idealize.ShloMosaic.Routing (gather_row)

/-! ## Picking slabs of a stack -/

section Slab

variable {α : Type}

/-- The dimension numbers of `stack[idx]` over the slabs of a rank-3 stack. -/
abbrev slabDims (N K M n : ℕ) (wf : GatherDims.WF ⟨3, ![N, K, M]⟩ ⟨2, ![n, 1]⟩ ⟨3, ![n, K, M]⟩ [1, 2] [0] [] [0] [] 1 ![1, K, M]) :
    GatherDims ⟨3, ![N, K, M]⟩ ⟨2, ![n, 1]⟩ ⟨3, ![n, K, M]⟩ where
  offsetDims := [1, 2]
  collapsedSliceDims := [0]
  operandBatchingDims := []
  startIndicesBatchingDims := []
  startIndexMap := [0]
  indexVectorDim := 1
  sliceSizes := ![1, K, M]
  wf := wf

theorem gather_slab {N K M n : ℕ} (wf) (x : (⟨3, ![N, K, M]⟩ : Shape).Idx → α) (idx : IVec ⟨2, ![n, 1]⟩ 32) (t : Fin n) (k : Fin K) (q : Fin M)
    (e : Fin N) (he : idx (ix2 t (0 : Fin 1)) = BitVec.ofNat 32 e.val) (hN : N < 2 ^ 31) :
    Host.gather (slabDims N K M n wf) x idx (ix3 t k q) = x (ix3 e k q) := by
  unfold Host.gather
  refine congrArg x (funext fun a => Fin.ext ?_)
  match a with
  | ⟨0, _⟩ =>
    show (slabDims N K M n wf).start (ix3 t k q) idx 0 + (slabDims N K M n wf).batchCoord (ix3 t k q) 0 + (slabDims N K M n wf).offCoord (ix3 t k q) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N K M n wf).startIndexMap from List.mem_singleton.mpr rfl)]
    have hsi : (slabDims N K M n wf).siIdx (ix3 t k q) ⟨List.idxOf (0 : Fin 3) (slabDims N K M n wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    have hbl := e.isLt
    rw [hsi, he, StableHlo.Predicate.toInt_ofNat_small _ (by omega)]
    show min ((e.val : Int)).toNat (N - 1) = e.val
    omega
  | ⟨1, _⟩ =>
    show (slabDims N K M n wf).start (ix3 t k q) idx 1 + (slabDims N K M n wf).batchCoord (ix3 t k q) 1 + (slabDims N K M n wf).offCoord (ix3 t k q) 1 = k.val
    rw [GatherDims.batchCoord_eq_zero _ _ _ List.not_mem_nil]
    unfold GatherDims.start
    rw [dif_neg (show (1 : Fin 3) ∉ (slabDims N K M n wf).startIndexMap from fun h => absurd (List.mem_singleton.1 h) (show ¬ (1 : Fin 3) = 0 by decide)), Nat.zero_add]
    rfl
  | ⟨2, _⟩ =>
    show (slabDims N K M n wf).start (ix3 t k q) idx 2 + (slabDims N K M n wf).batchCoord (ix3 t k q) 2 + (slabDims N K M n wf).offCoord (ix3 t k q) 2 = q.val
    rw [GatherDims.batchCoord_eq_zero _ _ _ List.not_mem_nil]
    unfold GatherDims.start
    rw [dif_neg (show (2 : Fin 3) ∉ (slabDims N K M n wf).startIndexMap from fun h => absurd (List.mem_singleton.1 h) (show ¬ (2 : Fin 3) = 0 by decide)), Nat.zero_add]
    rfl

end Slab

/-- A small index is not wrapped. -/
theorem unwrapped (v n : BitVec 32) (e : Fin 32) (hv : v = BitVec.ofNat 32 e.val) :
    Scalar.select (IntOp.cmpi .slt v 0#32) (IntOp.addi v n) v = v := by
  have h : ∀ e : Fin 32, IntOp.cmpi .slt (BitVec.ofNat 32 e.val) 0#32 = 0#1 := by decide +kernel
  rw [hv, h]
  rfl

variable (x0 : S671744x128.Idx → Elt Ideal .f32) (x1 : S32.Idx → BitVec 32) (x2 : S4x32x1024x2048.Idx → Elt Ideal .f32)
  (x3 : S4x32x2048.Idx → Elt Ideal .f32) (x4 : S4x32x1024x1024.Idx → Elt Ideal .f32) (x5 : S4x32x1024.Idx → Elt Ideal .f32)
variable (t : Fin 164) (e : Fin 32) (he : val_main_v19 (F := Ideal) x1 (ix1 t) = BitVec.ofNat 32 e.val)

section Picked

include he

theorem pick28 : val_main_v28 (F := Ideal) x1 (ix2 t (0 : Fin 1)) = BitVec.ofNat 32 e.val := by
  rw [val_main_v28_apply, show idx_main_v28 (ix2 t (0 : Fin 1)) = ix1 t from funext fun a => match a with | ⟨0, _⟩ => rfl]
  exact (unwrapped _ 32#32 e he).trans he
theorem pick38 : val_main_v38 (F := Ideal) x1 (ix2 t (0 : Fin 1)) = BitVec.ofNat 32 e.val := by
  rw [val_main_v38_apply, show idx_main_v38 (ix2 t (0 : Fin 1)) = ix1 t from funext fun a => match a with | ⟨0, _⟩ => rfl]
  exact (unwrapped _ 32#32 e he).trans he
theorem pick67 : val_main_v67 (F := Ideal) x1 (ix2 t (0 : Fin 1)) = BitVec.ofNat 32 e.val := by
  rw [val_main_v67_apply, show idx_main_v67 (ix2 t (0 : Fin 1)) = ix1 t from funext fun a => match a with | ⟨0, _⟩ => rfl]
  exact (unwrapped _ 32#32 e he).trans he
theorem pick77 : val_main_v77 (F := Ideal) x1 (ix2 t (0 : Fin 1)) = BitVec.ofNat 32 e.val := by
  rw [val_main_v77_apply, show idx_main_v77 (ix2 t (0 : Fin 1)) = ix1 t from funext fun a => match a with | ⟨0, _⟩ => rfl]
  exact (unwrapped _ 32#32 e he).trans he

theorem w0_pick (k : Fin 1024) (q : Fin 2048) : val_main_v29 (F := Ideal) x1 x2 (ix3 t k q) = x2 (ix4 0 e k q) := by
  unfold val_main_v29
  refine (gather_slab _ (val_main_v22 (F := Ideal) x2) (val_main_v28 (F := Ideal) x1) t k q e (pick28 x1 t e he) (by norm_num)).trans ?_
  rw [val_main_v22_apply, val_main_v21_apply]
  refine congrArg x2 (funext fun a => Fin.ext ?_)
  have h0 := e.isLt; have h1 := k.isLt; have h2 := q.isLt
  match a with
  | ⟨0, _⟩ => rfl
  | ⟨1, _⟩ => show ((e.val * 1024 + k.val) * 2048 + q.val) / 2097152 % 32 = e.val; omega
  | ⟨2, _⟩ => show ((e.val * 1024 + k.val) * 2048 + q.val) / 2048 % 1024 = k.val; omega
  | ⟨3, _⟩ => show ((e.val * 1024 + k.val) * 2048 + q.val) % 2048 = q.val; omega

theorem w1_pick (k : Fin 1024) (q : Fin 1024) : val_main_v68 (F := Ideal) x1 x4 (ix3 t k q) = x4 (ix4 0 e k q) := by
  unfold val_main_v68
  refine (gather_slab _ (val_main_v61 (F := Ideal) x4) (val_main_v67 (F := Ideal) x1) t k q e (pick67 x1 t e he) (by norm_num)).trans ?_
  rw [val_main_v61_apply, val_main_v60_apply]
  refine congrArg x4 (funext fun a => Fin.ext ?_)
  have h0 := e.isLt; have h1 := k.isLt; have h2 := q.isLt
  match a with
  | ⟨0, _⟩ => rfl
  | ⟨1, _⟩ => show ((e.val * 1024 + k.val) * 1024 + q.val) / 1048576 % 32 = e.val; omega
  | ⟨2, _⟩ => show ((e.val * 1024 + k.val) * 1024 + q.val) / 1024 % 1024 = k.val; omega
  | ⟨3, _⟩ => show ((e.val * 1024 + k.val) * 1024 + q.val) % 1024 = q.val; omega

theorem b0_pick (r : Fin 512) (q : Fin 2048) : val_main_v41 (F := Ideal) x1 x3 (ix3 t r q) = x3 (ix3 0 e q) := by
  rw [val_main_v41_apply, val_main_v40_apply]
  rw [show idx_main_v40 (idx_main_v41 (ix3 t r q)) = ix2 t q from funext fun a => match a with | ⟨0, _⟩ => rfl | ⟨1, _⟩ => rfl]
  unfold val_main_v39
  refine (gather_row gather_S32x2048_S164x1_S164x2048_1_0_n_n_0_1_12048 rfl rfl rfl rfl rfl (val_main_v32 (F := Ideal) x3) (val_main_v38 (F := Ideal) x1) t q e
    (pick38 x1 t e he) (by norm_num)).trans ?_
  rw [val_main_v32_apply, val_main_v31_apply]
  refine congrArg x3 (funext fun a => Fin.ext ?_)
  have h0 := e.isLt; have h2 := q.isLt
  match a with
  | ⟨0, _⟩ => rfl
  | ⟨1, _⟩ => show (e.val * 2048 + q.val) / 2048 % 32 = e.val; omega
  | ⟨2, _⟩ => show (e.val * 2048 + q.val) % 2048 = q.val; omega

theorem b1_pick (r : Fin 512) (q : Fin 1024) : val_main_v80 (F := Ideal) x1 x5 (ix3 t r q) = x5 (ix3 0 e q) := by
  rw [val_main_v80_apply, val_main_v79_apply]
  rw [show idx_main_v79 (idx_main_v80 (ix3 t r q)) = ix2 t q from funext fun a => match a with | ⟨0, _⟩ => rfl | ⟨1, _⟩ => rfl]
  unfold val_main_v78
  refine (gather_row gather_S32x1024_S164x1_S164x1024_1_0_n_n_0_1_11024 rfl rfl rfl rfl rfl (val_main_v71 (F := Ideal) x5) (val_main_v77 (F := Ideal) x1) t q e
    (pick77 x1 t e he) (by norm_num)).trans ?_
  rw [val_main_v71_apply, val_main_v70_apply]
  refine congrArg x5 (funext fun a => Fin.ext ?_)
  have h0 := e.isLt; have h2 := q.isLt
  match a with
  | ⟨0, _⟩ => rfl
  | ⟨1, _⟩ => show (e.val * 1024 + q.val) / 1024 % 32 = e.val; omega
  | ⟨2, _⟩ => show (e.val * 1024 + q.val) % 1024 = q.val; omega

end Picked

/-- Row `r` of block `t` of the rows. -/
def refRow (r : Fin 512) (k : Fin 1024) : EReal :=
  x0 (ix2 ⟨4096 * t.val + (k.val / 128 + 8 * r.val), by show _ < 671744; omega⟩ ⟨k.val % 128, by show _ < 128; omega⟩)

theorem row_ref (r : Fin 512) (k : Fin 1024) : val_main_v20 (F := Ideal) x0 (ix3 t r k) = refRow x0 t r k := by
  rw [val_main_v20_apply]
  unfold refRow
  refine congrArg x0 (funext fun a => Fin.ext ?_)
  have h0 := t.isLt; have h1 := r.isLt; have h2 := k.isLt
  match a with
  | ⟨0, _⟩ => show ((t.val * 512 + r.val) * 1024 + k.val) / 128 = 4096 * t.val + (k.val / 128 + 8 * r.val); omega
  | ⟨1, _⟩ => show ((t.val * 512 + r.val) * 1024 + k.val) % 128 = k.val % 128; omega

section Rows

include he

theorem gu_ref (r : Fin 512) (q : Fin 2048) :
    val_main_v42 (F := Ideal) x0 x1 x2 x3 (ix3 t r q) = gateUp (refRow x0 t r) (fun k n => x2 (ix4 0 e k n)) (fun n => x3 (ix3 0 e n)) q := by
  rw [val_main_v42_apply]
  refine congrArg₂ (fun x y : EReal => x + y) ?_ (b0_pick x1 x3 t e he r q)
  rw [val_main_v30_apply]
  refine Finset.sum_congr rfl fun k _ => congrArg₂ (fun x y : EReal => x * y) ?_ ?_
  · rw [show lidx_main_v30 (ix3 t r q) k = ix3 t r k from funext fun a => match a with | ⟨0, _⟩ => rfl | ⟨1, _⟩ => rfl | ⟨2, _⟩ => rfl]
    exact row_ref x0 t r k
  · rw [show ridx_main_v30 (ix3 t r q) k = ix3 t k q from funext fun a => match a with | ⟨0, _⟩ => rfl | ⟨1, _⟩ => rfl | ⟨2, _⟩ => rfl]
    exact w0_pick x1 x2 t e he k q

theorem act_ref (r : Fin 512) (q : Fin 1024) :
    val_main_v59 (F := Ideal) x0 x1 x2 x3 (ix3 t r q) = acts (refRow x0 t r) (fun k n => x2 (ix4 0 e k n)) (fun n => x3 (ix3 0 e n)) q := by
  have hg : val_main_v43 (F := Ideal) x0 x1 x2 x3 (ix3 t r q) = gateUp (refRow x0 t r) (fun k n => x2 (ix4 0 e k n)) (fun n => x3 (ix3 0 e n)) ⟨q.val, by omega⟩ := by
    rw [val_main_v43_apply, ← gu_ref x0 x1 x2 x3 t e he]
    refine congrArg _ (funext fun a => Fin.ext ?_)
    match a with
    | ⟨0, _⟩ => rfl
    | ⟨1, _⟩ => rfl
    | ⟨2, _⟩ => rfl
  have hu : val_main_v46 (F := Ideal) x0 x1 x2 x3 (ix3 t r q) = gateUp (refRow x0 t r) (fun k n => x2 (ix4 0 e k n)) (fun n => x3 (ix3 0 e n)) ⟨1024 + q.val, by omega⟩ := by
    rw [val_main_v46_apply, ← gu_ref x0 x1 x2 x3 t e he]
    refine congrArg _ (funext fun a => Fin.ext ?_)
    match a with
    | ⟨0, _⟩ => rfl
    | ⟨1, _⟩ => rfl
    | ⟨2, _⟩ => rfl
  unfold acts
  rw [← hg, ← hu]
  rw [val_main_v59_apply, val_main_v56_apply, val_main_v58_apply, val_main_v55_apply, val_main_v53_apply, val_main_v51_apply, val_main_v50_apply,
    val_main_v49_apply, val_main_v47_apply, val_main_call2_v2_apply, val_main_v45_apply]
  generalize val_main_v43 (F := Ideal) x0 x1 x2 x3 (ix3 t r q) = g
  generalize val_main_v46 (F := Ideal) x0 x1 x2 x3 (ix3 t r q) = u
  rw [val_main_v44_apply, val_main_v48_apply, val_main_v52_apply, val_main_v54_apply, val_main_v57_apply, val_main_call2_v1_apply, val_main_call2_v4_apply]
  unfold act Ideal.logistic
  have h1 := Ideal.ofBits_one_f32
  show (min g (Ideal.ofBits .f32 0x40E00000#32) * Ideal.div (Ideal.ofBits .f32 0x3F800000#32) (Ideal.ofBits .f32 0x3F800000#32
      + Ideal.exp (-(Ideal.ofBits .f32 0x3FD9DB23#32 * min g (Ideal.ofBits .f32 0x40E00000#32)))))
      * (min (Ideal.ofBits .f32 0x40E00000#32) (max (Ideal.ofBits .f32 0xC0E00000#32) u) + Ideal.ofBits .f32 0x3F800000#32) = _
  rw [h1]

theorem mlp_ref (r : Fin 512) (q : Fin 1024) :
    val_main_v81 (F := Ideal) x0 x1 x2 x3 x4 x5 (ix3 t r q)
      = mlp (refRow x0 t r) (fun k n => x2 (ix4 0 e k n)) (fun n => x3 (ix3 0 e n)) (fun k n => x4 (ix4 0 e k n)) (fun n => x5 (ix3 0 e n)) q := by
  rw [val_main_v81_apply]
  refine congrArg₂ (fun x y : EReal => x + y) ?_ (b1_pick x1 x5 t e he r q)
  rw [val_main_v69_apply]
  refine Finset.sum_congr rfl fun k _ => congrArg₂ (fun x y : EReal => x * y) ?_ ?_
  · rw [show lidx_main_v69 (ix3 t r q) k = ix3 t r k from funext fun a => match a with | ⟨0, _⟩ => rfl | ⟨1, _⟩ => rfl | ⟨2, _⟩ => rfl]
    exact act_ref x0 x1 x2 x3 t e he r k
  · rw [show ridx_main_v69 (ix3 t r q) k = ix3 t k q from funext fun a => match a with | ⟨0, _⟩ => rfl | ⟨1, _⟩ => rfl | ⟨2, _⟩ => rfl]
    exact w1_pick x1 x4 t e he k q

end Rows

/-- The reference's result at an index: the expert's row where the block is used, zero elsewhere. -/
theorem res_ref (y : S671744x128.Idx) (ht : t.val = (y 0).val / 4096) (r : Fin 512) (hr : r.val = (y 0).val % 4096 / 8) (q : Fin 1024)
    (hq : q.val = 128 * ((y 0).val % 4096 % 8) + (y 1).val) :
    val_main_v90 (F := Ideal) x0 x1 x2 x3 x4 x5 y
      = Scalar.select (IntOp.cmpi .slt (BitVec.ofNat 32 t.val) (val_main_v85 (F := Ideal) x1 (fun a => a.elim0)))
          (val_main_v81 (F := Ideal) x0 x1 x2 x3 x4 x5 (ix3 t r q)) (Ideal.ofBits .f32 0x00000000#32) := by
  have h0 : (y 0).val < 671744 := (y 0).isLt
  have h1 : (y 1).val < 128 := (y 1).isLt
  have hi : idx_main_v90 y = ix3 t r q := funext fun a => Fin.ext (by
    match a with
    | ⟨0, _⟩ => show ((y 0).val * 128 + (y 1).val) / 524288 = t.val; omega
    | ⟨1, _⟩ => show ((y 0).val * 128 + (y 1).val) / 1024 % 512 = r.val; omega
    | ⟨2, _⟩ => show ((y 0).val * 128 + (y 1).val) % 1024 = q.val; omega)
  rw [val_main_v90_apply, hi, val_main_v89_apply, val_main_call4_v1_apply, val_main_v88_apply, val_main_v87_apply, val_main_v86_apply]
  rfl

end Cert.Proof.Experts

end
-- ==== Proof.Experts.Equal.lean ====
/- The expert layer's two results are one, at the ideal values: block by block, a used block's rows are its expert's rows,
   every other block is zero. -/
module

public import proofs.«01_k».proof.Proof.Experts.Value
public import proofs.«01_k».proof.Proof.Experts.Ref

@[expose] public section

noncomputable section

namespace Cert.Proof.Experts

open Cert.Kernel2Ideal Cert.Kernel2Ideal.Gen
open Idealize.ShloMosaic Idealize.ShloMosaic.TcCoe Idealize.ShloMosaic.ValueIdx

variable (m : (ℓ : Loc nD τ sig) → Buf (Elt Ideal) ℓ) (h : Used m) (c : Dev nD)

/-- The reference's result of the launch memory's arguments. -/
def refTab : S671744x128.Idx → Elt Ideal .f32 :=
  Cert.Reference2Ideal.Read.val_main_v90 (F := Ideal) (m (c, main_arg0)) (m (c, main_arg1)) (m (c, main_arg2)) (m (c, main_arg3)) (m (c, main_arg4))
    (m (c, main_arg5))

theorem adm_n (q : S1.Idx) : ((adm m h).1 1 : S1.Idx → BitVec 32) q = used m c := by
  rw [← tabs_adm m h c]; exact table_n m c q

theorem adm_b (k : S164.Idx) : ((adm m h).1 0 : S164.Idx → BitVec 32) k
    = expOf (padEnd (F := Ideal) (m (c, main_arg1))) (nuOf (F := Ideal) (m (c, main_arg1))) k := by
  rw [← tabs_adm m h c]; exact table_b m c k

theorem slt_iff (j : ℕ) (hj : j < 164) (n : BitVec 32) : IntOp.cmpi .slt (BitVec.ofNat 32 j) n = 1#1 ↔ (j : ℤ) < n.toInt := by
  show BitVec.ofBool ((BitVec.ofNat 32 j).slt n) = 1#1 ↔ _
  rw [← toInt_ofNat j hj, ← BitVec.slt_iff_toInt_lt]
  cases (BitVec.ofNat 32 j).slt n <;> decide

theorem sge_iff (j : ℕ) (hj : j < 164) (n : BitVec 32) : Scalar.cmpi .sge (BitVec.ofNat 32 j) n = 1#1 ↔ ¬ (j : ℤ) < n.toInt := by
  show BitVec.ofBool (n.sle (BitVec.ofNat 32 j)) = 1#1 ↔ _
  rw [← toInt_ofNat j hj, not_lt, ← BitVec.sle_iff_toInt_le]
  cases n.sle (BitVec.ofNat 32 j) <;> decide

theorem of_toNat (v : BitVec 32) : v = BitVec.ofNat 32 v.toNat := by simp

/-- What a used block's body leaves, of the arguments. -/
theorem used_blk (a : (pcfg0 (F := Ideal)).Adm) (t : Fin (cfg0 a).N) (t' : Fin 164) (htt : t'.val = t.val) (e : Fin 32) (ex : S164.Idx → BitVec 32)
    (hb : ∀ k, (a.1 0 : S164.Idx → BitVec 32) k = ex k) (he : (ex (ptIx a t)).toNat = e.val)
    (hr : cc0_transform_0 inb_S1_S1_0 numel1_S1 a.1 (grid0.coords t) 0 = t.val) (z : S4096x128.Idx) :
    outBlk (F := Ideal) (iblk m a c 0 t) (k0_pay1 (iblk m a c 1 t)) (iblk m a c 2 t) (k0_pay2 (iblk m a c 3 t)) (iblk m a c 4 t) z
      = mlp (refRow (m (c, main_arg0)) t' ⟨(z 0).val / 8, by have h : (z 0).val < 4096 := (z 0).isLt; omega⟩)
          (fun k n => (m (c, main_arg2) : S4x32x1024x2048.Idx → EReal) (ix4 0 e k n)) (fun n => (m (c, main_arg3) : S4x32x2048.Idx → EReal) (ix3 0 e n))
          (fun k n => (m (c, main_arg4) : S4x32x1024x1024.Idx → EReal) (ix4 0 e k n)) (fun n => (m (c, main_arg5) : S4x32x1024.Idx → EReal) (ix3 0 e n))
          ⟨128 * ((z 0).val % 8) + (z 1).val, by have h : (z 1).val < 128 := (z 1).isLt; omega⟩ := by
  refine (outBlk_apply (iblk m a c 0 t) (iblk m a c 1 t) (iblk m a c 2 t) (iblk m a c 3 t) (iblk m a c 4 t) z).trans ?_
  have e0 : ∀ r : Fin 512, rowOf (iblk m a c 0 t) r = refRow (m (c, main_arg0)) t' r := fun r => funext fun k => by
    unfold rowOf refRow
    refine (rows_at m a c t hr _ _).trans (congrArg (m (c, main_arg0) : S671744x128.Idx → EReal) (funext fun b => Fin.ext ?_))
    match b with
    | ⟨0, _⟩ => show 4096 * t.val + _ = 4096 * t'.val + _; rw [htt]
    | ⟨1, _⟩ => rfl
  have e1 : (fun (k : Fin 1024) (n : Fin 2048) => (iblk m a c 1 t : S1x1x1024x2048.Idx → EReal) (ix4 0 0 k n))
      = fun k n => (m (c, main_arg2) : S4x32x1024x2048.Idx → EReal) (ix4 0 e k n) :=
    funext fun k => funext fun n => w0_at m a c t e ((at_1 a ex hb t).trans he) k n
  have e2 : (fun (n : Fin 2048) => (iblk m a c 2 t : S1x1x1x2048.Idx → EReal) (ix4 0 0 0 n))
      = fun n => (m (c, main_arg3) : S4x32x2048.Idx → EReal) (ix3 0 e n) := funext fun n => b0_at m a c t e ((at_2 a ex hb t).trans he) n
  have e3 : (fun (k : Fin 1024) (n : Fin 1024) => (iblk m a c 3 t : S1x1x1024x1024.Idx → EReal) (ix4 0 0 k n))
      = fun k n => (m (c, main_arg4) : S4x32x1024x1024.Idx → EReal) (ix4 0 e k n) :=
    funext fun k => funext fun n => w1_at m a c t e ((at_3 a ex hb t).trans he) k n
  have e4 : (fun (n : Fin 1024) => (iblk m a c 4 t : S1x1x1x1024.Idx → EReal) (ix4 0 0 0 n))
      = fun n => (m (c, main_arg5) : S4x32x1024.Idx → EReal) (ix3 0 e n) := funext fun n => b1_at m a c t e ((at_4 a ex hb t).trans he) n
  rw [e0]
  exact (congrArg (fun W => mlp _ W _ _ _ _) e1).trans ((congrArg (fun W => mlp _ _ W _ _ _) e2).trans
    ((congrArg (fun W => mlp _ _ _ W _ _) e3).trans (congrArg (fun W => mlp _ _ _ _ W _) e4)))

theorem results_eq : outTab m (adm m h) c = refTab m c := by
  funext y
  have h0 : (y 0).val < 671744 := (y 0).isLt
  have h1 : (y 1).val < 128 := (y 1).isLt
  have ht : (y 0).val / 4096 < 164 := by omega
  unfold refTab
  rw [res_ref (m (c, main_arg0)) (m (c, main_arg1)) (m (c, main_arg2)) (m (c, main_arg3)) (m (c, main_arg4)) (m (c, main_arg5))
    ⟨(y 0).val / 4096, ht⟩ y rfl ⟨(y 0).val % 4096 / 8, by omega⟩ rfl ⟨128 * ((y 0).val % 4096 % 8) + (y 1).val, by omega⟩ rfl]
  have hu : Cert.Reference2Ideal.Read.val_main_v85 (F := Ideal) (m (c, main_arg1)) (fun a => a.elim0) = used m c := rfl
  rw [hu]
  unfold outTab outAt
  have hc := cond3_iff (grid0.coords (ptOf (adm m h) y)) (nu (adm m h) c)
  rw [nu_eq (adm m h) c (used m c) (adm_n m h c), coords_val (adm m h) (ptOf (adm m h) y)] at hc
  rw [nu_eq (adm m h) c (used m c) (adm_n m h c)]
  have hs := sge_iff ((y 0).val / 4096) ht (used m c)
  have hl := slt_iff ((y 0).val / 4096) ht (used m c)
  by_cases hb : (((y 0).val / 4096 : ℕ) : ℤ) < (used m c).toInt
  · rw [if_neg (fun e => hs.1 (hc.1 e) hb), hl.2 hb]
    refine Eq.trans ?_ (show Cert.Reference2Ideal.Read.val_main_v81 (F := Ideal) (m (c, main_arg0)) (m (c, main_arg1)) (m (c, main_arg2)) (m (c, main_arg3))
      (m (c, main_arg4)) (m (c, main_arg5)) _ = Scalar.select 1#1 _ _ from rfl)
    have hx := expOf_eq (F := Ideal) (m (c, main_arg1)) pt0 (h c) (ix1 ⟨(y 0).val / 4096, ht⟩) hb
    have he := expOf_lt (padEnd (F := Ideal) (m (c, main_arg1))) (nuOf (F := Ideal) (m (c, main_arg1))) (ix1 ⟨(y 0).val / 4096, ht⟩)
    have hp := clamp ((y 0).val / 4096) ht (used m c) (h c)
    rw [if_pos hb] at hp
    have hex := adm_b m h c
    have hpt : ptIx (adm m h) (ptOf (adm m h) y) = ix1 ⟨(y 0).val / 4096, ht⟩ := rfl
    generalize expOf (padEnd (F := Ideal) (m (c, main_arg1))) (nuOf (F := Ideal) (m (c, main_arg1))) = ex at hx he hex
    refine Eq.trans (used_blk m c (adm m h) (ptOf (adm m h) y) ⟨(y 0).val / 4096, ht⟩ rfl
      ⟨(ex (ix1 ⟨(y 0).val / 4096, ht⟩)).toNat, he⟩ ex hex (congrArg (fun k => (ex k).toNat) hpt) ?_ _) ?_
    · refine (at_rows (adm m h) (used m c) (adm_n m h c) _).trans ((congrArg BitVec.toNat hp).trans ?_)
      rw [BitVec.toNat_ofNat, Nat.mod_eq_of_lt (by omega)]
      rfl
    · refine (mlp_ref (m (c, main_arg0)) (m (c, main_arg1)) (m (c, main_arg2)) (m (c, main_arg3)) (m (c, main_arg4)) (m (c, main_arg5))
        ⟨(y 0).val / 4096, ht⟩ ⟨_, he⟩ ?_ _ _).symm
      rw [← hx]
      exact of_toNat _
  · rw [if_pos (hc.2 (hs.2 hb)), show IntOp.cmpi .slt (BitVec.ofNat 32 ((y 0).val / 4096)) (used m c) = 0#1 from
      (BitVec.eq_zero_or_eq_one _).resolve_right (fun e => hb (hl.1 e))]
    rfl

end Cert.Proof.Experts

end
-- ==== Proof.Experts.Claims.lean ====
/- The expert layer's claims: the kernel's run with its result and its arguments, for any float values; the reference's run;
   and, at the ideal values, the two results equal. -/
module

public import proofs.«01_k».proof.Proof.Experts.Equal
public import proofs.«01_k».proof.Proof.Gen.Reference2Ideal.Run
public import Idealize.ShloMosaic.Lib.Claim

@[expose] public section

noncomputable section

namespace Cert.Proof.Experts

open Cert.Kernel2Ideal Cert.Kernel2Ideal.Gen
open Idealize.ShloMosaic Idealize.ShloMosaic.TcCoe Idealize.ShloMosaic.ValueIdx Idealize.SL.Sem
open Idealize.ShloMosaic.Pipeline (Dat FramePost)

variable {F : FTy → Type} [FloatOps F]

theorem rest1 : main_arg1 ∈ Pipeline.restRefs sig spec0 := by decide
theorem rest3 : main_arg3 ∈ Pipeline.restRefs sig spec0 := by decide
theorem rest5 : main_arg5 ∈ Pipeline.restRefs sig spec0 := by decide

section Args

variable (m : (ℓ : Loc nD τ sig) → Buf (Elt F) ℓ) (a : (pcfg0 (F := F)).Adm) (c : Dev nD)

/-- The arrays of the inputs end as they were launched. -/
theorem in0 : (dats m a 0 c).arrAt 0 (cfg0 a).N = m ((c.tc : Thread nD τ).loc main_arg0) := ((dats m a 0 c).arrAt_in 0 rfl _).trans (V_arg0 m c)
theorem in1 : (dats m a 0 c).arrAt 1 (cfg0 a).N = m ((c.tc : Thread nD τ).loc main_arg2) := ((dats m a 0 c).arrAt_in 1 rfl _).trans (V_arg2 m c)
theorem in3 : (dats m a 0 c).arrAt 3 (cfg0 a).N = m ((c.tc : Thread nD τ).loc main_arg4) := ((dats m a 0 c).arrAt_in 3 rfl _).trans (V_arg4 m c)

/-- The result and the arguments of device `c` in a final state. -/
def Post (r : PUnit × MemSt nD τ sig (Elt F)) : Prop :=
  r.2.mem ((c.tc : Thread nD τ).loc main_v29) = outTab m a c
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

theorem post_of (r : PUnit × MemSt nD τ sig (Elt F)) (hr : FramePost (Pipeline.pin pcfgs fun _ => a) (dats m a) 0 (V m) r) : Post m a c r :=
  ⟨((hr c).1 5).trans (arr5 m a c), ((hr c).1 0).trans (in0 m a c), ((hr c).2 main_arg1 rest1).trans (V_arg1 m c),
    ((hr c).1 1).trans (in1 m a c), ((hr c).2 main_arg3 rest3).trans (V_arg3 m c), ((hr c).1 3).trans (in3 m a c),
    ((hr c).2 main_arg5 rest5).trans (V_arg5 m c)⟩

end Args

/-- The kernel's run, its result and its arguments. -/
theorem run_values [∀ e, Nonempty (Elt F e)] (m : (ℓ : Loc nD τ sig) → Buf (Elt F) ℓ) (ρ : Dev nD → PrngReg) (h : Used m) :
    θ_run defs (onTc (τ := τ) (main (F := F))) ⟨m, fun _ => 0, ρ⟩ (fun r => (∀ c : Dev nD, Post m (adm m h) c r) ∧ r.2.sem = fun _ => 0) :=
  (θ_run defs _ _).mono (fun r hr => ⟨fun c => post_of m (adm m h) c r hr.1, hr.2⟩) (run_main m ρ (adm m h) (tabs_adm m h))

/-- The reference's run, with its counters. -/
theorem ref_run (m : (ℓ : Loc Cert.Reference2Ideal.nD Cert.Reference2Ideal.τ Cert.Reference2Ideal.sig) → Buf (Elt F) ℓ)
    (ρ : Dev Cert.Reference2Ideal.nD → PrngReg) :
    θ_run Cert.Reference2Ideal.defs (onTc (τ := Cert.Reference2Ideal.τ) (Cert.Reference2Ideal.main (F := F))) ⟨m, fun _ => 0, ρ⟩ (fun r =>
      (∀ c : Dev Cert.Reference2Ideal.nD,
        r.2.mem ((c.tc : Thread Cert.Reference2Ideal.nD Cert.Reference2Ideal.τ).loc Cert.Reference2Ideal.main_v90)
            = Cert.Reference2Ideal.Read.val_main_v90 (F := F) (m (c, Cert.Reference2Ideal.main_arg0)) (m (c, Cert.Reference2Ideal.main_arg1))
              (m (c, Cert.Reference2Ideal.main_arg2)) (m (c, Cert.Reference2Ideal.main_arg3)) (m (c, Cert.Reference2Ideal.main_arg4))
              (m (c, Cert.Reference2Ideal.main_arg5))
        ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c =>
      ⟨(h c).1.trans (Cert.Reference2Ideal.Read.val_main_v90_eq _ _), (h c).2⟩, sem_eq_zero_of_no_sems (by decide) r.2⟩)
    (Cert.Reference2Ideal.Value.run (F := F) m ρ)

end Cert.Proof.Experts

end
-- ==== Proof.Rows.FinalNorm.lean ====
/- The last normalisation of the rows: what the kernel leaves, and the reference's result, are one array. -/
module

public import proofs.«01_k».proof.Defs
public import proofs.«01_k».proof.Proof.Gen.Kernel5
public import proofs.«01_k».proof.Proof.Gen.Kernel5Ideal.Value
public import proofs.«01_k».proof.Proof.Gen.Reference5Ideal.Read
public import proofs.«01_k».proof.Proof.Gen.Reference5Ideal.Run
public import Idealize.ShloMosaic.Lib.KernelVsHost
public import Idealize.ShloMosaic.Lib.Pipeline.ValueKit.Geometry
public import Idealize.ShloMosaic.Lib.Claim

@[expose] public section

noncomputable section

namespace Cert.Proof.FinalNorm

open Cert.Kernel5Ideal Cert.Kernel5Ideal.Gen
open Idealize.ShloMosaic Idealize.ShloMosaic.TcCoe Idealize.ShloMosaic.ValueIdx Idealize.SL.Sem
open Idealize.ShloMosaic.Pipeline (Dat)

/-- A row's element after the normalisation: `x` scaled by the root of the row's mean square, times `g`. -/
def norm (row : Fin 1024 → EReal) (x g : EReal) : EReal :=
  x * Ideal.rsqrt (Ideal.div (∑ k, row k * row k) (Ideal.ofBits .f32 0x44800000#32) + Ideal.ofBits .f32 0x358637BD#32) * g

theorem pay_apply (X : Vec Ideal S512x1024 .f32) (G : Vec Ideal S1x1024 .f32) (y : S512x1024.Idx) :
    Cert.Kernel5Ideal.Value.E2 (F := Ideal) X G y = norm (fun k => X (ix2 (y 0) k)) (X y) (G (ix2 0 (y 1))) := by
  unfold norm Cert.Kernel5Ideal.Value.E2
  have e : (multiReduction .add [1] S512 (mulf X X) 0x00000000#32 reduces_S512x1024_S512 (.inl rfl) rfl : FVec Ideal S512 .f32) (Cert.Kernel5Ideal.Value.ix2_1 y)
      = ∑ k : Fin 1024, (X (ix2 (y 0) k) * X (ix2 (y 0) k) : EReal) := by
    refine (Ideal.multiReduction_add_single (mulf X X) _ _ _ _ _).trans (Finset.sum_congr rfl fun k _ => ?_)
    have ek : reduces_S512x1024_S512.lift (Cert.Kernel5Ideal.Value.ix2_1 y) k = ix2 (y 0) k := funext fun a => Fin.ext (by
      match a with
      | ⟨0, _⟩ => rfl
      | ⟨1, _⟩ => rfl)
    rw [ek]; rfl
  rw [e]
  have e0 : Cert.Kernel5Ideal.Value.ix2_0 y = y := funext fun a => match a with | ⟨0, _⟩ => rfl | ⟨1, _⟩ => rfl
  have e2 : Cert.Kernel5Ideal.Value.ix2_2 y = ix2 0 (y 1) := funext fun a => match a with | ⟨0, _⟩ => rfl | ⟨1, _⟩ => rfl
  rw [e0, e2]
  rfl

theorem ref_apply (x0 : S16384x1024.Idx → EReal) (x1 : S1024.Idx → EReal) (i : S16384x1024.Idx) :
    Cert.Reference5Ideal.Read.val_main_v12 (F := Ideal) x0 x1 i = norm (fun k => x0 (ix2 (i 0) k)) (x0 i) (x1 (ix1 (i 1))) := by
  open Cert.Reference5Ideal.Read in
  rw [val_main_v12_apply, val_main_v9_apply, val_main_v8_apply, val_main_v7_apply, val_main_v6_apply, val_main_v4_apply, val_main_v2_apply,
    val_main_v1_apply, val_main_v3_apply, val_main_v5_apply, val_main_v11_apply, val_main_v10_apply]
  have eg : Cert.Reference5Ideal.Read.idx_main_v10 (Cert.Reference5Ideal.Read.idx_main_v11 i) = ix1 (i 1) :=
    funext fun a => match a with | ⟨0, _⟩ => rfl
  have ek (k : Fin 1024) : Cert.Reference5Ideal.Read.idx_main_v1 (Cert.Reference5Ideal.Read.idx_main_v2 (Cert.Reference5Ideal.Read.idx_main_v8 i)) k
      = ix2 (i 0) k := funext fun a => match a with | ⟨0, _⟩ => rfl | ⟨1, _⟩ => rfl
  have es : (Cert.Reference5Ideal.Read.val_main_cst (F := Ideal) (Shape.Idx.first Cert.Reference5Ideal.Gen.h_S_) : EReal)
      + ∑ k : Fin 1024, (Cert.Reference5Ideal.Read.val_main_v0 (F := Ideal) x0)
          (Cert.Reference5Ideal.Read.idx_main_v1 (Cert.Reference5Ideal.Read.idx_main_v2 (Cert.Reference5Ideal.Read.idx_main_v8 i)) k)
      = ∑ k : Fin 1024, (x0 (ix2 (i 0) k) * x0 (ix2 (i 0) k) : EReal) := by
    rw [Cert.Reference5Ideal.Read.val_main_cst_apply]
    refine (congrArg (· + _) Ideal.ofBits_zero_f32).trans ((zero_add _).trans (Finset.sum_congr rfl fun k _ => ?_))
    exact congrArg (fun j => (x0 j * x0 j : EReal)) (ek k)
  unfold norm
  rw [es, eg]
  rfl

variable (m : (ℓ : Loc nD τ sig) → Buf (Elt Ideal) ℓ) (c : Dev nD)

theorem V_v0 : V m c main_v0 = shapeCast S1x1024 (m (c, main_arg1)) shapeCasts_S1024_S1x1024 := by
  simp only [V, hostOps0, List.flatten_cons, List.flatten_nil, List.append_nil, List.cons_append, List.nil_append]
  after_results_simp <;> rfl

theorem gain_at (i : Fin 1024) : (V m c main_v0 : S1x1024.Idx → EReal) (ix2 0 i) = (m (c, main_arg1) : S1024.Idx → EReal) (ix1 i) := by
  rw [V_v0]
  refine shapeCast_apply _ _ _ (ix1 i) ?_
  rw [Shape.rowMajor_val_one, Shape.rowMajor_val_two]
  show i.val = 0 * 1024 + i.val
  omega

theorem out_eq (X : Vec Ideal S512x1024 .f32) (G : Vec Ideal S1x1024 .f32) : out0_2 X G = Cert.Kernel5Ideal.Value.E2 (F := Ideal) X G := by
  unfold out0_2
  have h0 : (View.ld X r0_0 : Vec Ideal S512x1024 .f32) = X := View.ld_unit_zero (S := S512x1024) (by decide) inb_S512x1024_S512x1024_0_0 X
  have h1 : (View.ld G r0_1 : Vec Ideal S1x1024 .f32) = G := View.ld_unit_zero (S := S1x1024) (by decide) inb_S1x1024_S1x1024_0_0 G
  rw [h0, h1]
  exact funext fun y => Cert.Kernel5Ideal.Value.canon2_eq X G y

theorem rows_at (t : Fin cfg0.N) (y : S512x1024.Idx) : (iblk m c 0 t : S512x1024.Idx → EReal) y
    = (m ((c : Thread nD τ).loc main_arg0) : S16384x1024.Idx → EReal) ((win0_2.blk t).view.emb y) := by
  rw [← V_main_arg0 m c]
  rfl

theorem gain_blk (t : Fin cfg0.N) (q : Fin 1024) : (iblk m c 1 t : S1x1024.Idx → EReal) (ix2 0 q)
    = (m ((c : Thread nD τ).loc main_arg1) : S1024.Idx → EReal) (ix1 q) := by
  refine Eq.trans ?_ (gain_at m c q)
  refine congrArg (V m c main_v0 : S1x1024.Idx → EReal) (funext fun b => Fin.ext ?_)
  match b with
  | ⟨0, _⟩ => rfl
  | ⟨1, _⟩ => show 0 * 1024 + 1 * q.val = q.val; omega

theorem emb_row (t : Fin cfg0.N) (y : S512x1024.Idx) (k : Fin 1024) :
    ((win0_2.blk t).view.emb (ix2 (y 0) k : S512x1024.Idx) : S16384x1024.Idx) = ix2 ((win0_2.blk t).view.emb y 0) k := funext fun b => Fin.ext (by
  match b with
  | ⟨0, _⟩ => rfl
  | ⟨1, _⟩ => show 0 * 1024 + 1 * k.val = k.val; omega)

theorem emb_col (t : Fin cfg0.N) (y : S512x1024.Idx) : ((win0_2.blk t).view.emb y : S16384x1024.Idx) 1 = y 1 :=
  Fin.ext (by show 0 * 1024 + 1 * (y 1).val = (y 1).val; omega)

/-- What point `t` leaves, at an index. -/
theorem out_apply (t : Fin cfg0.N) (y : S512x1024.Idx) : out0_2 (iblk m c 0 t) (iblk m c 1 t) y
    = Cert.Reference5Ideal.Read.val_main_v12 (F := Ideal) (m ((c : Thread nD τ).loc main_arg0)) (m ((c : Thread nD τ).loc main_arg1))
        ((win0_2.blk t).view.emb y) := by
  rw [ref_apply, out_eq]
  refine (pay_apply (iblk m c 0 t) (iblk m c 1 t) y).trans ?_
  rw [rows_at m c t y, gain_blk m c t (y 1), emb_col t y]
  refine congrArg (fun f => norm f _ _) (funext fun k => ?_)
  rw [rows_at m c t (ix2 (y 0) k), emb_row]
  rfl

/-- What the launch leaves in the result. -/
theorem arr2 : (dats m 0 c).arrAt 2 cfg0.N
    = Cert.Reference5Ideal.Read.val_main_v12 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact out_apply m c t y

end Cert.Proof.FinalNorm

end
-- ==== Proof.Rows.InProj.lean ====
/- The modulated normalisation of the rows and their projection into the two mixers: what the kernel leaves in its two
   results, and the reference's two results, are the same arrays. -/
module

public import proofs.«01_k».proof.Defs
public import proofs.«01_k».proof.Proof.Gen.Kernel3
public import proofs.«01_k».proof.Proof.Gen.Kernel3Ideal.Value
public import proofs.«01_k».proof.Proof.Gen.Reference3Ideal.Read
public import proofs.«01_k».proof.Proof.Gen.Reference3Ideal.Run
public import proofs.«01_k».proof.Proof.Rows.FinalNorm
public import Idealize.ShloMosaic.Lib.KernelVsHost
public import Idealize.ShloMosaic.Lib.MatmulPlain
public import Idealize.ShloMosaic.Lib.IdealHost
public import Idealize.ShloMosaic.Lib.Pipeline.ValueKit.Geometry
public import Idealize.ShloMosaic.Lib.Claim

@[expose] public section

noncomputable section

namespace Cert.Proof.InProj

open Cert.Kernel3Ideal Cert.Kernel3Ideal.Gen
open Idealize.ShloMosaic Idealize.ShloMosaic.TcCoe Idealize.ShloMosaic.ValueIdx Idealize.SL.Sem
open Idealize.ShloMosaic.Pipeline (Dat)

/-- A row's element, normalised and modulated by the scale `s` and the shift `h`. -/
def nm (row : Fin 1024 → EReal) (x g s h : EReal) : EReal :=
  FinalNorm.norm row x g * (Ideal.ofBits .f32 0x3F800000#32 + s) + h

/-- A projected element: the modulated row against a column of the weights. -/
def pr (x g s h w : Fin 1024 → EReal) : EReal := ∑ k, nm x (x k) (g k) (s k) (h k) * w k

theorem mm_apply (L : FVec Ideal S512x1024 .bf16) (W : FVec Ideal S1024x2048 .bf16) (r : Fin 512) (q : Fin 2048) :
    matmul dot_S512x1024_S1024x2048_S512x2048_1_0_0_1_n_n none L W (constant (F := Ideal) S512x2048 .f32 0x00000000#32) (ix2 r q)
      = ∑ k : Fin 1024, L (ix2 r k) * W (ix2 k q) := by
  refine (Ideal.matmul_plain_apply (M := 512) (K := 1024) (N := 2048) none L W _ r q).trans ?_
  show (Ideal.ofBits .f32 0x00000000#32 : EReal) + _ = _
  rw [Ideal.ofBits_zero_f32, zero_add]

/-- A row put under every row, at an index. -/
theorem under_apply (G : S1x1024.Idx → Elt Ideal .f32) (r : Fin 512) (k : Fin 1024) :
    broadcastTo S512x1024 G broadcasts_S1x1024_S512x1024 (ix2 r k) = G (ix2 0 k) := by
  refine broadcastTo_apply _ _ (ix2 r k) (ix2 (0 : Fin 1) k) fun a => ?_
  match a with
  | ⟨0, _⟩ => rfl
  | ⟨1, _⟩ => rfl

/-- A column put beside every column, at an index. -/
theorem beside_apply (G : S512x1.Idx → Elt Ideal .f32) (r : Fin 512) (k : Fin 1024) :
    broadcastTo S512x1024 G broadcasts_S512x1_S512x1024 (ix2 r k) = G (ix2 r 0) := by
  refine broadcastTo_apply _ _ (ix2 r k) (ix2 r (0 : Fin 1)) fun a => ?_
  match a with
  | ⟨0, _⟩ => rfl
  | ⟨1, _⟩ => rfl

theorem flat_apply (G : S1x1x1024.Idx → Elt Ideal .f32) (k : Fin 1024) :
    shapeCast S1x1024 G shapeCasts_S1x1x1024_S1x1024 (ix2 0 k) = G (ix3 0 0 k) := by
  refine shapeCast_apply _ _ (ix2 (0 : Fin 1) k) (ix3 0 0 k) ?_
  rw [Shape.rowMajor_val_three, Shape.rowMajor_val_two]
  show (0 * 1 + 0) * 1024 + k.val = 0 * 1024 + k.val
  omega

/-- The sum of a row's squares. -/
theorem sq_apply (X : Vec Ideal S512x1024 .f32) (r : Fin 512) :
    (shapeCast S512x1 (multiReduction .add [1] S512 (mulf X X) 0x00000000#32 reduces_S512x1024_S512 (.inl rfl) rfl : FVec Ideal S512 .f32) shapeCasts_S512_S512x1
      : S512x1.Idx → EReal) (ix2 r 0) = ∑ k : Fin 1024, (X (ix2 r k) * X (ix2 r k) : EReal) := by
  refine (shapeCast_apply _ _ (ix2 r (0 : Fin 1)) (ix1 r) ?_).trans ?_
  · rw [Shape.rowMajor_val_one, Shape.rowMajor_val_two]
    show r.val = r.val * 1 + 0
    omega
  refine (Ideal.multiReduction_add_single (mulf X X) _ _ _ _ _).trans (Finset.sum_congr rfl fun k _ => ?_)
  have ek : reduces_S512x1024_S512.lift (ix1 r) k = ix2 r k := funext fun a => Fin.ext (by
    match a with
    | ⟨0, _⟩ => rfl
    | ⟨1, _⟩ => rfl)
  exact congrArg (fun j => (X j * X j : EReal)) ek

/-- The product the kernel cuts its two results from, at an index. -/
theorem pay_apply (X : Vec Ideal S512x1024 .f32) (G : Vec Ideal S1x1024 .f32) (S H : Vec Ideal S1x1x1024 .f32) (W : Vec Ideal S1024x2048 .bf16)
    (r : Fin 512) (q : Fin 2048) : k0_pay1 (F := Ideal) X G S H W (ix2 r q)
      = pr (fun k => X (ix2 r k)) (fun k => G (ix2 0 k)) (fun k => S (ix3 0 0 k)) (fun k => H (ix3 0 0 k)) (fun k => W (ix2 k q)) := by
  have hX : shapeCast S512x1024 X shapeCasts_S512x1024_S512x1024 = X := funext fun i => shapeCast_apply _ _ i i rfl
  have hG : shapeCast S1x1024 G shapeCasts_S1x1024_S1x1024 = G := funext fun i => shapeCast_apply _ _ i i rfl
  have hW : shapeCast S1024x2048 W shapeCasts_S1024x2048_S1024x2048 = W := funext fun i => shapeCast_apply _ _ i i rfl
  unfold k0_pay1 pr
  rw [hX, hG, hW]
  refine (mm_apply _ _ r q).trans (Finset.sum_congr rfl fun k _ => congrArg (fun z : EReal => z * W (ix2 k q)) ?_)
  unfold nm FinalNorm.norm
  refine congrArg₂ (fun x y : EReal => x + y) (congrArg₂ (fun x y : EReal => x * y) (congrArg₂ (fun x y : EReal => x * y) (congrArg₂ (fun x y : EReal => x * y) rfl ?_)
    (under_apply G r k)) ?_) ((under_apply _ r k).trans (flat_apply H k))
  · refine (beside_apply _ r k).trans (congrArg Ideal.rsqrt (congrArg₂ (fun x y : EReal => x + y) (congrArg₂ Ideal.div (sq_apply X r) rfl) rfl))
  · exact (under_apply _ r k).trans (congrArg₂ (fun x y : EReal => x + y) rfl (flat_apply S k))

theorem pay2_apply (X : Vec Ideal S512x1024 .f32) (G : Vec Ideal S1x1024 .f32) (S H : Vec Ideal S1x1x1024 .f32) (W : Vec Ideal S1024x2048 .bf16)
    (r : Fin 512) (q : Fin 1536) : k0_pay2 (F := Ideal) X G S H W (ix2 r q) = k0_pay1 (F := Ideal) X G S H W (ix2 r ⟨q.val, by omega⟩) := by
  unfold k0_pay2
  refine extractStridedSlice_apply _ _ _ _ _ fun a => ?_
  match a with
  | ⟨0, _⟩ => exact (Nat.zero_add _).symm
  | ⟨1, _⟩ => exact (Nat.zero_add _).symm

theorem pay3_apply (X : Vec Ideal S512x1024 .f32) (G : Vec Ideal S1x1024 .f32) (S H : Vec Ideal S1x1x1024 .f32) (W : Vec Ideal S1024x2048 .bf16)
    (r : Fin 512) (q : Fin 512) : k0_pay3 (F := Ideal) X G S H W (ix2 r q) = k0_pay1 (F := Ideal) X G S H W (ix2 r ⟨1536 + q.val, by omega⟩) := by
  unfold k0_pay3
  refine extractStridedSlice_apply _ _ _ _ _ fun a => ?_
  match a with
  | ⟨0, _⟩ => exact (Nat.zero_add _).symm
  | ⟨1, _⟩ => rfl

section Loads

variable (x0 : Vec Ideal S512x1024 .f32) (x1 : Vec Ideal S1x1024 .f32) (x2 : Vec Ideal S1024x2048 .bf16) (x3 x4 : Vec Ideal S1x1x1024 .f32)

theorem ld0 : (View.ld x0 r0_0 : Vec Ideal S512x1024 .f32) = x0 := View.ld_unit_zero (S := S512x1024) (by decide) inb_S512x1024_S512x1024_0_0 x0
theorem ld1 : (View.ld x1 r0_1 : Vec Ideal S1x1024 .f32) = x1 := View.ld_unit_zero (S := S1x1024) (by decide) inb_S1x1024_S1x1024_0_0 x1
theorem ld2 : (View.ld x2 r0_3 : Vec Ideal S1024x2048 .bf16) = x2 := View.ld_unit_zero (S := S1024x2048) (by decide) inb_S1024x2048_S1024x2048_0_0 x2
theorem ld3 : (View.ld x3 r0_2 : Vec Ideal S1x1x1024 .f32) = x3 := View.ld_unit_zero (S := S1x1x1024) (by decide) inb_S1x1x1024_S1x1x1024_0_0_0 x3

theorem out5_eq : out0_5 x0 x1 x2 x3 x4 = k0_pay2 x0 x1 x3 x4 x2 := by
  unfold out0_5
  rw [ld0, ld1, ld2, ld3 x3, ld3 x4]
  exact View.canon_unit_zero (S := S512x1536) (by decide) inb_S512x1536_S512x1536_0_0 _

theorem out6_eq : out0_6 x0 x1 x2 x3 x4 = k0_pay3 x0 x1 x3 x4 x2 := by
  unfold out0_6
  rw [ld0, ld1, ld2, ld3 x3, ld3 x4]
  exact View.canon_unit_zero (S := S512x512) (by decide) inb_S512x512_S512x512_0_0 _

end Loads

/-! ## The reference -/

/-- The index of row `r` of the flattened rows, in the two sequences. -/
def at3 (r : Fin 16384) (q : Fin 1024) : S2x8192x1024.Idx := ix3 ⟨r.val / 8192, by omega⟩ ⟨r.val % 8192, by omega⟩ q

section Ref

open Cert.Reference3Ideal.Read

variable (x0 : S2x8192x1024.Idx → EReal) (x1 : S1024.Idx → EReal) (x2 x3 : S2x1x1024.Idx → EReal) (x4 : S1024x2048.Idx → EReal)

theorem sum_apply (r : Fin 16384) (k : Fin 1024) :
    val_main_v2 (F := Ideal) x0 (idx_main_v8 (at3 r k)) = ∑ k : Fin 1024, (x0 (at3 r k) * x0 (at3 r k) : EReal) := by
  rw [val_main_v2_apply, val_main_v1_apply, val_main_cst_apply]
  refine (congrArg (fun z : EReal => z + _) Ideal.ofBits_zero_f32).trans ((zero_add _).trans (Finset.sum_congr rfl fun j _ => ?_))
  have e : idx_main_v1 (idx_main_v2 (idx_main_v8 (at3 r k))) j = at3 r j := funext fun a => match a with | ⟨0, _⟩ => rfl | ⟨1, _⟩ => rfl | ⟨2, _⟩ => rfl
  exact congrArg (fun j => (x0 j * x0 j : EReal)) e

theorem nm_apply (r : Fin 16384) (k : Fin 1024) : val_main_v18 (F := Ideal) x0 x1 x2 x3 (at3 r k)
    = nm (fun k => x0 (at3 r k)) (x0 (at3 r k)) (x1 (ix1 k)) (x2 (ix3 ⟨r.val / 8192, by omega⟩ 0 k)) (x3 (ix3 ⟨r.val / 8192, by omega⟩ 0 k)) := by
  rw [val_main_v18_apply, val_main_v16_apply, val_main_v12_apply, val_main_v9_apply, val_main_v8_apply, val_main_v7_apply, val_main_v6_apply,
    val_main_v4_apply, val_main_v3_apply, val_main_v5_apply, val_main_v11_apply, val_main_v10_apply, val_main_v15_apply, val_main_v14_apply,
    val_main_v13_apply, val_main_v17_apply, sum_apply]
  have eg : idx_main_v10 (idx_main_v11 (at3 r k)) = ix1 k := funext fun a => match a with | ⟨0, _⟩ => rfl
  have es : idx_main_v15 (at3 r k) = ix3 ⟨r.val / 8192, by omega⟩ 0 k := funext fun a => match a with | ⟨0, _⟩ => rfl | ⟨1, _⟩ => rfl | ⟨2, _⟩ => rfl
  have eh : idx_main_v17 (at3 r k) = ix3 ⟨r.val / 8192, by omega⟩ 0 k := funext fun a => match a with | ⟨0, _⟩ => rfl | ⟨1, _⟩ => rfl | ⟨2, _⟩ => rfl
  rw [eg, es, eh]
  rfl

theorem dot_apply (r : Fin 16384) (q : Fin 2048) :
    val_main_v19 (F := Ideal) x0 x1 x2 x3 x4 (ix3 ⟨r.val / 8192, by omega⟩ ⟨r.val % 8192, by omega⟩ q)
      = pr (fun k => x0 (at3 r k)) (fun k => x1 (ix1 k)) (fun k => x2 (ix3 ⟨r.val / 8192, by omega⟩ 0 k)) (fun k => x3 (ix3 ⟨r.val / 8192, by omega⟩ 0 k))
        (fun k => x4 (ix2 k q)) := by
  refine (val_main_v19_apply x0 x1 x2 x3 x4 _).trans (Finset.sum_congr rfl fun k _ => ?_)
  refine congrArg₂ (fun x y : EReal => x * y) (Eq.trans (congrArg (val_main_v18 (F := Ideal) x0 x1 x2 x3) ?_) (nm_apply x0 x1 x2 x3 r k)) (congrArg x4 ?_)
  · exact funext fun b => Fin.ext (match b with | ⟨0, _⟩ => rfl | ⟨1, _⟩ => rfl | ⟨2, _⟩ => rfl)
  · exact funext fun b => Fin.ext (match b with | ⟨0, _⟩ => rfl | ⟨1, _⟩ => rfl)

theorem ref5_apply (r : Fin 16384) (q : Fin 1536) : val_main_v21 (F := Ideal) x0 x1 x2 x3 x4 (ix2 r q)
    = pr (fun k => x0 (at3 r k)) (fun k => x1 (ix1 k)) (fun k => x2 (ix3 ⟨r.val / 8192, by omega⟩ 0 k)) (fun k => x3 (ix3 ⟨r.val / 8192, by omega⟩ 0 k))
        (fun k => x4 (ix2 k ⟨q.val, by omega⟩)) := by
  refine (val_main_v21_apply (F := Ideal) x0 x1 x2 x3 x4 (ix2 r q)).trans ((val_main_v20_apply (F := Ideal) x0 x1 x2 x3 x4 _).trans
    (Eq.trans (congrArg (val_main_v19 (F := Ideal) x0 x1 x2 x3 x4) (funext fun b => Fin.ext ?_)) (dot_apply x0 x1 x2 x3 x4 r ⟨q.val, by omega⟩)))
  have hq : q.val < 1536 := q.isLt
  match b with
  | ⟨0, _⟩ => show (r.val * 1536 + q.val) / 12582912 = r.val / 8192; omega
  | ⟨1, _⟩ => show (r.val * 1536 + q.val) / 1536 % 8192 = r.val % 8192; omega
  | ⟨2, _⟩ => show (r.val * 1536 + q.val) % 1536 = q.val; omega

theorem ref6_apply (r : Fin 16384) (q : Fin 512) : val_main_v23 (F := Ideal) x0 x1 x2 x3 x4 (ix2 r q)
    = pr (fun k => x0 (at3 r k)) (fun k => x1 (ix1 k)) (fun k => x2 (ix3 ⟨r.val / 8192, by omega⟩ 0 k)) (fun k => x3 (ix3 ⟨r.val / 8192, by omega⟩ 0 k))
        (fun k => x4 (ix2 k ⟨1536 + q.val, by omega⟩)) := by
  refine (val_main_v23_apply (F := Ideal) x0 x1 x2 x3 x4 (ix2 r q)).trans ((val_main_v22_apply (F := Ideal) x0 x1 x2 x3 x4 _).trans
    (Eq.trans (congrArg (val_main_v19 (F := Ideal) x0 x1 x2 x3 x4) (funext fun b => Fin.ext ?_)) (dot_apply x0 x1 x2 x3 x4 r ⟨1536 + q.val, by omega⟩)))
  have hq : q.val < 512 := q.isLt
  match b with
  | ⟨0, _⟩ => show (r.val * 512 + q.val) / 4194304 = r.val / 8192; omega
  | ⟨1, _⟩ => show (r.val * 512 + q.val) / 512 % 8192 = r.val % 8192; omega
  | ⟨2, _⟩ => show 1536 + (r.val * 512 + q.val) % 512 = 1536 + q.val; omega

end Ref

/-! ## The launch -/

variable (m : (ℓ : Loc nD τ sig) → Buf (Elt Ideal) ℓ) (c : Dev nD)

theorem x_at (r : Fin 16384) (q : Fin 1024) : (V m c main_v0 : S16384x1024.Idx → EReal) (ix2 r q) = (m (c, main_arg0) : S2x8192x1024.Idx → EReal) (at3 r q) := by
  have h : V m c main_v0 = shapeCast S16384x1024 (m (c, main_arg0)) shapeCasts_S2x8192x1024_S16384x1024 := by
    simp only [V, hostOps0, List.flatten_cons, List.flatten_nil, List.append_nil, List.cons_append, List.nil_append]
    after_results_simp <;> rfl
  rw [h]
  refine shapeCast_apply _ _ _ (at3 r q) ?_
  rw [Shape.rowMajor_val_three, Shape.rowMajor_val_two]
  show (r.val / 8192 * 8192 + r.val % 8192) * 1024 + q.val = r.val * 1024 + q.val
  omega

theorem g_at (k : Fin 1024) : (V m c main_v1 : S1x1024.Idx → EReal) (ix2 0 k) = (m (c, main_arg1) : S1024.Idx → EReal) (ix1 k) := by
  have h : V m c main_v1 = shapeCast S1x1024 (m (c, main_arg1)) shapeCasts_S1024_S1x1024 := by
    simp only [V, hostOps0, List.flatten_cons, List.flatten_nil, List.append_nil, List.cons_append, List.nil_append]
    after_results_simp <;> rfl
  rw [h]
  refine shapeCast_apply _ _ _ (ix1 k) ?_
  rw [Shape.rowMajor_val_one, Shape.rowMajor_val_two]
  show k.val = 0 * 1024 + k.val
  omega

theorem w_at (k : Fin 1024) (q : Fin 2048) : (V m c main_v2 : S1024x2048.Idx → EReal) (ix2 k q) = (m (c, main_arg4) : S1024x2048.Idx → EReal) (ix2 k q) := by
  have h : (V m c main_v2 : S1024x2048.Idx → Elt Ideal .bf16) = truncf (F := Ideal) .bf16 (m (c, main_arg4)) bitsLt_bf16_f32 := by
    simp only [V, hostOps0, List.flatten_cons, List.flatten_nil, List.append_nil, List.cons_append, List.nil_append]
    after_results_simp <;> rfl
  rw [h]
  rfl

/-- Point `t` takes the `t`th 512 rows, -/
theorem at_rows : ∀ t : Fin cfg0.N, win0_5.index t 0 = t.val := by decide +kernel
/-- and the scale and the shift of their sequence. -/
theorem at_scale : ∀ t : Fin cfg0.N, win0_3.index t 0 = t.val / 16 := by decide +kernel

theorem lt_rows (t : Fin cfg0.N) (r : Fin 512) : 512 * t.val + r.val < 16384 := by
  have h : t.val < 32 := t.isLt
  omega

/-- Row `r` of point `t`'s rows. -/
def row (t : Fin cfg0.N) (r : Fin 512) : Fin 16384 := ⟨512 * t.val + r.val, lt_rows t r⟩

theorem emb5 (t : Fin cfg0.N) (r : Fin 512) (q : Fin 1536) :
    ((win0_5.blk t).view.emb (ix2 r q : S512x1536.Idx) : S16384x1536.Idx) = ix2 (row t r) q := by
  have h := at_rows t
  refine funext fun b => Fin.ext ?_
  match b with
  | ⟨0, _⟩ => show win0_5.index t 0 * 512 + 1 * r.val = 512 * t.val + r.val; omega
  | ⟨1, _⟩ => show 0 * 1536 + 1 * q.val = q.val; omega

theorem emb6 (t : Fin cfg0.N) (r : Fin 512) (q : Fin 512) :
    ((win0_6.blk t).view.emb (ix2 r q : S512x512.Idx) : S16384x512.Idx) = ix2 (row t r) q := by
  have h := at_rows t
  refine funext fun b => Fin.ext ?_
  match b with
  | ⟨0, _⟩ => show win0_5.index t 0 * 512 + 1 * r.val = 512 * t.val + r.val; omega
  | ⟨1, _⟩ => show 0 * 512 + 1 * q.val = q.val; omega

theorem x_blk (t : Fin cfg0.N) (r : Fin 512) (q : Fin 1024) : (iblk m c 0 t : S512x1024.Idx → EReal) (ix2 r q)
    = (m ((c : Thread nD τ).loc main_arg0) : S2x8192x1024.Idx → EReal) (at3 (row t r) q) := by
  refine Eq.trans ?_ (x_at m c (row t r) q)
  have h := at_rows t
  refine congrArg (V m c main_v0 : S16384x1024.Idx → EReal) (funext fun b => Fin.ext ?_)
  match b with
  | ⟨0, _⟩ => show win0_5.index t 0 * 512 + 1 * r.val = 512 * t.val + r.val; omega
  | ⟨1, _⟩ => show 0 * 1024 + 1 * q.val = q.val; omega

theorem g_blk (t : Fin cfg0.N) (k : Fin 1024) : (iblk m c 1 t : S1x1024.Idx → EReal) (ix2 0 k)
    = (m ((c : Thread nD τ).loc main_arg1) : S1024.Idx → EReal) (ix1 k) := by
  refine Eq.trans ?_ (g_at m c k)
  refine congrArg (V m c main_v1 : S1x1024.Idx → EReal) (funext fun b => Fin.ext ?_)
  match b with
  | ⟨0, _⟩ => rfl
  | ⟨1, _⟩ => show 0 * 1024 + 1 * k.val = k.val; omega

theorem w_blk (t : Fin cfg0.N) (k : Fin 1024) (q : Fin 2048) : (iblk m c 2 t : S1024x2048.Idx → EReal) (ix2 k q)
    = (m ((c : Thread nD τ).loc main_arg4) : S1024x2048.Idx → EReal) (ix2 k q) := by
  refine Eq.trans ?_ (w_at m c k q)
  refine congrArg (V m c main_v2 : S1024x2048.Idx → EReal) (funext fun b => Fin.ext ?_)
  match b with
  | ⟨0, _⟩ => show 0 * 1024 + 1 * k.val = k.val; omega
  | ⟨1, _⟩ => show 0 * 2048 + 1 * q.val = q.val; omega

theorem s_blk (t : Fin cfg0.N) (r : Fin 512) (q : Fin 1024) : (iblk m c 3 t : S1x1x1024.Idx → EReal) (ix3 0 0 q)
    = (m ((c : Thread nD τ).loc main_arg2) : S2x1x1024.Idx → EReal) (ix3 ⟨(row t r).val / 8192, by omega⟩ 0 q) := by
  rw [← V_main_arg2 m c]
  have h := at_scale t
  refine congrArg (V m c main_arg2 : S2x1x1024.Idx → EReal) (funext fun b => Fin.ext ?_)
  match b with
  | ⟨0, _⟩ => show win0_3.index t 0 * 1 + 1 * 0 = (512 * t.val + r.val) / 8192; omega
  | ⟨1, _⟩ => rfl
  | ⟨2, _⟩ => show 0 * 1024 + 1 * q.val = q.val; omega

theorem h_blk (t : Fin cfg0.N) (r : Fin 512) (q : Fin 1024) : (iblk m c 4 t : S1x1x1024.Idx → EReal) (ix3 0 0 q)
    = (m ((c : Thread nD τ).loc main_arg3) : S2x1x1024.Idx → EReal) (ix3 ⟨(row t r).val / 8192, by omega⟩ 0 q) := by
  rw [← V_main_arg3 m c]
  have h := at_scale t
  refine congrArg (V m c main_arg3 : S2x1x1024.Idx → EReal) (funext fun b => Fin.ext ?_)
  match b with
  | ⟨0, _⟩ => show win0_3.index t 0 * 1 + 1 * 0 = (512 * t.val + r.val) / 8192; omega
  | ⟨1, _⟩ => rfl
  | ⟨2, _⟩ => show 0 * 1024 + 1 * q.val = q.val; omega

/-- The product point `t` cuts its results from, at an index. -/
theorem prod_apply (t : Fin cfg0.N) (r : Fin 512) (q : Fin 2048) :
    k0_pay1 (F := Ideal) (iblk m c 0 t) (iblk m c 1 t) (iblk m c 3 t) (iblk m c 4 t) (iblk m c 2 t) (ix2 r q)
      = pr (fun k => (m ((c : Thread nD τ).loc main_arg0) : S2x8192x1024.Idx → EReal) (at3 (row t r) k))
        (fun k => (m ((c : Thread nD τ).loc main_arg1) : S1024.Idx → EReal) (ix1 k))
        (fun k => (m ((c : Thread nD τ).loc main_arg2) : S2x1x1024.Idx → EReal) (ix3 ⟨(row t r).val / 8192, by omega⟩ 0 k))
        (fun k => (m ((c : Thread nD τ).loc main_arg3) : S2x1x1024.Idx → EReal) (ix3 ⟨(row t r).val / 8192, by omega⟩ 0 k))
        (fun k => (m ((c : Thread nD τ).loc main_arg4) : S1024x2048.Idx → EReal) (ix2 k q)) := by
  refine (pay_apply (iblk m c 0 t) (iblk m c 1 t) (iblk m c 3 t) (iblk m c 4 t) (iblk m c 2 t) r q).trans ?_
  refine congr (congr (congr (congr (congrArg pr ?_) ?_) ?_) ?_) ?_
  · exact funext fun k => x_blk m c t r k
  · exact funext fun k => g_blk m c t k
  · exact funext fun k => s_blk m c t r k
  · exact funext fun k => h_blk m c t r k
  · exact funext fun k => w_blk m c t k q

/-- What the launch leaves in the first result. -/
theorem arr5 : (dats m 0 c).arrAt 5 cfg0.N
    = Cert.Reference3Ideal.Read.val_main_v21 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, out5_eq]
  have ey : (y : S512x1536.Idx) = ix2 (y 0) (y 1) := funext fun b => match b with | ⟨0, _⟩ => rfl | ⟨1, _⟩ => rfl
  rw [ey]
  exact ((pay2_apply _ _ _ _ _ (y 0) (y 1)).trans ((prod_apply m c t (y 0) _).trans (ref5_apply _ _ _ _ _ (row t (y 0)) (y 1)).symm)).trans
    (congrArg _ (emb5 t (y 0) (y 1)).symm)

/-- What the launch leaves in the second result. -/
theorem arr6 : (dats m 0 c).arrAt 6 cfg0.N
    = Cert.Reference3Ideal.Read.val_main_v23 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, out6_eq]
  have ey : (y : S512x512.Idx) = ix2 (y 0) (y 1) := funext fun b => match b with | ⟨0, _⟩ => rfl | ⟨1, _⟩ => rfl
  rw [ey]
  exact ((pay3_apply _ _ _ _ _ (y 0) (y 1)).trans ((prod_apply m c t (y 0) _).trans (ref6_apply _ _ _ _ _ (row t (y 0)) (y 1)).symm)).trans
    (congrArg _ (emb6 t (y 0) (y 1)).symm)

end Cert.Proof.InProj

end
-- ==== Proof.Rows.OutProj.lean ====
/- The projection out of the two mixers, onto the residual: what the kernel leaves, and the reference's result, are one
   array. The kernel multiplies each mixer's rows by its half of the weights and adds the two products; the reference lays
   the two side by side and multiplies once. -/
module

public import proofs.«01_k».proof.Defs
public import proofs.«01_k».proof.Proof.Gen.Kernel4
public import proofs.«01_k».proof.Proof.Gen.Kernel4Ideal.Value
public import proofs.«01_k».proof.Proof.Gen.Reference4Ideal.Read
public import proofs.«01_k».proof.Proof.Gen.Reference4Ideal.Run
public import Idealize.ShloMosaic.Lib.KernelVsHost
public import Idealize.ShloMosaic.Lib.MatmulPlain
public import Idealize.ShloMosaic.Lib.IdealHost
public import Idealize.ShloMosaic.Lib.Pipeline.ValueKit.Geometry
public import Idealize.ShloMosaic.Lib.Claim

@[expose] public section

noncomputable section

namespace Cert.Proof.OutProj

open Cert.Kernel4Ideal Cert.Kernel4Ideal.Gen
open Idealize.ShloMosaic Idealize.ShloMosaic.TcCoe Idealize.ShloMosaic.ValueIdx Idealize.SL.Sem
open Idealize.ShloMosaic.Pipeline (Dat)

/-- An element of the result: the residual plus the gate times the two rows' products with a column's two halves. -/
def el (x g : EReal) (a wa b wb : Fin 512 → EReal) : EReal := x + g * (∑ k, a k * wa k + ∑ k, b k * wb k)

theorem mm_apply (L : FVec Ideal S512x512 .bf16) (W : FVec Ideal S512x1024 .bf16) (r : Fin 512) (q : Fin 1024) :
    matmul dot_S512x512_S512x1024_S512x1024_1_0_0_1_n_n none L W (constant (F := Ideal) S512x1024 .f32 0x00000000#32) (ix2 r q)
      = ∑ k : Fin 512, L (ix2 r k) * W (ix2 k q) := by
  refine (Ideal.matmul_plain_apply (M := 512) (K := 512) (N := 1024) none L W _ r q).trans ?_
  show (Ideal.ofBits .f32 0x00000000#32 : EReal) + _ = _
  rw [Ideal.ofBits_zero_f32, zero_add]

theorem gate_apply (G : S1x1x1024.Idx → Elt Ideal .f32) (r : Fin 512) (q : Fin 1024) :
    broadcastTo S512x1024 (shapeCast S1x1024 G shapeCasts_S1x1x1024_S1x1024) broadcasts_S1x1024_S512x1024 (ix2 r q) = G (ix3 0 0 q) := by
  refine (broadcastTo_apply _ _ (ix2 r q) (ix2 (0 : Fin 1) q) ?_).trans (shapeCast_apply _ _ (ix2 (0 : Fin 1) q) (ix3 0 0 q) ?_)
  · intro a
    match a with
    | ⟨0, _⟩ => rfl
    | ⟨1, _⟩ => rfl
  · rw [Shape.rowMajor_val_three, Shape.rowMajor_val_two]
    show (0 * 1 + 0) * 1024 + q.val = 0 * 1024 + q.val
    omega

theorem pay_apply (A : Vec Ideal S512x512 .f32) (WA : Vec Ideal S512x1024 .bf16) (B : Vec Ideal S512x512 .f32) (WB : Vec Ideal S512x1024 .bf16)
    (X : Vec Ideal S512x1024 .f32) (G : Vec Ideal S1x1x1024 .f32) (r : Fin 512) (q : Fin 1024) :
    k0_pay1 (F := Ideal) A WA B WB X G (ix2 r q)
      = el (X (ix2 r q)) (G (ix3 0 0 q)) (fun k => A (ix2 r k)) (fun k => WA (ix2 k q)) (fun k => B (ix2 r k)) (fun k => WB (ix2 k q)) := by
  unfold k0_pay1 el
  refine congrArg₂ (fun x y : EReal => x + y) (shapeCast_apply _ _ (ix2 r q) (ix2 r q) rfl)
    (congrArg₂ (fun x y : EReal => x * y) (gate_apply G r q) (congrArg₂ (fun x y : EReal => x + y) ((mm_apply _ _ r q).trans ?_) ((mm_apply _ _ r q).trans ?_)))
  · exact Finset.sum_congr rfl fun k _ => congrArg (fun z : EReal => A (ix2 r k) * z) (shapeCast_apply _ _ (ix2 k q) (ix2 k q) rfl)
  · exact Finset.sum_congr rfl fun k _ => congrArg (fun z : EReal => B (ix2 r k) * z) (shapeCast_apply _ _ (ix2 k q) (ix2 k q) rfl)

theorem out_eq (x0 : Vec Ideal S512x512 .f32) (x1 : Vec Ideal S512x512 .f32) (x2 : Vec Ideal S512x1024 .f32) (x3 : Vec Ideal S512x1024 .bf16)
    (x4 : Vec Ideal S512x1024 .bf16) (x5 : Vec Ideal S1x1x1024 .f32) : out0_6 x0 x1 x2 x3 x4 x5 = k0_pay1 x0 x3 x1 x4 x2 x5 := by
  unfold out0_6
  have h0 : (View.ld x0 r0_0 : Vec Ideal S512x512 .f32) = x0 := View.ld_unit_zero (S := S512x512) (by decide) inb_S512x512_S512x512_0_0 x0
  have h1 : (View.ld x1 r0_0 : Vec Ideal S512x512 .f32) = x1 := View.ld_unit_zero (S := S512x512) (by decide) inb_S512x512_S512x512_0_0 x1
  have h2 : (View.ld x2 r0_1 : Vec Ideal S512x1024 .f32) = x2 := View.ld_unit_zero (S := S512x1024) (by decide) inb_S512x1024_S512x1024_0_0 x2
  have h3 : (View.ld x3 r0_1 : Vec Ideal S512x1024 .bf16) = x3 := View.ld_unit_zero (S := S512x1024) (by decide) inb_S512x1024_S512x1024_0_0 x3
  have h4 : (View.ld x4 r0_1 : Vec Ideal S512x1024 .bf16) = x4 := View.ld_unit_zero (S := S512x1024) (by decide) inb_S512x1024_S512x1024_0_0 x4
  have h5 : (View.ld x5 r0_2 : Vec Ideal S1x1x1024 .f32) = x5 := View.ld_unit_zero (S := S1x1x1024) (by decide) inb_S1x1x1024_S1x1x1024_0_0_0 x5
  rw [h0, h1, h2, h3, h4, h5]
  exact View.canon_unit_zero (S := S512x1024) (by decide) inb_S512x1024_S512x1024_0_0 _

/-! ## The reference -/

/-- The index of row `r` of the flattened rows, in the two sequences. -/
def at3 (r : Fin 16384) (q : Fin 1024) : S2x8192x1024.Idx := ix3 ⟨r.val / 8192, by omega⟩ ⟨r.val % 8192, by omega⟩ q

section Ref

open Cert.Reference4Ideal.Read

theorem side_l (x0 x1 : S16384x512.Idx → EReal) (r : Fin 16384) (k : Fin 512) :
    val_main_v2 (F := Ideal) x0 x1 (at3 r ⟨k.val, by omega⟩) = x0 (ix2 r k) := by
  unfold val_main_v2
  refine (concatenate_pair_apply_left (t := Cert.Reference4Ideal.S2x8192x1024) (s₁ := Cert.Reference4Ideal.S2x8192x512) (s₂ := Cert.Reference4Ideal.S2x8192x512)
    (2 : Fin 3) (val_main_v0 (F := Ideal) x0) (val_main_v1 (F := Ideal) x1) _ (at3 r ⟨k.val, by omega⟩) rfl (ix3 ⟨r.val / 8192, by omega⟩ ⟨r.val % 8192, by omega⟩ k : Cert.Reference4Ideal.S2x8192x512.Idx) (fun b => match b with
    | ⟨0, _⟩ => rfl
    | ⟨1, _⟩ => rfl
    | ⟨2, _⟩ => rfl)).trans ?_
  refine (val_main_v0_apply (F := Ideal) x0 _).trans (congrArg x0 (funext fun b => Fin.ext ?_))
  match b with
  | ⟨0, _⟩ => show ((r.val / 8192 * 8192 + r.val % 8192) * 512 + k.val) / 512 = r.val; omega
  | ⟨1, _⟩ => show ((r.val / 8192 * 8192 + r.val % 8192) * 512 + k.val) % 512 = k.val; omega

theorem side_r (x0 x1 : S16384x512.Idx → EReal) (r : Fin 16384) (k : Fin 512) :
    val_main_v2 (F := Ideal) x0 x1 (at3 r ⟨512 + k.val, by omega⟩) = x1 (ix2 r k) := by
  unfold val_main_v2
  refine (concatenate_pair_apply_right (t := Cert.Reference4Ideal.S2x8192x1024) (s₁ := Cert.Reference4Ideal.S2x8192x512) (s₂ := Cert.Reference4Ideal.S2x8192x512)
    (2 : Fin 3) (val_main_v0 (F := Ideal) x0) (val_main_v1 (F := Ideal) x1) _ (at3 r ⟨512 + k.val, by omega⟩) rfl rfl (ix3 ⟨r.val / 8192, by omega⟩ ⟨r.val % 8192, by omega⟩ k : Cert.Reference4Ideal.S2x8192x512.Idx) (fun b hb => match b, hb with
    | ⟨0, _⟩, _ => rfl
    | ⟨1, _⟩, _ => rfl
    | ⟨2, _⟩, hb => absurd rfl hb) (by show k.val + 512 = 512 + k.val; omega)).trans ?_
  refine (val_main_v1_apply (F := Ideal) x1 _).trans (congrArg x1 (funext fun b => Fin.ext ?_))
  match b with
  | ⟨0, _⟩ => show ((r.val / 8192 * 8192 + r.val % 8192) * 512 + k.val) / 512 = r.val; omega
  | ⟨1, _⟩ => show ((r.val / 8192 * 8192 + r.val % 8192) * 512 + k.val) % 512 = k.val; omega

theorem dot_apply (x0 x1 : S16384x512.Idx → EReal) (x4 : S1024x1024.Idx → EReal) (r : Fin 16384) (q : Fin 1024) :
    val_main_v3 (F := Ideal) x0 x1 x4 (at3 r q) = ((∑ k : Fin 512, x0 (ix2 r k) * x4 (ix2 ⟨k.val, by omega⟩ q))
      + ∑ k : Fin 512, x1 (ix2 r k) * x4 (ix2 ⟨512 + k.val, by omega⟩ q) : EReal) := by
  refine (val_main_v3_apply x0 x1 x4 (at3 r q)).trans ?_
  refine (Fin.sum_univ_add (a := 512) (b := 512) (M := EReal) _).trans ?_
  refine congrArg₂ (fun x y : EReal => x + y) (Finset.sum_congr rfl fun k _ => ?_) (Finset.sum_congr rfl fun k _ => ?_)
  · refine congrArg₂ (fun x y : EReal => x * y) (Eq.trans (congrArg (val_main_v2 (F := Ideal) x0 x1) ?_) (side_l x0 x1 r k)) (congrArg x4 ?_)
    · exact funext fun b => Fin.ext (match b with | ⟨0, _⟩ => rfl | ⟨1, _⟩ => rfl | ⟨2, _⟩ => rfl)
    · exact funext fun b => Fin.ext (match b with | ⟨0, _⟩ => rfl | ⟨1, _⟩ => rfl)
  · refine congrArg₂ (fun x y : EReal => x * y) (Eq.trans (congrArg (val_main_v2 (F := Ideal) x0 x1) ?_) (side_r x0 x1 r k)) (congrArg x4 ?_)
    · exact funext fun b => Fin.ext (match b with | ⟨0, _⟩ => rfl | ⟨1, _⟩ => rfl | ⟨2, _⟩ => rfl)
    · exact funext fun b => Fin.ext (match b with | ⟨0, _⟩ => rfl | ⟨1, _⟩ => rfl)

theorem ref_apply (x0 x1 : S16384x512.Idx → EReal) (x2 : S2x8192x1024.Idx → EReal) (x3 : S2x1x1024.Idx → EReal) (x4 : S1024x1024.Idx → EReal)
    (r : Fin 16384) (q : Fin 1024) :
    val_main_v7 (F := Ideal) x0 x1 x2 x3 x4 (ix2 r q) = el (x2 (at3 r q)) (x3 (ix3 ⟨r.val / 8192, by omega⟩ 0 q)) (fun k => x0 (ix2 r k))
      (fun k => x4 (ix2 ⟨k.val, by omega⟩ q)) (fun k => x1 (ix2 r k)) (fun k => x4 (ix2 ⟨512 + k.val, by omega⟩ q)) := by
  refine (val_main_v7_apply (F := Ideal) x0 x1 x2 x3 x4 (ix2 r q)).trans ?_
  have e : idx_main_v7 (ix2 r q) = at3 r q := funext fun b => Fin.ext (by
    have hq : q.val < 1024 := q.isLt
    match b with
    | ⟨0, _⟩ => show (r.val * 1024 + q.val) / 8388608 = r.val / 8192; omega
    | ⟨1, _⟩ => show (r.val * 1024 + q.val) / 1024 % 8192 = r.val % 8192; omega
    | ⟨2, _⟩ => show (r.val * 1024 + q.val) % 1024 = q.val; omega)
  rw [e]
  unfold el
  refine congrArg₂ (fun x y : EReal => x + y) rfl (congrArg₂ (fun x y : EReal => x * y) ?_ (dot_apply x0 x1 x4 r q))
  refine (val_main_v4_apply (F := Ideal) x3 (at3 r q)).trans (congrArg x3 ?_)
  exact funext fun b => Fin.ext (match b with | ⟨0, _⟩ => rfl | ⟨1, _⟩ => rfl | ⟨2, _⟩ => rfl)

end Ref

/-! ## The launch -/

variable (m : (ℓ : Loc nD τ sig) → Buf (Elt Ideal) ℓ) (c : Dev nD)

theorem wa_at (k : Fin 512) (q : Fin 1024) :
    (V m c main_v3 : S512x1024.Idx → EReal) (ix2 k q) = (m (c, main_arg4) : S1024x1024.Idx → EReal) (ix2 ⟨k.val, by omega⟩ q) := by
  have h : (V m c main_v3 : S512x1024.Idx → Elt Ideal .bf16) = truncf (F := Ideal) .bf16 (extractStridedSlice S512x1024 ![0, 0] (m (c, main_arg4)) slices_S1024x1024_S512x1024_0_0) bitsLt_bf16_f32 := by
    simp only [V, hostOps0, List.flatten_cons, List.flatten_nil, List.append_nil, List.cons_append, List.nil_append]
    after_results_simp <;> rfl
  rw [h]
  refine Eq.trans (b := (extractStridedSlice S512x1024 ![0, 0] (m (c, main_arg4)) slices_S1024x1024_S512x1024_0_0 : S512x1024.Idx → EReal) (ix2 k q)) rfl
    (extractStridedSlice_apply _ _ _ _ _ fun a => ?_)
  match a with
  | ⟨0, _⟩ => exact (Nat.zero_add _).symm
  | ⟨1, _⟩ => exact (Nat.zero_add _).symm

theorem wb_at (k : Fin 512) (q : Fin 1024) :
    (V m c main_v4 : S512x1024.Idx → EReal) (ix2 k q) = (m (c, main_arg4) : S1024x1024.Idx → EReal) (ix2 ⟨512 + k.val, by omega⟩ q) := by
  have h : (V m c main_v4 : S512x1024.Idx → Elt Ideal .bf16) = truncf (F := Ideal) .bf16 (extractStridedSlice S512x1024 ![512, 0] (m (c, main_arg4)) slices_S1024x1024_S512x1024_512_0) bitsLt_bf16_f32 := by
    simp only [V, hostOps0, List.flatten_cons, List.flatten_nil, List.append_nil, List.cons_append, List.nil_append]
    after_results_simp <;> rfl
  rw [h]
  refine Eq.trans (b := (extractStridedSlice S512x1024 ![512, 0] (m (c, main_arg4)) slices_S1024x1024_S512x1024_512_0 : S512x1024.Idx → EReal) (ix2 k q)) rfl
    (extractStridedSlice_apply _ _ _ _ _ fun a => ?_)
  match a with
  | ⟨0, _⟩ => rfl
  | ⟨1, _⟩ => exact (Nat.zero_add _).symm

theorem x_at (r : Fin 16384) (q : Fin 1024) : (V m c main_v2 : S16384x1024.Idx → EReal) (ix2 r q) = (m (c, main_arg2) : S2x8192x1024.Idx → EReal) (at3 r q) := by
  have h : V m c main_v2 = shapeCast S16384x1024 (m (c, main_arg2)) shapeCasts_S2x8192x1024_S16384x1024 := by
    simp only [V, hostOps0, List.flatten_cons, List.flatten_nil, List.append_nil, List.cons_append, List.nil_append]
    after_results_simp <;> rfl
  rw [h]
  refine shapeCast_apply _ _ _ (at3 r q) ?_
  rw [Shape.rowMajor_val_three, Shape.rowMajor_val_two]
  show (r.val / 8192 * 8192 + r.val % 8192) * 1024 + q.val = r.val * 1024 + q.val
  omega

/-- Point `t` takes the `t`th 512 rows, -/
theorem at_rows : ∀ t : Fin cfg0.N, win0_6.index t 0 = t.val := by decide +kernel
/-- and the gate of their sequence. -/
theorem at_gate : ∀ t : Fin cfg0.N, win0_5.index t 0 = t.val / 16 := by decide +kernel

theorem lt_rows (t : Fin cfg0.N) (r : Fin 512) : 512 * t.val + r.val < 16384 := by
  have h : t.val < 32 := t.isLt
  omega

/-- Row `r` of point `t`'s rows. -/
def row (t : Fin cfg0.N) (r : Fin 512) : Fin 16384 := ⟨512 * t.val + r.val, lt_rows t r⟩

theorem emb6 (t : Fin cfg0.N) (r : Fin 512) (q : Fin 1024) :
    ((win0_6.blk t).view.emb (ix2 r q : S512x1024.Idx) : S16384x1024.Idx) = ix2 (row t r) q := by
  have h := at_rows t
  refine funext fun b => Fin.ext ?_
  match b with
  | ⟨0, _⟩ => show win0_6.index t 0 * 512 + 1 * r.val = 512 * t.val + r.val; omega
  | ⟨1, _⟩ => show 0 * 1024 + 1 * q.val = q.val; omega

theorem a_blk (t : Fin cfg0.N) (r k : Fin 512) : (iblk m c 0 t : S512x512.Idx → EReal) (ix2 r k)
    = (m ((c : Thread nD τ).loc main_arg0) : S16384x512.Idx → EReal) (ix2 (row t r) k) := by
  rw [← V_main_arg0 m c]
  have h := at_rows t
  refine congrArg (V m c main_arg0 : S16384x512.Idx → EReal) (funext fun b => Fin.ext ?_)
  match b with
  | ⟨0, _⟩ => show win0_6.index t 0 * 512 + 1 * r.val = 512 * t.val + r.val; omega
  | ⟨1, _⟩ => show 0 * 512 + 1 * k.val = k.val; omega

theorem b_blk (t : Fin cfg0.N) (r k : Fin 512) : (iblk m c 1 t : S512x512.Idx → EReal) (ix2 r k)
    = (m ((c : Thread nD τ).loc main_arg1) : S16384x512.Idx → EReal) (ix2 (row t r) k) := by
  rw [← V_main_arg1 m c]
  have h := at_rows t
  refine congrArg (V m c main_arg1 : S16384x512.Idx → EReal) (funext fun b => Fin.ext ?_)
  match b with
  | ⟨0, _⟩ => show win0_6.index t 0 * 512 + 1 * r.val = 512 * t.val + r.val; omega
  | ⟨1, _⟩ => show 0 * 512 + 1 * k.val = k.val; omega

theorem x_blk (t : Fin cfg0.N) (r : Fin 512) (q : Fin 1024) : (iblk m c 2 t : S512x1024.Idx → EReal) (ix2 r q)
    = (m ((c : Thread nD τ).loc main_arg2) : S2x8192x1024.Idx → EReal) (at3 (row t r) q) := by
  refine Eq.trans ?_ (x_at m c (row t r) q)
  exact congrArg (V m c main_v2 : S16384x1024.Idx → EReal) (emb6 t r q)

theorem wa_blk (t : Fin cfg0.N) (k : Fin 512) (q : Fin 1024) : (iblk m c 3 t : S512x1024.Idx → EReal) (ix2 k q)
    = (m ((c : Thread nD τ).loc main_arg4) : S1024x1024.Idx → EReal) (ix2 ⟨k.val, by omega⟩ q) := by
  refine Eq.trans ?_ (wa_at m c k q)
  refine congrArg (V m c main_v3 : S512x1024.Idx → EReal) (funext fun b => Fin.ext ?_)
  match b with
  | ⟨0, _⟩ => show 0 * 512 + 1 * k.val = k.val; omega
  | ⟨1, _⟩ => show 0 * 1024 + 1 * q.val = q.val; omega

theorem wb_blk (t : Fin cfg0.N) (k : Fin 512) (q : Fin 1024) : (iblk m c 4 t : S512x1024.Idx → EReal) (ix2 k q)
    = (m ((c : Thread nD τ).loc main_arg4) : S1024x1024.Idx → EReal) (ix2 ⟨512 + k.val, by omega⟩ q) := by
  refine Eq.trans ?_ (wb_at m c k q)
  refine congrArg (V m c main_v4 : S512x1024.Idx → EReal) (funext fun b => Fin.ext ?_)
  match b with
  | ⟨0, _⟩ => show 0 * 512 + 1 * k.val = k.val; omega
  | ⟨1, _⟩ => show 0 * 1024 + 1 * q.val = q.val; omega

theorem g_blk (t : Fin cfg0.N) (r : Fin 512) (q : Fin 1024) : (iblk m c 5 t : S1x1x1024.Idx → EReal) (ix3 0 0 q)
    = (m ((c : Thread nD τ).loc main_arg3) : S2x1x1024.Idx → EReal) (ix3 ⟨(row t r).val / 8192, by omega⟩ 0 q) := by
  rw [← V_main_arg3 m c]
  have h := at_gate t
  refine congrArg (V m c main_arg3 : S2x1x1024.Idx → EReal) (funext fun b => Fin.ext ?_)
  match b with
  | ⟨0, _⟩ => show win0_5.index t 0 * 1 + 1 * 0 = (512 * t.val + r.val) / 8192; omega
  | ⟨1, _⟩ => rfl
  | ⟨2, _⟩ => show 0 * 1024 + 1 * q.val = q.val; omega

/-- What point `t` leaves, at an index. -/
theorem out_apply (t : Fin cfg0.N) (r : Fin 512) (q : Fin 1024) :
    out0_6 (iblk m c 0 t) (iblk m c 1 t) (iblk m c 2 t) (iblk m c 3 t) (iblk m c 4 t) (iblk m c 5 t) (ix2 r q)
    = Cert.Reference4Ideal.Read.val_main_v7 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 (row t r) q) := by
  rw [ref_apply, out_eq]
  refine (pay_apply (iblk m c 0 t) (iblk m c 3 t) (iblk m c 1 t) (iblk m c 4 t) (iblk m c 2 t) (iblk m c 5 t) r q).trans ?_
  rw [x_blk, g_blk m c t r q]
  refine congr (congr (congr (congrArg (el _ _) ?_) ?_) ?_) ?_
  · exact funext fun k => a_blk m c t r k
  · exact funext fun k => wa_blk m c t k q
  · exact funext fun k => b_blk m c t r k
  · exact funext fun k => wb_blk m c t k q

/-- What the launch leaves in the result. -/
theorem arr6 : (dats m 0 c).arrAt 6 cfg0.N
    = Cert.Reference4Ideal.Read.val_main_v7 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have ey : (y : S512x1024.Idx) = ix2 (y 0) (y 1) := funext fun b => match b with | ⟨0, _⟩ => rfl | ⟨1, _⟩ => rfl
  rw [ey]
  exact (out_apply m c t (y 0) (y 1)).trans (congrArg _ (emb6 t (y 0) (y 1)).symm)

end Cert.Proof.OutProj

end
-- ==== Proof.Rows.HeadsProj.lean ====
/- The projection out of the second pair of mixers, onto the residual: what the kernel leaves, and the reference's result, are
   one array. The mixers' results lie in heads; the kernel multiplies each head by its rows of the weights and adds the twelve
   products, the reference lays the heads side by side and multiplies once. -/
module

public import proofs.«01_k».proof.Defs
public import proofs.«01_k».proof.Proof.Gen.Kernel6
public import proofs.«01_k».proof.Proof.Gen.Kernel6Ideal.Value
public import proofs.«01_k».proof.Proof.Gen.Reference6Ideal.Read
public import proofs.«01_k».proof.Proof.Gen.Reference6Ideal.Run
public import Idealize.ShloMosaic.Lib.KernelVsHost
public import Idealize.ShloMosaic.Lib.MatmulPlain
public import Idealize.ShloMosaic.Lib.IdealHost
public import Idealize.ShloMosaic.Lib.Pipeline.ValueKit.Geometry
public import Idealize.ShloMosaic.Lib.Claim

@[expose] public section

noncomputable section

namespace Cert.Proof.HeadsProj

open Cert.Kernel6Ideal Cert.Kernel6Ideal.Gen
open Idealize.ShloMosaic Idealize.ShloMosaic.TcCoe Idealize.ShloMosaic.ValueIdx Idealize.SL.Sem
open Idealize.ShloMosaic.Pipeline (Dat)

/-- The twelve heads' products, added from the first on. -/
def acc (a : Fin 4 → EReal) (b : Fin 8 → EReal) : EReal :=
  a 0 + a 1 + a 2 + a 3 + b 0 + b 1 + b 2 + b 3 + b 4 + b 5 + b 6 + b 7

theorem ma_apply (L : Vec Ideal S1x512x128 .f32) (W : Vec Ideal S1x128x1024 .bf16) (r : Fin 512) (q : Fin 1024) :
    matmul dot_S512x128_S128x1024_S512x1024_1_0_0_1_n_n none (truncf (F := Ideal) .bf16 (shapeCast S512x128 L shapeCasts_S1x512x128_S512x128 : FVec Ideal S512x128 .f32) bitsLt_bf16_f32)
        (shapeCast S128x1024 W shapeCasts_S1x128x1024_S128x1024 : FVec Ideal S128x1024 .bf16) (constant (F := Ideal) S512x1024 .f32 0x00000000#32) (ix2 r q)
      = (∑ k : Fin 128, L (ix3 0 r k) * W (ix3 0 k q) : EReal) := by
  refine (Ideal.matmul_plain_apply (M := 512) (K := 128) (N := 1024) none _ _ _ r q).trans ?_
  refine Eq.trans (b := (Ideal.ofBits .f32 0x00000000#32 : EReal) + ∑ k : Fin 128, L (ix3 0 r k) * W (ix3 0 k q)) ?_ (by rw [Ideal.ofBits_zero_f32, zero_add])
  refine congrArg (fun z : EReal => (Ideal.ofBits .f32 0x00000000#32 : EReal) + z) (Finset.sum_congr rfl fun k _ => ?_)
  refine congrArg₂ (fun x y : EReal => x * y) (shapeCast_apply _ _ (ix2 r k) (ix3 0 r k) ?_) (shapeCast_apply _ _ (ix2 k q) (ix3 0 k q) ?_)
  · rw [Shape.rowMajor_val_three, Shape.rowMajor_val_two]
    show (0 * 512 + r.val) * 128 + k.val = r.val * 128 + k.val
    omega
  · rw [Shape.rowMajor_val_three, Shape.rowMajor_val_two]
    show (0 * 128 + k.val) * 1024 + q.val = k.val * 1024 + q.val
    omega

theorem mb_apply (L : Vec Ideal S1x512x64 .f32) (W : Vec Ideal S1x64x1024 .bf16) (r : Fin 512) (q : Fin 1024) :
    matmul dot_S512x64_S64x1024_S512x1024_1_0_0_1_n_n none (truncf (F := Ideal) .bf16 (shapeCast S512x64 L shapeCasts_S1x512x64_S512x64 : FVec Ideal S512x64 .f32) bitsLt_bf16_f32)
        (shapeCast S64x1024 W shapeCasts_S1x64x1024_S64x1024 : FVec Ideal S64x1024 .bf16) (constant (F := Ideal) S512x1024 .f32 0x00000000#32) (ix2 r q)
      = (∑ k : Fin 64, L (ix3 0 r k) * W (ix3 0 k q) : EReal) := by
  refine (Ideal.matmul_plain_apply (M := 512) (K := 64) (N := 1024) none _ _ _ r q).trans ?_
  refine Eq.trans (b := (Ideal.ofBits .f32 0x00000000#32 : EReal) + ∑ k : Fin 64, L (ix3 0 r k) * W (ix3 0 k q)) ?_ (by rw [Ideal.ofBits_zero_f32, zero_add])
  refine congrArg (fun z : EReal => (Ideal.ofBits .f32 0x00000000#32 : EReal) + z) (Finset.sum_congr rfl fun k _ => ?_)
  refine congrArg₂ (fun x y : EReal => x * y) (shapeCast_apply _ _ (ix2 r k) (ix3 0 r k) ?_) (shapeCast_apply _ _ (ix2 k q) (ix3 0 k q) ?_)
  · rw [Shape.rowMajor_val_three, Shape.rowMajor_val_two]
    show (0 * 512 + r.val) * 64 + k.val = r.val * 64 + k.val
    omega
  · rw [Shape.rowMajor_val_three, Shape.rowMajor_val_two]
    show (0 * 64 + k.val) * 1024 + q.val = k.val * 1024 + q.val
    omega

theorem gate_apply (G : S1x1x1024.Idx → Elt Ideal .f32) (r : Fin 512) (q : Fin 1024) :
    broadcastTo S512x1024 (shapeCast S1x1024 G shapeCasts_S1x1x1024_S1x1024) broadcasts_S1x1024_S512x1024 (ix2 r q) = G (ix3 0 0 q) := by
  refine (broadcastTo_apply _ _ (ix2 r q) (ix2 (0 : Fin 1) q) ?_).trans (shapeCast_apply _ _ (ix2 (0 : Fin 1) q) (ix3 0 0 q) ?_)
  · intro a
    match a with
    | ⟨0, _⟩ => rfl
    | ⟨1, _⟩ => rfl
  · rw [Shape.rowMajor_val_three, Shape.rowMajor_val_two]
    show (0 * 1 + 0) * 1024 + q.val = 0 * 1024 + q.val
    omega

/-- A head of the retention's rows, read from the block, -/
theorem ld_a (x : Vec Ideal S4x512x128 .f32) (h : Fin 4) (inb : ∀ a, (![h.val, 0, 0] : Fin 3 → Nat) a + S1x512x128.size a ≤ S4x512x128.size a)
    (r : Fin 512) (k : Fin 128) : (View.ld x (Rect.unit (s := S4x512x128) ![h.val, 0, 0] S1x512x128.size inb) : Vec Ideal S1x512x128 .f32) (ix3 0 r k) = x (ix3 h r k) :=
  congrArg x (funext fun b => Fin.ext (match b with
    | ⟨0, _⟩ => by show h.val + 1 * 0 = h.val; omega
    | ⟨1, _⟩ => by show 0 + 1 * r.val = r.val; omega
    | ⟨2, _⟩ => by show 0 + 1 * k.val = k.val; omega))

/-- its weights, -/
theorem ld_wa (x : Vec Ideal S4x128x1024 .bf16) (h : Fin 4) (inb : ∀ a, (![h.val, 0, 0] : Fin 3 → Nat) a + S1x128x1024.size a ≤ S4x128x1024.size a)
    (k : Fin 128) (q : Fin 1024) : (View.ld x (Rect.unit (s := S4x128x1024) ![h.val, 0, 0] S1x128x1024.size inb) : Vec Ideal S1x128x1024 .bf16) (ix3 0 k q) = x (ix3 h k q) :=
  congrArg x (funext fun b => Fin.ext (match b with
    | ⟨0, _⟩ => by show h.val + 1 * 0 = h.val; omega
    | ⟨1, _⟩ => by show 0 + 1 * k.val = k.val; omega
    | ⟨2, _⟩ => by show 0 + 1 * q.val = q.val; omega))

/-- a head of the attention's rows, -/
theorem ld_b (x : Vec Ideal S8x512x64 .f32) (h : Fin 8) (inb : ∀ a, (![h.val, 0, 0] : Fin 3 → Nat) a + S1x512x64.size a ≤ S8x512x64.size a)
    (r : Fin 512) (k : Fin 64) : (View.ld x (Rect.unit (s := S8x512x64) ![h.val, 0, 0] S1x512x64.size inb) : Vec Ideal S1x512x64 .f32) (ix3 0 r k) = x (ix3 h r k) :=
  congrArg x (funext fun b => Fin.ext (match b with
    | ⟨0, _⟩ => by show h.val + 1 * 0 = h.val; omega
    | ⟨1, _⟩ => by show 0 + 1 * r.val = r.val; omega
    | ⟨2, _⟩ => by show 0 + 1 * k.val = k.val; omega))

/-- and its weights. -/
theorem ld_wb (x : Vec Ideal S8x64x1024 .bf16) (h : Fin 8) (inb : ∀ a, (![h.val, 0, 0] : Fin 3 → Nat) a + S1x64x1024.size a ≤ S8x64x1024.size a)
    (k : Fin 64) (q : Fin 1024) : (View.ld x (Rect.unit (s := S8x64x1024) ![h.val, 0, 0] S1x64x1024.size inb) : Vec Ideal S1x64x1024 .bf16) (ix3 0 k q) = x (ix3 h k q) :=
  congrArg x (funext fun b => Fin.ext (match b with
    | ⟨0, _⟩ => by show h.val + 1 * 0 = h.val; omega
    | ⟨1, _⟩ => by show 0 + 1 * k.val = k.val; omega
    | ⟨2, _⟩ => by show 0 + 1 * q.val = q.val; omega))

/-- The product of head `h` of the retention, -/
def pa {n : Nat} (a : (⟨3, ![4, n, 128]⟩ : Shape).Idx → EReal) (w : Fin 4 → Fin 128 → EReal) (r : Fin n) (h : Fin 4) : EReal :=
  ∑ k : Fin 128, a (ix3 h r k) * w h k
/-- and of the attention. -/
def pb {n : Nat} (b : (⟨3, ![8, n, 64]⟩ : Shape).Idx → EReal) (w : Fin 8 → Fin 64 → EReal) (r : Fin n) (h : Fin 8) : EReal :=
  ∑ k : Fin 64, b (ix3 h r k) * w h k

theorem ha (x0 : Vec Ideal S4x512x128 .f32) (x3 : Vec Ideal S4x128x1024 .bf16) (h : Fin 4)
    (i : ∀ a, (![h.val, 0, 0] : Fin 3 → Nat) a + S1x512x128.size a ≤ S4x512x128.size a)
    (j : ∀ a, (![h.val, 0, 0] : Fin 3 → Nat) a + S1x128x1024.size a ≤ S4x128x1024.size a) (r : Fin 512) (q : Fin 1024) :
    matmul dot_S512x128_S128x1024_S512x1024_1_0_0_1_n_n none
        (truncf (F := Ideal) .bf16 (shapeCast S512x128 (View.ld x0 (Rect.unit (s := S4x512x128) ![h.val, 0, 0] S1x512x128.size i) : Vec Ideal S1x512x128 .f32) shapeCasts_S1x512x128_S512x128 : FVec Ideal S512x128 .f32) bitsLt_bf16_f32)
        (shapeCast S128x1024 (View.ld x3 (Rect.unit (s := S4x128x1024) ![h.val, 0, 0] S1x128x1024.size j) : Vec Ideal S1x128x1024 .bf16) shapeCasts_S1x128x1024_S128x1024 : FVec Ideal S128x1024 .bf16)
        (constant (F := Ideal) S512x1024 .f32 0x00000000#32) (ix2 r q)
      = pa (n := 512) x0 (fun h k => x3 (ix3 h k q)) r h :=
  (ma_apply _ _ r q).trans (Finset.sum_congr rfl fun k _ => congrArg₂ (fun x y : EReal => x * y) (ld_a x0 h i r k) (ld_wa x3 h j k q))

theorem hb (x1 : Vec Ideal S8x512x64 .f32) (x4 : Vec Ideal S8x64x1024 .bf16) (h : Fin 8)
    (i : ∀ a, (![h.val, 0, 0] : Fin 3 → Nat) a + S1x512x64.size a ≤ S8x512x64.size a)
    (j : ∀ a, (![h.val, 0, 0] : Fin 3 → Nat) a + S1x64x1024.size a ≤ S8x64x1024.size a) (r : Fin 512) (q : Fin 1024) :
    matmul dot_S512x64_S64x1024_S512x1024_1_0_0_1_n_n none
        (truncf (F := Ideal) .bf16 (shapeCast S512x64 (View.ld x1 (Rect.unit (s := S8x512x64) ![h.val, 0, 0] S1x512x64.size i) : Vec Ideal S1x512x64 .f32) shapeCasts_S1x512x64_S512x64 : FVec Ideal S512x64 .f32) bitsLt_bf16_f32)
        (shapeCast S64x1024 (View.ld x4 (Rect.unit (s := S8x64x1024) ![h.val, 0, 0] S1x64x1024.size j) : Vec Ideal S1x64x1024 .bf16) shapeCasts_S1x64x1024_S64x1024 : FVec Ideal S64x1024 .bf16)
        (constant (F := Ideal) S512x1024 .f32 0x00000000#32) (ix2 r q)
      = pb (n := 512) x1 (fun h k => x4 (ix3 h k q)) r h :=
  (mb_apply _ _ r q).trans (Finset.sum_congr rfl fun k _ => congrArg₂ (fun x y : EReal => x * y) (ld_b x1 h i r k) (ld_wb x4 h j k q))

theorem add2 {a b c d : EReal} (h : a = c) (k : b = d) : a + b = c + d := congrArg₂ (fun x y : EReal => x + y) h k

/-- The body's result, at an index. -/
theorem out_apply0 (x0 : Vec Ideal S4x512x128 .f32) (x1 : Vec Ideal S8x512x64 .f32) (x2 : Vec Ideal S512x1024 .f32) (x3 : Vec Ideal S4x128x1024 .bf16)
    (x4 : Vec Ideal S8x64x1024 .bf16) (x5 : Vec Ideal S1x1x1024 .f32) (r : Fin 512) (q : Fin 1024) :
    out0_6 x0 x1 x2 x3 x4 x5 (ix2 r q) = (x2 (ix2 r q) + x5 (ix3 0 0 q)
      * acc (pa (n := 512) x0 (fun h k => x3 (ix3 h k q)) r) (pb (n := 512) x1 (fun h k => x4 (ix3 h k q)) r) : EReal) := by
  unfold out0_6
  have h2 : (View.ld x2 r0_24 : Vec Ideal S512x1024 .f32) = x2 := View.ld_unit_zero (S := S512x1024) (by decide) inb_S512x1024_S512x1024_0_0 x2
  have h5 : (View.ld x5 r0_25 : Vec Ideal S1x1x1024 .f32) = x5 := View.ld_unit_zero (S := S1x1x1024) (by decide) inb_S1x1x1024_S1x1x1024_0_0_0 x5
  rw [h2, h5]
  refine (congrFun (View.canon_unit_zero (S := S512x1024) (by decide) inb_S512x1024_S512x1024_0_0 _) (ix2 r q)).trans ?_
  unfold k0_pay4 k0_pay3 k0_pay2 k0_pay1 acc
  refine add2 (shapeCast_apply _ _ (ix2 r q) (ix2 r q) rfl) (congrArg₂ (fun x y : EReal => x * y) (gate_apply x5 r q) ?_)
  exact add2 (add2 (add2 (add2 (add2 (add2 (add2 (add2 (add2 (add2 (add2
    (ha x0 x3 0 _ _ r q) (ha x0 x3 1 _ _ r q)) (ha x0 x3 2 _ _ r q)) (ha x0 x3 3 _ _ r q))
    (hb x1 x4 0 _ _ r q)) (hb x1 x4 1 _ _ r q)) (hb x1 x4 2 _ _ r q)) (hb x1 x4 3 _ _ r q))
    (hb x1 x4 4 _ _ r q)) (hb x1 x4 5 _ _ r q)) (hb x1 x4 6 _ _ r q)) (hb x1 x4 7 _ _ r q)

/-! ## The reference -/

/-- The index of row `r` of the flattened rows, in the two sequences. -/
def at3 (r : Fin 16384) (q : Fin 1024) : S2x8192x1024.Idx := ix3 ⟨r.val / 8192, by omega⟩ ⟨r.val % 8192, by omega⟩ q

/-- A sum over the first columns and the next ones. -/
theorem sum_next (f : Fin 1024 → EReal) (n k : Nat) (h : n + k ≤ 1024) :
    ∑ i : Fin (n + k), f ⟨i.val, by omega⟩ = ∑ i : Fin n, f ⟨i.val, by omega⟩ + ∑ i : Fin k, f ⟨n + i.val, by omega⟩ := Fin.sum_univ_add _

/-- A sum over all columns is the sum of the twelve heads' sums. -/
theorem sum_heads (f : Fin 1024 → EReal) : ∑ i : Fin 1024, f i
    = acc (fun h => ∑ k : Fin 128, f ⟨128 * h.val + k.val, by omega⟩) (fun h => ∑ k : Fin 64, f ⟨512 + 64 * h.val + k.val, by omega⟩) := by
  unfold acc
  refine (sum_next f 960 64 (by omega)).trans (add2 ?_ rfl)
  refine (sum_next f 896 64 (by omega)).trans (add2 ?_ rfl)
  refine (sum_next f 832 64 (by omega)).trans (add2 ?_ rfl)
  refine (sum_next f 768 64 (by omega)).trans (add2 ?_ rfl)
  refine (sum_next f 704 64 (by omega)).trans (add2 ?_ rfl)
  refine (sum_next f 640 64 (by omega)).trans (add2 ?_ rfl)
  refine (sum_next f 576 64 (by omega)).trans (add2 ?_ rfl)
  refine (sum_next f 512 64 (by omega)).trans (add2 ?_ rfl)
  refine (sum_next f 384 128 (by omega)).trans (add2 ?_ rfl)
  refine (sum_next f 256 128 (by omega)).trans (add2 ?_ rfl)
  refine (sum_next f 128 128 (by omega)).trans (add2 ?_ rfl)
  exact Finset.sum_congr rfl fun k _ => congrArg f (Fin.ext (by show k.val = 128 * 0 + k.val; omega))

section Ref

open Cert.Reference6Ideal.Read

theorem side_l (x0 : S4x16384x128.Idx → EReal) (x1 : S8x16384x64.Idx → EReal) (r : Fin 16384) (h : Fin 4) (k : Fin 128) :
    val_main_v4 (F := Ideal) x0 x1 (at3 r ⟨128 * h.val + k.val, by omega⟩) = x0 (ix3 h r k) := by
  unfold val_main_v4
  refine (concatenate_pair_apply_left (t := Cert.Reference6Ideal.S2x8192x1024) (s₁ := Cert.Reference6Ideal.S2x8192x512) (s₂ := Cert.Reference6Ideal.S2x8192x512)
    (2 : Fin 3) (val_main_v1 (F := Ideal) x0) (val_main_v3 (F := Ideal) x1) _ (at3 r ⟨128 * h.val + k.val, by omega⟩) rfl (ix3 ⟨r.val / 8192, by omega⟩ ⟨r.val % 8192, by omega⟩ ⟨128 * h.val + k.val, by omega⟩ : Cert.Reference6Ideal.S2x8192x512.Idx) (fun b => match b with
    | ⟨0, _⟩ => rfl
    | ⟨1, _⟩ => rfl
    | ⟨2, _⟩ => rfl)).trans ?_
  refine (val_main_v1_apply (F := Ideal) x0 _).trans ((val_main_v0_apply (F := Ideal) x0 _).trans (congrArg x0 (funext fun b => Fin.ext ?_)))
  match b with
  | ⟨0, _⟩ => show ((r.val / 8192 * 8192 + r.val % 8192) * 512 + (128 * h.val + k.val)) / 128 % 4 = h.val; omega
  | ⟨1, _⟩ => show ((r.val / 8192 * 8192 + r.val % 8192) * 512 + (128 * h.val + k.val)) / 512 = r.val; omega
  | ⟨2, _⟩ => show ((r.val / 8192 * 8192 + r.val % 8192) * 512 + (128 * h.val + k.val)) % 128 = k.val; omega

theorem side_r (x0 : S4x16384x128.Idx → EReal) (x1 : S8x16384x64.Idx → EReal) (r : Fin 16384) (h : Fin 8) (k : Fin 64) :
    val_main_v4 (F := Ideal) x0 x1 (at3 r ⟨512 + 64 * h.val + k.val, by omega⟩) = x1 (ix3 h r k) := by
  unfold val_main_v4
  refine (concatenate_pair_apply_right (t := Cert.Reference6Ideal.S2x8192x1024) (s₁ := Cert.Reference6Ideal.S2x8192x512) (s₂ := Cert.Reference6Ideal.S2x8192x512)
    (2 : Fin 3) (val_main_v1 (F := Ideal) x0) (val_main_v3 (F := Ideal) x1) _ (at3 r ⟨512 + 64 * h.val + k.val, by omega⟩) rfl rfl (ix3 ⟨r.val / 8192, by omega⟩ ⟨r.val % 8192, by omega⟩ ⟨64 * h.val + k.val, by omega⟩ : Cert.Reference6Ideal.S2x8192x512.Idx) (fun b hb => match b, hb with
    | ⟨0, _⟩, _ => rfl
    | ⟨1, _⟩, _ => rfl
    | ⟨2, _⟩, hb => absurd rfl hb) (by show 64 * h.val + k.val + 512 = 512 + 64 * h.val + k.val; omega)).trans ?_
  refine (val_main_v3_apply (F := Ideal) x1 _).trans ((val_main_v2_apply (F := Ideal) x1 _).trans (congrArg x1 (funext fun b => Fin.ext ?_)))
  match b with
  | ⟨0, _⟩ => show ((r.val / 8192 * 8192 + r.val % 8192) * 512 + (64 * h.val + k.val)) / 64 % 8 = h.val; omega
  | ⟨1, _⟩ => show ((r.val / 8192 * 8192 + r.val % 8192) * 512 + (64 * h.val + k.val)) / 512 = r.val; omega
  | ⟨2, _⟩ => show ((r.val / 8192 * 8192 + r.val % 8192) * 512 + (64 * h.val + k.val)) % 64 = k.val; omega

theorem dot_apply (x0 : S4x16384x128.Idx → EReal) (x1 : S8x16384x64.Idx → EReal) (x4 : S1024x1024.Idx → EReal) (r : Fin 16384) (q : Fin 1024) :
    val_main_v5 (F := Ideal) x0 x1 x4 (at3 r q) = acc (pa (n := 16384) x0 (fun h k => x4 (ix2 ⟨128 * h.val + k.val, by omega⟩ q)) r)
      (pb (n := 16384) x1 (fun h k => x4 (ix2 ⟨512 + 64 * h.val + k.val, by omega⟩ q)) r) := by
  refine (val_main_v5_apply x0 x1 x4 (at3 r q)).trans ?_
  refine Eq.trans (b := ∑ k : Fin 1024, (val_main_v4 (F := Ideal) x0 x1 (at3 r k) * x4 (ix2 k q) : EReal)) (Finset.sum_congr rfl fun k _ => ?_) ?_
  · refine congrArg₂ (fun x y : EReal => x * y) (congrArg (val_main_v4 (F := Ideal) x0 x1) ?_) (congrArg x4 ?_)
    · exact funext fun b => Fin.ext (match b with | ⟨0, _⟩ => rfl | ⟨1, _⟩ => rfl | ⟨2, _⟩ => rfl)
    · exact funext fun b => Fin.ext (match b with | ⟨0, _⟩ => rfl | ⟨1, _⟩ => rfl)
  · refine (sum_heads _).trans (congrArg₂ acc (funext fun h => ?_) (funext fun h => ?_))
    · exact Finset.sum_congr rfl fun k _ => congrArg (fun z : EReal => z * x4 (ix2 ⟨128 * h.val + k.val, by omega⟩ q)) (side_l x0 x1 r h k)
    · exact Finset.sum_congr rfl fun k _ => congrArg (fun z : EReal => z * x4 (ix2 ⟨512 + 64 * h.val + k.val, by omega⟩ q)) (side_r x0 x1 r h k)

theorem ref_apply (x0 : S4x16384x128.Idx → EReal) (x1 : S8x16384x64.Idx → EReal) (x2 : S2x8192x1024.Idx → EReal) (x3 : S2x1x1024.Idx → EReal)
    (x4 : S1024x1024.Idx → EReal) (r : Fin 16384) (q : Fin 1024) :
    val_main_v9 (F := Ideal) x0 x1 x2 x3 x4 (ix2 r q) = (x2 (at3 r q) + x3 (ix3 ⟨r.val / 8192, by omega⟩ 0 q)
      * acc (pa (n := 16384) x0 (fun h k => x4 (ix2 ⟨128 * h.val + k.val, by omega⟩ q)) r)
          (pb (n := 16384) x1 (fun h k => x4 (ix2 ⟨512 + 64 * h.val + k.val, by omega⟩ q)) r) : EReal) := by
  refine (val_main_v9_apply (F := Ideal) x0 x1 x2 x3 x4 (ix2 r q)).trans ?_
  have e : idx_main_v9 (ix2 r q) = at3 r q := funext fun b => Fin.ext (by
    have hq : q.val < 1024 := q.isLt
    match b with
    | ⟨0, _⟩ => show (r.val * 1024 + q.val) / 8388608 = r.val / 8192; omega
    | ⟨1, _⟩ => show (r.val * 1024 + q.val) / 1024 % 8192 = r.val % 8192; omega
    | ⟨2, _⟩ => show (r.val * 1024 + q.val) % 1024 = q.val; omega)
  rw [e]
  refine add2 rfl (congrArg₂ (fun x y : EReal => x * y) ?_ (dot_apply x0 x1 x4 r q))
  refine (val_main_v6_apply (F := Ideal) x3 (at3 r q)).trans (congrArg x3 ?_)
  exact funext fun b => Fin.ext (match b with | ⟨0, _⟩ => rfl | ⟨1, _⟩ => rfl | ⟨2, _⟩ => rfl)

end Ref

/-! ## The launch -/

variable (m : (ℓ : Loc nD τ sig) → Buf (Elt Ideal) ℓ) (c : Dev nD)

theorem wa_at (h : Fin 4) (k : Fin 128) (q : Fin 1024) :
    (V m c main_v5 : S4x128x1024.Idx → EReal) (ix3 h k q) = (m (c, main_arg4) : S1024x1024.Idx → EReal) (ix2 ⟨128 * h.val + k.val, by omega⟩ q) := by
  have e : (V m c main_v5 : S4x128x1024.Idx → Elt Ideal .bf16) = truncf (F := Ideal) .bf16 (shapeCast S4x128x1024 (extractStridedSlice S512x1024 ![0, 0] (m (c, main_arg4)) slices_S1024x1024_S512x1024_0_0) shapeCasts_S512x1024_S4x128x1024) bitsLt_bf16_f32 := by
    simp only [V, hostOps0, List.flatten_cons, List.flatten_nil, List.append_nil, List.cons_append, List.nil_append]
    after_results_simp <;> rfl
  rw [e]
  refine Eq.trans (b := (shapeCast S4x128x1024 (extractStridedSlice S512x1024 ![0, 0] (m (c, main_arg4)) slices_S1024x1024_S512x1024_0_0) shapeCasts_S512x1024_S4x128x1024 : S4x128x1024.Idx → EReal) (ix3 h k q)) rfl ?_
  refine (shapeCast_apply _ _ (ix3 h k q) (ix2 (⟨128 * h.val + k.val, by omega⟩ : Fin 512) q) ?_).trans (extractStridedSlice_apply _ _ _ _ _ fun a => ?_)
  · rw [Shape.rowMajor_val_three, Shape.rowMajor_val_two]
    show (128 * h.val + k.val) * 1024 + q.val = (h.val * 128 + k.val) * 1024 + q.val
    omega
  · match a with
    | ⟨0, _⟩ => exact (Nat.zero_add _).symm
    | ⟨1, _⟩ => exact (Nat.zero_add _).symm

theorem wb_at (h : Fin 8) (k : Fin 64) (q : Fin 1024) :
    (V m c main_v6 : S8x64x1024.Idx → EReal) (ix3 h k q) = (m (c, main_arg4) : S1024x1024.Idx → EReal) (ix2 ⟨512 + 64 * h.val + k.val, by omega⟩ q) := by
  have e : (V m c main_v6 : S8x64x1024.Idx → Elt Ideal .bf16) = truncf (F := Ideal) .bf16 (shapeCast S8x64x1024 (extractStridedSlice S512x1024 ![512, 0] (m (c, main_arg4)) slices_S1024x1024_S512x1024_512_0) shapeCasts_S512x1024_S8x64x1024) bitsLt_bf16_f32 := by
    simp only [V, hostOps0, List.flatten_cons, List.flatten_nil, List.append_nil, List.cons_append, List.nil_append]
    after_results_simp <;> rfl
  rw [e]
  refine Eq.trans (b := (shapeCast S8x64x1024 (extractStridedSlice S512x1024 ![512, 0] (m (c, main_arg4)) slices_S1024x1024_S512x1024_512_0) shapeCasts_S512x1024_S8x64x1024 : S8x64x1024.Idx → EReal) (ix3 h k q)) rfl ?_
  refine (shapeCast_apply _ _ (ix3 h k q) (ix2 (⟨64 * h.val + k.val, by omega⟩ : Fin 512) q) ?_).trans (extractStridedSlice_apply _ _ _ _ _ fun a => ?_)
  · rw [Shape.rowMajor_val_three, Shape.rowMajor_val_two]
    show (64 * h.val + k.val) * 1024 + q.val = (h.val * 64 + k.val) * 1024 + q.val
    omega
  · match a with
    | ⟨0, _⟩ => show 512 + 64 * h.val + k.val = 512 + (64 * h.val + k.val); omega
    | ⟨1, _⟩ => exact (Nat.zero_add _).symm

theorem x_at (r : Fin 16384) (q : Fin 1024) : (V m c main_v4 : S16384x1024.Idx → EReal) (ix2 r q) = (m (c, main_arg2) : S2x8192x1024.Idx → EReal) (at3 r q) := by
  have h : V m c main_v4 = shapeCast S16384x1024 (m (c, main_arg2)) shapeCasts_S2x8192x1024_S16384x1024 := by
    simp only [V, hostOps0, List.flatten_cons, List.flatten_nil, List.append_nil, List.cons_append, List.nil_append]
    after_results_simp <;> rfl
  rw [h]
  refine shapeCast_apply _ _ _ (at3 r q) ?_
  rw [Shape.rowMajor_val_three, Shape.rowMajor_val_two]
  show (r.val / 8192 * 8192 + r.val % 8192) * 1024 + q.val = r.val * 1024 + q.val
  omega

/-- Point `t` takes the `t`th 512 rows, -/
theorem at_rows : ∀ t : Fin cfg0.N, win0_6.index t 0 = t.val := by decide +kernel
/-- and the gate of their sequence. -/
theorem at_gate : ∀ t : Fin cfg0.N, win0_5.index t 0 = t.val / 16 := by decide +kernel

theorem lt_rows (t : Fin cfg0.N) (r : Fin 512) : 512 * t.val + r.val < 16384 := by
  have h : t.val < 32 := t.isLt
  omega

/-- Row `r` of point `t`'s rows. -/
def row (t : Fin cfg0.N) (r : Fin 512) : Fin 16384 := ⟨512 * t.val + r.val, lt_rows t r⟩

theorem emb6 (t : Fin cfg0.N) (r : Fin 512) (q : Fin 1024) :
    ((win0_6.blk t).view.emb (ix2 r q : S512x1024.Idx) : S16384x1024.Idx) = ix2 (row t r) q := by
  have h := at_rows t
  refine funext fun b => Fin.ext ?_
  match b with
  | ⟨0, _⟩ => show win0_6.index t 0 * 512 + 1 * r.val = 512 * t.val + r.val; omega
  | ⟨1, _⟩ => show 0 * 1024 + 1 * q.val = q.val; omega

theorem a_blk (t : Fin cfg0.N) (h : Fin 4) (r : Fin 512) (k : Fin 128) : (iblk m c 0 t : S4x512x128.Idx → EReal) (ix3 h r k)
    = (m ((c : Thread nD τ).loc main_arg0) : S4x16384x128.Idx → EReal) (ix3 h (row t r) k) := by
  rw [← V_main_arg0 m c]
  have e := at_rows t
  refine congrArg (V m c main_arg0 : S4x16384x128.Idx → EReal) (funext fun b => Fin.ext ?_)
  match b with
  | ⟨0, _⟩ => show 0 * 4 + 1 * h.val = h.val; omega
  | ⟨1, _⟩ => show win0_6.index t 0 * 512 + 1 * r.val = 512 * t.val + r.val; omega
  | ⟨2, _⟩ => show 0 * 128 + 1 * k.val = k.val; omega

theorem b_blk (t : Fin cfg0.N) (h : Fin 8) (r : Fin 512) (k : Fin 64) : (iblk m c 1 t : S8x512x64.Idx → EReal) (ix3 h r k)
    = (m ((c : Thread nD τ).loc main_arg1) : S8x16384x64.Idx → EReal) (ix3 h (row t r) k) := by
  rw [← V_main_arg1 m c]
  have e := at_rows t
  refine congrArg (V m c main_arg1 : S8x16384x64.Idx → EReal) (funext fun b => Fin.ext ?_)
  match b with
  | ⟨0, _⟩ => show 0 * 8 + 1 * h.val = h.val; omega
  | ⟨1, _⟩ => show win0_6.index t 0 * 512 + 1 * r.val = 512 * t.val + r.val; omega
  | ⟨2, _⟩ => show 0 * 64 + 1 * k.val = k.val; omega

theorem x_blk (t : Fin cfg0.N) (r : Fin 512) (q : Fin 1024) : (iblk m c 2 t : S512x1024.Idx → EReal) (ix2 r q)
    = (m ((c : Thread nD τ).loc main_arg2) : S2x8192x1024.Idx → EReal) (at3 (row t r) q) := by
  refine Eq.trans ?_ (x_at m c (row t r) q)
  exact congrArg (V m c main_v4 : S16384x1024.Idx → EReal) (emb6 t r q)

theorem wa_blk (t : Fin cfg0.N) (h : Fin 4) (k : Fin 128) (q : Fin 1024) : (iblk m c 3 t : S4x128x1024.Idx → EReal) (ix3 h k q)
    = (m ((c : Thread nD τ).loc main_arg4) : S1024x1024.Idx → EReal) (ix2 ⟨128 * h.val + k.val, by omega⟩ q) := by
  refine Eq.trans ?_ (wa_at m c h k q)
  refine congrArg (V m c main_v5 : S4x128x1024.Idx → EReal) (funext fun b => Fin.ext ?_)
  match b with
  | ⟨0, _⟩ => show 0 * 4 + 1 * h.val = h.val; omega
  | ⟨1, _⟩ => show 0 * 128 + 1 * k.val = k.val; omega
  | ⟨2, _⟩ => show 0 * 1024 + 1 * q.val = q.val; omega

theorem wb_blk (t : Fin cfg0.N) (h : Fin 8) (k : Fin 64) (q : Fin 1024) : (iblk m c 4 t : S8x64x1024.Idx → EReal) (ix3 h k q)
    = (m ((c : Thread nD τ).loc main_arg4) : S1024x1024.Idx → EReal) (ix2 ⟨512 + 64 * h.val + k.val, by omega⟩ q) := by
  refine Eq.trans ?_ (wb_at m c h k q)
  refine congrArg (V m c main_v6 : S8x64x1024.Idx → EReal) (funext fun b => Fin.ext ?_)
  match b with
  | ⟨0, _⟩ => show 0 * 8 + 1 * h.val = h.val; omega
  | ⟨1, _⟩ => show 0 * 64 + 1 * k.val = k.val; omega
  | ⟨2, _⟩ => show 0 * 1024 + 1 * q.val = q.val; omega

theorem g_blk (t : Fin cfg0.N) (r : Fin 512) (q : Fin 1024) : (iblk m c 5 t : S1x1x1024.Idx → EReal) (ix3 0 0 q)
    = (m ((c : Thread nD τ).loc main_arg3) : S2x1x1024.Idx → EReal) (ix3 ⟨(row t r).val / 8192, by omega⟩ 0 q) := by
  rw [← V_main_arg3 m c]
  have h := at_gate t
  refine congrArg (V m c main_arg3 : S2x1x1024.Idx → EReal) (funext fun b => Fin.ext ?_)
  match b with
  | ⟨0, _⟩ => show win0_5.index t 0 * 1 + 1 * 0 = (512 * t.val + r.val) / 8192; omega
  | ⟨1, _⟩ => rfl
  | ⟨2, _⟩ => show 0 * 1024 + 1 * q.val = q.val; omega

/-- What point `t` leaves, at an index. -/
theorem out_apply (t : Fin cfg0.N) (r : Fin 512) (q : Fin 1024) :
    out0_6 (iblk m c 0 t) (iblk m c 1 t) (iblk m c 2 t) (iblk m c 3 t) (iblk m c 4 t) (iblk m c 5 t) (ix2 r q)
    = Cert.Reference6Ideal.Read.val_main_v9 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (ix2 (row t r) q) := by
  rw [ref_apply]
  refine (out_apply0 (iblk m c 0 t) (iblk m c 1 t) (iblk m c 2 t) (iblk m c 3 t) (iblk m c 4 t) (iblk m c 5 t) r q).trans ?_
  refine add2 (x_blk m c t r q) (congrArg₂ (fun x y : EReal => x * y) (g_blk m c t r q) (congrArg₂ acc (funext fun h => ?_) (funext fun h => ?_)))
  · exact Finset.sum_congr rfl fun k _ => congrArg₂ (fun x y : EReal => x * y) (a_blk m c t h r k) (wa_blk m c t h k q)
  · exact Finset.sum_congr rfl fun k _ => congrArg₂ (fun x y : EReal => x * y) (b_blk m c t h r k) (wb_blk m c t h k q)

/-- What the launch leaves in the result. -/
theorem arr6 : (dats m 0 c).arrAt 6 cfg0.N
    = Cert.Reference6Ideal.Read.val_main_v9 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have ey : (y : S512x1024.Idx) = ix2 (y 0) (y 1) := funext fun b => match b with | ⟨0, _⟩ => rfl | ⟨1, _⟩ => rfl
  rw [ey]
  exact (out_apply m c t (y 0) (y 1)).trans (congrArg _ (emb6 t (y 0) (y 1)).symm)

end Cert.Proof.HeadsProj

end
-- ==== Proof.lean ====
/- The certificate's claims: each from the runs of the kernels and of their references, which Proof/Dispatch, Proof/Experts
   and Proof/Rows prove, read at the two instances. The texts at `Bits` are the ideal pairs' texts. -/
module

public import proofs.«01_k».proof.Defs
public import proofs.«01_k».proof.Proof.Dispatch.Claims
public import proofs.«01_k».proof.Proof.Gen.Reference
public import proofs.«01_k».proof.Proof.Gen.Kernel
public import proofs.«01_k».proof.Proof.Gen.Kernel2
public import proofs.«01_k».proof.Proof.Gen.Pre_blocks_used
public import proofs.«01_k».proof.Proof.Experts.Claims
public import proofs.«01_k».proof.Proof.Rows.InProj
public import proofs.«01_k».proof.Proof.Rows.OutProj
public import proofs.«01_k».proof.Proof.Rows.HeadsProj
public import proofs.«01_k».proof.Proof.Rows.FinalNorm

@[expose] public section

noncomputable section

namespace Cert.Proof

open Idealize.ShloMosaic Idealize.ShloMosaic.TcCoe Idealize.SL.Sem
open Cert.Proof.Dispatch

instance bits_nonempty : ∀ e, Nonempty (Elt Bits e) := fun e => inferInstance
instance ideal_nonempty : ∀ e, Nonempty (Elt Ideal e) := fun e => inferInstance

theorem slots_bits (m : (ℓ : Loc Cert.KernelIdeal.nD Cert.KernelIdeal.τ Cert.KernelIdeal.sig) → Buf (Elt Bits) ℓ)
    (h : ∀ c : Dev Cert.KernelIdeal.nD, Cert.Pre_slots_distinct.fn (F := Bits) (rows m c) (slots m c) = fun _ => 1#1) :
    ∀ c, SlotsOK (slots m c) := fun c => slots_of_pre _ _ (h c)

/-- The kernel's run at `Bits` is the run of the ideal pair's text there. -/
theorem run_eq : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) := by sl_kernel_rfl

theorem frame_p : Cert.quiescent_Kernel := fun m ρ h => by
  rw [run_eq]
  exact (θ_run Cert.KernelIdeal.defs _ _).mono (fun _ q => ⟨fun c => ⟨(q.1 c).2.1, (q.1 c).2.2⟩, q.2⟩)
    (run_values (F := Bits) m ρ (allOK_of_slots m (slots_bits m h)))

theorem frame_pi : Cert.quiescent_KernelIdeal := fun m ρ h =>
  (θ_run Cert.KernelIdeal.defs _ _).mono (fun _ q => ⟨fun c => ⟨(q.1 c).2.1, (q.1 c).2.2⟩, q.2⟩)
    (run_values (F := Ideal) m ρ (allOK_of_slots m fun c => slots_of_pre _ _ (h c)))

theorem frame_ri : Cert.quiescent_ReferenceIdeal := fun m ρ _ =>
  (θ_run Cert.ReferenceIdeal.defs _ _).mono (fun _ q => ⟨fun c => (q.1 c).2, q.2⟩) (ref_run (F := Ideal) m ρ)

theorem frame_ri_pre : Cert.quiescent_ReferenceIdeal_pre_slots_distinct := fun m ρ _ =>
  (θ_run Cert.ReferenceIdeal.defs _ _).mono (fun _ q => ⟨fun c => (q.1 c).2, q.2⟩) (ref_run (F := Ideal) m ρ)

theorem frame_r : Cert.quiescent_Reference := fun m ρ _ =>
  (θ_run Cert.ReferenceIdeal.defs _ _).mono (fun _ q => ⟨fun c => (q.1 c).2, q.2⟩) (ref_run (F := Bits) m ρ)

theorem bitexact : Cert.bitexact_Kernel_Reference := fun m ρ m' ρ' h agree => by
  have hs : ∀ c, SlotsOK (slots (F := Bits) m c) := slots_bits m h
  refine ⟨fun c => tab (F := Bits) m c Cert.KernelIdeal.cfg0.N, ?_, ?_⟩
  · rw [run_eq]
    exact (θ_run Cert.KernelIdeal.defs _ _).mono (fun _ q => q.1) (run_values (F := Bits) m ρ (allOK_of_slots m hs))
  · refine (θ_run Cert.ReferenceIdeal.defs _ _).mono (fun _ q c => ⟨(q.1 c).1.trans ?_, (q.1 c).2⟩) (ref_run (F := Bits) m' ρ')
    exact (congrArg₂ (Cert.ReferenceIdeal.Read.val_main_v21 (F := Bits)) (agree c).1 (agree c).2).trans (tables_eq (F := Bits) m c (hs c)).symm

theorem algebraic : Cert.algebraic_KernelIdeal_ReferenceIdeal := fun m ρ m' ρ' h agree => by
  have hs : ∀ c, SlotsOK (slots m c) := fun c => slots_of_pre _ _ (h c)
  refine ⟨fun c => tab m c Cert.KernelIdeal.cfg0.N, ?_, ?_⟩
  · exact (θ_run Cert.KernelIdeal.defs _ _).mono (fun _ q => q.1) (run_values m ρ (allOK_of_slots m hs))
  · refine (θ_run Cert.ReferenceIdeal.defs _ _).mono (fun _ q c => ⟨(q.1 c).1.trans ?_, (q.1 c).2⟩) (ref_run m' ρ')
    exact (congrArg₂ Cert.ReferenceIdeal.Read.val_main_v21 (agree c).1 (agree c).2).trans (tables_eq m c (hs c)).symm

/-! ## The expert layer -/

/-- The kernel's run at `Bits` is the run of the ideal pair's text there. -/
theorem run_eq2 : θ_run (Cert.Kernel2.defs (F := Bits)) (onTc (τ := Cert.Kernel2.τ) (Cert.Kernel2.main (F := Bits)))
    = θ_run (Cert.Kernel2Ideal.defs (F := Bits)) (onTc (τ := Cert.Kernel2Ideal.τ) (Cert.Kernel2Ideal.main (F := Bits))) := by sl_kernel_rfl

theorem frame_p2 : Cert.quiescent_Kernel2 := fun m ρ h => by
  rw [run_eq2]
  exact (θ_run Cert.Kernel2Ideal.defs _ _).mono (fun _ q => ⟨fun c => (q.1 c).2, q.2⟩)
    (Experts.run_values (F := Bits) m ρ (Experts.used_of_pre (F := Bits) m h))

theorem frame_pi2 : Cert.quiescent_Kernel2Ideal := fun m ρ h =>
  (θ_run Cert.Kernel2Ideal.defs _ _).mono (fun _ q => ⟨fun c => (q.1 c).2, q.2⟩)
    (Experts.run_values (F := Ideal) m ρ (Experts.used_of_pre (F := Ideal) m h))

theorem frame_ri2 : Cert.quiescent_Reference2Ideal := fun m ρ _ =>
  (θ_run Cert.Reference2Ideal.defs _ _).mono (fun _ q => ⟨fun c => (q.1 c).2, q.2⟩) (Experts.ref_run (F := Ideal) m ρ)

theorem frame_ri2_pre : Cert.quiescent_Reference2Ideal_pre_blocks_used := fun m ρ _ =>
  (θ_run Cert.Reference2Ideal.defs _ _).mono (fun _ q => ⟨fun c => (q.1 c).2, q.2⟩) (Experts.ref_run (F := Ideal) m ρ)

theorem algebraic2 : Cert.algebraic_Kernel2Ideal_Reference2Ideal := fun m ρ m' ρ' h agree => by
  have hu := Experts.used_of_pre (F := Ideal) m h
  refine ⟨fun c => Experts.outTab m (Experts.adm m hu) c, ?_, ?_⟩
  · exact (θ_run Cert.Kernel2Ideal.defs _ _).mono (fun _ q => q.1) (Experts.run_values m ρ hu)
  · refine (θ_run Cert.Reference2Ideal.defs _ _).mono (fun _ q c => ⟨(q.1 c).1.trans ?_, (q.1 c).2⟩) (Experts.ref_run m' ρ')
    obtain ⟨a0, a1, a2, a3, a4, a5⟩ := agree c
    refine Eq.trans ?_ (Experts.results_eq m hu c).symm
    unfold Experts.refTab
    exact congr (congr (congr (congr (congr (congrArg (Cert.Reference2Ideal.Read.val_main_v90 (F := Ideal)) a0) a1) a2) a3) a4) a5

/-! ## The normalisation and the projection into the two mixers -/

/-- The kernel's run at `Bits` is the run of the ideal pair's text there. -/
theorem run_eq3 : θ_run (Cert.Kernel3.defs (F := Bits)) (onTc (τ := Cert.Kernel3.τ) (Cert.Kernel3.main (F := Bits)))
    = θ_run (Cert.Kernel3Ideal.defs (F := Bits)) (onTc (τ := Cert.Kernel3Ideal.τ) (Cert.Kernel3Ideal.main (F := Bits))) := by sl_kernel_rfl

theorem frame_p3 : Cert.quiescent_Kernel3 := fun m ρ _ => by
  rw [run_eq3]
  exact Cert.Kernel3Ideal.Gen.frame (F := Bits) m ρ

theorem frame_pi3 : Cert.quiescent_Kernel3Ideal := fun m ρ _ => Cert.Kernel3Ideal.Gen.frame (F := Ideal) m ρ

theorem frame_ri3 : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem algebraic3 : Cert.algebraic_Kernel3Ideal_Reference3Ideal := fun m ρ m' ρ' _ agree => by
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N, Cert.Kernel3Ideal.Value.run_blocks m ρ, ?_⟩
  refine (θ_run Cert.Reference3Ideal.defs _ _).mono (fun _ q c => ?_) (Cert.Reference3Ideal.Value.run (F := Ideal) m' ρ')
  obtain ⟨a0, a1, a2, a3, a4⟩ := agree c
  exact ⟨((q c).1.trans (Cert.Reference3Ideal.Read.val_main_v21_eq _ _ _ _ _)).trans ((congr (congr (congr (congr (congrArg (Cert.Reference3Ideal.Read.val_main_v21 (F := Ideal)) a0) a1) a2) a3) a4).trans (InProj.arr5 m c).symm),
      ((q c).2.1.trans (Cert.Reference3Ideal.Read.val_main_v23_eq _ _ _ _ _)).trans ((congr (congr (congr (congr (congrArg (Cert.Reference3Ideal.Read.val_main_v23 (F := Ideal)) a0) a1) a2) a3) a4).trans (InProj.arr6 m c).symm), (q c).2.2⟩

/-! ## The projection out of the two mixers -/

/-- The kernel's run at `Bits` is the run of the ideal pair's text there. -/
theorem run_eq4 : θ_run (Cert.Kernel4.defs (F := Bits)) (onTc (τ := Cert.Kernel4.τ) (Cert.Kernel4.main (F := Bits)))
    = θ_run (Cert.Kernel4Ideal.defs (F := Bits)) (onTc (τ := Cert.Kernel4Ideal.τ) (Cert.Kernel4Ideal.main (F := Bits))) := by sl_kernel_rfl

theorem frame_p4 : Cert.quiescent_Kernel4 := fun m ρ _ => by
  rw [run_eq4]
  exact Cert.Kernel4Ideal.Gen.frame (F := Bits) m ρ

theorem frame_pi4 : Cert.quiescent_Kernel4Ideal := fun m ρ _ => Cert.Kernel4Ideal.Gen.frame (F := Ideal) m ρ

theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic4 : Cert.algebraic_Kernel4Ideal_Reference4Ideal := fun m ρ m' ρ' _ agree => by
  refine ⟨fun c => (Cert.Kernel4Ideal.Gen.dats m 0 c).arrAt 6 Cert.Kernel4Ideal.cfg0.N, Cert.Kernel4Ideal.Value.run_blocks m ρ, ?_⟩
  refine (θ_run Cert.Reference4Ideal.defs _ _).mono (fun _ q c => ?_) (Cert.Reference4Ideal.Value.run (F := Ideal) m' ρ')
  obtain ⟨a0, a1, a2, a3, a4⟩ := agree c
  exact ⟨((q c).1.trans (Cert.Reference4Ideal.Read.val_main_v7_eq _ _ _ _ _)).trans ((congr (congr (congr (congr (congrArg (Cert.Reference4Ideal.Read.val_main_v7 (F := Ideal)) a0) a1) a2) a3) a4).trans (OutProj.arr6 m c).symm), (q c).2⟩

/-! ## The last normalisation -/

/-- The kernel's run at `Bits` is the run of the ideal pair's text there. -/
theorem run_eq5 : θ_run (Cert.Kernel5.defs (F := Bits)) (onTc (τ := Cert.Kernel5.τ) (Cert.Kernel5.main (F := Bits)))
    = θ_run (Cert.Kernel5Ideal.defs (F := Bits)) (onTc (τ := Cert.Kernel5Ideal.τ) (Cert.Kernel5Ideal.main (F := Bits))) := by sl_kernel_rfl

theorem frame_p5 : Cert.quiescent_Kernel5 := fun m ρ _ => by
  rw [run_eq5]
  exact Cert.Kernel5Ideal.Gen.frame (F := Bits) m ρ

theorem frame_pi5 : Cert.quiescent_Kernel5Ideal := fun m ρ _ => Cert.Kernel5Ideal.Gen.frame (F := Ideal) m ρ

theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic5 : Cert.algebraic_Kernel5Ideal_Reference5Ideal := fun m ρ m' ρ' _ agree => by
  refine ⟨fun c => (Cert.Kernel5Ideal.Gen.dats m 0 c).arrAt 2 Cert.Kernel5Ideal.cfg0.N, Cert.Kernel5Ideal.Value.run_blocks m ρ, ?_⟩
  refine (θ_run Cert.Reference5Ideal.defs _ _).mono (fun _ q c => ?_) (Cert.Reference5Ideal.Value.run (F := Ideal) m' ρ')
  obtain ⟨a0, a1⟩ := agree c
  exact ⟨((q c).1.trans (Cert.Reference5Ideal.Read.val_main_v12_eq _ _)).trans ((congr (congrArg (Cert.Reference5Ideal.Read.val_main_v12 (F := Ideal)) a0) a1).trans (FinalNorm.arr2 m c).symm), (q c).2⟩

/-! ## The projection out of the second pair of mixers -/

/-- The kernel's run at `Bits` is the run of the ideal pair's text there. -/
theorem run_eq6 : θ_run (Cert.Kernel6.defs (F := Bits)) (onTc (τ := Cert.Kernel6.τ) (Cert.Kernel6.main (F := Bits)))
    = θ_run (Cert.Kernel6Ideal.defs (F := Bits)) (onTc (τ := Cert.Kernel6Ideal.τ) (Cert.Kernel6Ideal.main (F := Bits))) := by sl_kernel_rfl

theorem frame_p6 : Cert.quiescent_Kernel6 := fun m ρ _ => by
  rw [run_eq6]
  exact Cert.Kernel6Ideal.Gen.frame (F := Bits) m ρ

theorem frame_pi6 : Cert.quiescent_Kernel6Ideal := fun m ρ _ => Cert.Kernel6Ideal.Gen.frame (F := Ideal) m ρ

theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic6 : Cert.algebraic_Kernel6Ideal_Reference6Ideal := fun m ρ m' ρ' _ agree => by
  refine ⟨fun c => (Cert.Kernel6Ideal.Gen.dats m 0 c).arrAt 6 Cert.Kernel6Ideal.cfg0.N, Cert.Kernel6Ideal.Value.run_blocks m ρ, ?_⟩
  refine (θ_run Cert.Reference6Ideal.defs _ _).mono (fun _ q c => ?_) (Cert.Reference6Ideal.Value.run (F := Ideal) m' ρ')
  obtain ⟨a0, a1, a2, a3, a4⟩ := agree c
  exact ⟨((q c).1.trans (Cert.Reference6Ideal.Read.val_main_v9_eq _ _ _ _ _)).trans ((congr (congr (congr (congr (congrArg (Cert.Reference6Ideal.Read.val_main_v9 (F := Ideal)) a0) a1) a2) a3) a4).trans (HeadsProj.arr6 m c).symm), (q c).2⟩

theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_slots_distinct.Gen.facts, Cert.Pre_blocks_used.Gen.facts, frame_p, frame_pi, frame_ri, frame_ri_pre, frame_r,
    frame_p2, frame_pi2, frame_ri2, frame_ri2_pre, frame_p3, frame_pi3, frame_ri3, frame_p4, frame_pi4, frame_ri4,
    frame_p5, frame_pi5, frame_ri5, frame_p6, frame_pi6, frame_ri6, trivial, bitexact, algebraic, trivial, algebraic2, trivial, algebraic3, trivial, algebraic4,
    trivial, algebraic5, trivial, algebraic6⟩

end Cert.Proof

end
